-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v6_0)) (v1 : (c : Dev Cert.GateUpIdeal.nD) → Buf (Elt Ideal) ((c.tc : Thread Cert.GateUpIdeal.nD Cert.GateUpIdeal.τ).loc Cert.GateUpIdeal.main_v6_1)) (v2 : (c : Dev Cert.GateUpIdeal.nD) → Buf (Elt Ideal) ((c.tc : Thread Cert.GateUpIdeal.nD Cert.GateUpIdeal.τ).loc Cert.GateUpIdeal.main_v6_2)) (v3 : (c : Dev Cert.GateUpIdeal.nD) → Buf (Elt Ideal) ((c.tc : Thread Cert.GateUpIdeal.nD Cert.GateUpIdeal.τ).loc Cert.GateUpIdeal.main_v6_3)) (v4 : (c : Dev Cert.GateUpIdeal.nD) → Buf (Elt Ideal) ((c.tc : Thread Cert.GateUpIdeal.nD Cert.GateUpIdeal.τ).loc Cert.GateUpIdeal.main_v6_4)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v6_0) = v0 c
          ∧ r.2.mem ((c.tc : Thread Cert.GateUpIdeal.nD Cert.GateUpIdeal.τ).loc Cert.GateUpIdeal.main_v6_1) = v1 c
          ∧ r.2.mem ((c.tc : Thread Cert.GateUpIdeal.nD Cert.GateUpIdeal.τ).loc Cert.GateUpIdeal.main_v6_2) = v2 c
          ∧ r.2.mem ((c.tc : Thread Cert.GateUpIdeal.nD Cert.GateUpIdeal.τ).loc Cert.GateUpIdeal.main_v6_3) = v3 c
          ∧ r.2.mem ((c.tc : Thread Cert.GateUpIdeal.nD Cert.GateUpIdeal.τ).loc Cert.GateUpIdeal.main_v6_4) = v4 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v1_0) = v0 c
          ∧ r.2.mem ((c.tc : Thread Cert.GateUpReferenceIdeal.nD Cert.GateUpReferenceIdeal.τ).loc Cert.GateUpReferenceIdeal.main_v1_1) = v1 c
          ∧ r.2.mem ((c.tc : Thread Cert.GateUpReferenceIdeal.nD Cert.GateUpReferenceIdeal.τ).loc Cert.GateUpReferenceIdeal.main_v1_2) = v2 c
          ∧ r.2.mem ((c.tc : Thread Cert.GateUpReferenceIdeal.nD Cert.GateUpReferenceIdeal.τ).loc Cert.GateUpReferenceIdeal.main_v1_3) = v3 c
          ∧ r.2.mem ((c.tc : Thread Cert.GateUpReferenceIdeal.nD Cert.GateUpReferenceIdeal.τ).loc Cert.GateUpReferenceIdeal.main_v1_4) = v4 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
-- ==== Kernel.lean ====
abbrev S256x2304 : Shape := ⟨2, ![256, 2304]⟩
abbrev S2304x7168 : Shape := ⟨2, ![2304, 7168]⟩
abbrev S18x56 : Shape := ⟨2, ![18, 56]⟩
abbrev S256x7168 : Shape := ⟨2, ![256, 7168]⟩
abbrev S4x2304x1024 : Shape := ⟨3, ![4, 2304, 1024]⟩
abbrev S2x256x1024 : Shape := ⟨3, ![2, 256, 1024]⟩
abbrev S4 : Shape := ⟨1, ![4]⟩
abbrev S2 : Shape := ⟨1, ![2]⟩
abbrev S1 : Shape := ⟨1, ![1]⟩
abbrev S_ : Shape := ⟨0, ![]⟩
abbrev S1x2304x1024 : Shape := ⟨3, ![1, 2304, 1024]⟩
abbrev S2304x1024 : Shape := ⟨2, ![2304, 1024]⟩
abbrev S256x1024 : Shape := ⟨2, ![256, 1024]⟩
abbrev S1x256x1024 : Shape := ⟨3, ![1, 256, 1024]⟩
abbrev S1x2304x256 : Shape := ⟨3, ![1, 2304, 256]⟩
abbrev S2304x256 : Shape := ⟨2, ![2304, 256]⟩
abbrev S1x1 : Shape := ⟨2, ![1, 1]⟩
abbrev S128x128 : Shape := ⟨2, ![128, 128]⟩
abbrev S128x256 : Shape := ⟨2, ![128, 256]⟩
abbrev S256x256 : Shape := ⟨2, ![256, 256]⟩
abbrev S1x256x256 : Shape := ⟨3, ![1, 256, 256]⟩

abbrev nBuf : Space → Nat
  | .hbm => 4
  | .vmem => 3
  | .smem => 1
  | _ => 0

abbrev bufTy : (tb : Table) → Fin (tcTables nBuf tb) → BufTy
  | .hbm, ⟨0, _⟩ => ⟨S256x2304, .bf16⟩
  | .hbm, ⟨1, _⟩ => ⟨S2304x7168, .fp8e4m3⟩
  | .hbm, ⟨2, _⟩ => ⟨S18x56, .f32⟩
  | .hbm, ⟨3, _⟩ => ⟨S256x7168, .bf16⟩
  | .local _ .vmem, ⟨0, _⟩ => ⟨S256x2304, .bf16⟩
  | .local _ .vmem, ⟨1, _⟩ => ⟨S4x2304x1024, .fp8e4m3⟩
  | .local _ .vmem, ⟨2, _⟩ => ⟨S2x256x1024, .bf16⟩
  | .local _ .smem, ⟨0, _⟩ => ⟨S18x56, .f32⟩
  | _, _ => ⟨S256x2304, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c7_i32 : BitVec 32 := 7#32
  let v20 : BitVec 32 := Scalar.addi c0_i32_17 c7_i32
  let c1_i32_18 : BitVec 32 := 1#32
  ⟨c0_i32_17, v20, c1_i32_18⟩
def k0_off1 (k0_t1 : Fin k0_t1_loop.trips) : Fin 1 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  ![v33.toNat]
def k0_off2 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let c0_i32_34 : BitVec 32 := 0#32
  let c0_i32_35 : BitVec 32 := 0#32
  ![v33.toNat, 0, 0]
def k0_off3 (k0_t1 : Fin k0_t1_loop.trips) : Fin 2 → Nat :=
  let c0_i32_36 : BitVec 32 := 0#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c1024_i32_33 : BitVec 32 := 1024#32
  let v35 : BitVec 32 := Scalar.muli v32 c1024_i32_33
  ![0, v35.toNat]
def k0_cond1 (k0_t1 : Fin k0_t1_loop.trips) : BitVec 1 :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_37 : BitVec 32 := 2#32
  let v41 : BitVec 1 := Scalar.cmpi .sge v32 c2_i32_37
  let v42 : BitVec 32 := Scalar.extui v41
  let c0_i32_38 : BitVec 32 := 0#32
  let v43 : BitVec 1 := Scalar.cmpi .ne v42 c0_i32_38
  v43

def k0_off4 (k0_t1 : Fin k0_t1_loop.trips) : Fin 1 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  ![v34.toNat]
def k0_off5 (k0_t1 : Fin k0_t1_loop.trips) : Fin 2 → Nat :=
  let c0_i32_348 : BitVec 32 := 0#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_346 : BitVec 32 := 2#32
  let v1330 : BitVec 32 := Scalar.subi v32 c2_i32_346
  let c1024_i32_347 : BitVec 32 := 1024#32
  let v1331 : BitVec 32 := Scalar.muli v1330 c1024_i32_347
  ![0, v1331.toNat]
def k0_off6 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let c0_i32_349 : BitVec 32 := 0#32
  let c0_i32_350 : BitVec 32 := 0#32
  ![v34.toNat, 0, 0]
def k0_off7 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let v44 : Index := Scalar.indexCast v33
  let c0 : Index := 0#32
  let c0_39 : Index := 0#32
  ![v44.toNat, 0, 0]
def k0_off8 (k0_t1 : Fin k0_t1_loop.trips) (c0_i32_42 : BitVec 32) (c0_i32_43 : BitVec 32) : Fin 2 → Nat :=
  let c0_44 : Index := 0#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v50 : BitVec 32 := Scalar.addi v49 c0_i32_43
  let v51 : Index := Scalar.indexCast v50
  ![0, v51.toNat]
def k0_off9 (k0_t1 : Fin k0_t1_loop.trips) (c0_i32_42 : BitVec 32) (c0_i32_47 : BitVec 32) : Fin 2 → Nat :=
  let c1 : Index := 1#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v67 : BitVec 32 := Scalar.addi v49 c0_i32_47
  let v68 : Index := Scalar.indexCast v67
  ![1, v68.toNat]
def k0_off10 (k0_t1 : Fin k0_t1_loop.trips) (c0_i32_42 : BitVec 32) (c0_i32_50 : BitVec 32) : Fin 2 → Nat :=
  let c2 : Index := 2#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v84 : BitVec 32 := Scalar.addi v49 c0_i32_50
  let v85 : Index := Scalar.indexCast v84
  ![2, v85.toNat]
def k0_off11 (k0_t1 : Fin k0_t1_loop.trips) (c0_i32_42 : BitVec 32) (c0_i32_53 : BitVec 32) : Fin 2 → Nat :=
  let c3 : Index := 3#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v101 : BitVec 32 := Scalar.addi v49 c0_i32_53
  let v102 : Index := Scalar.indexCast v101
  ![3, v102.toNat]
def k0_off12 (k0_t1 : Fin k0_t1_loop.trips) (c0_i32_42 : BitVec 32) (c0_i32_56 : BitVec 32) : Fin 2 → Nat :=
  let c4 : Index := 4#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v118 : BitVec 32 := Scalar.addi v49 c0_i32_56
  let v119 : Index := Scalar.indexCast v118
  ![4, v119.toNat]
def k0_off13 (k0_t1 : Fin k0_t1_loop.trips) (c0_i32_42 : BitVec 32) (c0_i32_59 : BitVec 32) : Fin 2 → Nat :=
  let c5 : Index := 5#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v135 : BitVec 32 := Scalar.addi v49 c0_i32_59
  let v136 : Index := Scalar.indexCast v135
  ![5, v136.toNat]
def k0_off14 (k0_t1 : Fin k0_t1_loop.trips) (c0_i32_42 : BitVec 32) (c0_i32_62 : BitVec 32) : Fin 2 → Nat :=
  let c6 : Index := 6#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v152 : BitVec 32 := Scalar.addi v49 c0_i32_62
  let v153 : Index := Scalar.indexCast v152
  ![6, v153.toNat]
def k0_off15 (k0_t1 : Fin k0_t1_loop.trips) (c0_i32_42 : BitVec 32) (c0_i32_65 : BitVec 32) : Fin 2 → Nat :=
  let c7 : Index := 7#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v169 : BitVec 32 := Scalar.addi v49 c0_i32_65
  let v170 : Index := Scalar.indexCast v169
  ![7, v170.toNat]
def k0_off16 (k0_t1 : Fin k0_t1_loop.trips) (c0_i32_42 : BitVec 32) (c0_i32_68 : BitVec 32) : Fin 2 → Nat :=
  let c8 : Index := 8#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v186 : BitVec 32 := Scalar.addi v49 c0_i32_68
  let v187 : Index := Scalar.indexCast v186
  ![8, v187.toNat]
def k0_off17 (k0_t1 : Fin k0_t1_loop.trips) (c0_i32_42 : BitVec 32) (c0_i32_71 : BitVec 32) : Fin 2 → Nat :=
  let c9 : Index := 9#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v203 : BitVec 32 := Scalar.addi v49 c0_i32_71
  let v204 : Index := Scalar.indexCast v203
  ![9, v204.toNat]
def k0_off18 (k0_t1 : Fin k0_t1_loop.trips) (c0_i32_42 : BitVec 32) (c0_i32_74 : BitVec 32) : Fin 2 → Nat :=
  let c10 : Index := 10#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v220 : BitVec 32 := Scalar.addi v49 c0_i32_74
  let v221 : Index := Scalar.indexCast v220
  ![10, v221.toNat]
def k0_off19 (k0_t1 : Fin k0_t1_loop.trips) (c0_i32_42 : BitVec 32) (c0_i32_77 : BitVec 32) : Fin 2 → Nat :=
  let c11 : Index := 11#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v237 : BitVec 32 := Scalar.addi v49 c0_i32_77
  let v238 : Index := Scalar.indexCast v237
  ![11, v238.toNat]
def k0_off20 (k0_t1 : Fin k0_t1_loop.trips) (c0_i32_42 : BitVec 32) (c0_i32_80 : BitVec 32) : Fin 2 → Nat :=
  let c12 : Index := 12#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v254 : BitVec 32 := Scalar.addi v49 c0_i32_80
  let v255 : Index := Scalar.indexCast v254
  ![12, v255.toNat]
def k0_off21 (k0_t1 : Fin k0_t1_loop.trips) (c0_i32_42 : BitVec 32) (c0_i32_83 : BitVec 32) : Fin 2 → Nat :=
  let c13 : Index := 13#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v271 : BitVec 32 := Scalar.addi v49 c0_i32_83
  let v272 : Index := Scalar.indexCast v271
  ![13, v272.toNat]
def k0_off22 (k0_t1 : Fin k0_t1_loop.trips) (c0_i32_42 : BitVec 32) (c0_i32_86 : BitVec 32) : Fin 2 → Nat :=
  let c14 : Index := 14#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v288 : BitVec 32 := Scalar.addi v49 c0_i32_86
  let v289 : Index := Scalar.indexCast v288
  ![14, v289.toNat]
def k0_off23 (k0_t1 : Fin k0_t1_loop.trips) (c0_i32_42 : BitVec 32) (c0_i32_89 : BitVec 32) : Fin 2 → Nat :=
  let c15 : Index := 15#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v305 : BitVec 32 := Scalar.addi v49 c0_i32_89
  let v306 : Index := Scalar.indexCast v305
  ![15, v306.toNat]
def k0_off24 (k0_t1 : Fin k0_t1_loop.trips) (c0_i32_42 : BitVec 32) (c0_i32_92 : BitVec 32) : Fin 2 → Nat :=
  let c16 : Index := 16#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v322 : BitVec 32 := Scalar.addi v49 c0_i32_92
  let v323 : Index := Scalar.indexCast v322
  ![16, v323.toNat]
def k0_off25 (k0_t1 : Fin k0_t1_loop.trips) (c0_i32_42 : BitVec 32) (c0_i32_95 : BitVec 32) : Fin 2 → Nat :=
  let c17 : Index := 17#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c8_i32 : BitVec 32 := 8#32
  let v48 : BitVec 32 := Scalar.muli v32 c8_i32
  let v49 : BitVec 32 := Scalar.addi v48 c0_i32_42
  let v339 : BitVec 32 := Scalar.addi v49 c0_i32_95
  let v340 : Index := Scalar.indexCast v339
  ![17, v340.toNat]
def k0_off26 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let v359 : Index := Scalar.indexCast v34
  let c0_98 : Index := 0#32
  let c0_99 : Index := 0#32
  ![v359.toNat, 0, 0]
def k0_off27 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let v363 : Index := Scalar.indexCast v33
  let c0_100 : Index := 0#32
  let c256 : Index := 256#32
  ![v363.toNat, 0, 256]
def k0_off28 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let v678 : Index := Scalar.indexCast v34
  let c0_178 : Index := 0#32
  let c256_179 : Index := 256#32
  ![v678.toNat, 0, 256]
def k0_off29 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let v682 : Index := Scalar.indexCast v33
  let c0_180 : Index := 0#32
  let c512 : Index := 512#32
  ![v682.toNat, 0, 512]
def k0_off30 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let v997 : Index := Scalar.indexCast v34
  let c0_258 : Index := 0#32
  let c512_259 : Index := 512#32
  ![v997.toNat, 0, 512]
def k0_off31 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let v1001 : Index := Scalar.indexCast v33
  let c0_260 : Index := 0#32
  let c768 : Index := 768#32
  ![v1001.toNat, 0, 768]
def k0_off32 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let v1316 : Index := Scalar.indexCast v34
  let c0_337 : Index := 0#32
  let c768_338 : Index := 768#32
  ![v1316.toNat, 0, 768]
def k0_off33 (k0_t1 : Fin k0_t1_loop.trips) : Fin 1 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  ![v34.toNat]
def k0_off34 (k0_t1 : Fin k0_t1_loop.trips) : Fin 2 → Nat :=
  let c0_i32_340 : BitVec 32 := 0#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c1024_i32_339 : BitVec 32 := 1024#32
  let v1320 : BitVec 32 := Scalar.muli v32 c1024_i32_339
  ![0, v1320.toNat]
def k0_off35 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c2_i32_32 : BitVec 32 := 2#32
  let v34 : BitVec 32 := Scalar.remsi v32 c2_i32_32
  let c0_i32_341 : BitVec 32 := 0#32
  let c0_i32_342 : BitVec 32 := 0#32
  ![v34.toNat, 0, 0]
def k0_cond2 (k0_t1 : Fin k0_t1_loop.trips) : BitVec 1 :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32_343 : BitVec 32 := 4#32
  let v1326 : BitVec 32 := Scalar.addi v32 c4_i32_343
  let c7_i32_344 : BitVec 32 := 7#32
  let v1327 : BitVec 1 := Scalar.cmpi .slt v1326 c7_i32_344
  let v1328 : BitVec 32 := Scalar.extui v1327
  let c0_i32_345 : BitVec 32 := 0#32
  let v1329 : BitVec 1 := Scalar.cmpi .ne v1328 c0_i32_345
  v1329

def k0_off36 (k0_t1 : Fin k0_t1_loop.trips) : Fin 1 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  ![v33.toNat]
def k0_off37 (k0_t1 : Fin k0_t1_loop.trips) : Fin 3 → Nat :=
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32 : BitVec 32 := 4#32
  let v33 : BitVec 32 := Scalar.remsi v32 c4_i32
  let c0_i32_348 : BitVec 32 := 0#32
  let c0_i32_349 : BitVec 32 := 0#32
  ![v33.toNat, 0, 0]
def k0_off38 (k0_t1 : Fin k0_t1_loop.trips) : Fin 2 → Nat :=
  let c0_i32_350 : BitVec 32 := 0#32
  let c0_i32_31 : BitVec 32 := 0#32
  let c0_i32_17 : BitVec 32 := 0#32
  let c1_i32_18 : BitVec 32 := 1#32
  let arg8 : BitVec 32 := Scf.iv c0_i32_17 c1_i32_18 k0_t1
  let c1_i32_30 : BitVec 32 := 1#32
  let v31 : BitVec 32 := Scalar.muli arg8 c1_i32_30
  let v32 : BitVec 32 := Scalar.addi c0_i32_31 v31
  let c4_i32_346 : BitVec 32 := 4#32
  let v1330 : BitVec 32 := Scalar.addi v32 c4_i32_346
  let c1024_i32_347 : BitVec 32 := 1024#32
  let v1331 : BitVec 32 := Scalar.muli v1330 c1024_i32_347
  ![0, v1331.toNat]
abbrev stage0_0 : Fin 1 → Memref sig .tc .vmem S256x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S18x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2304 : Shape := ⟨2, ![256, 2304]⟩
abbrev S2304x7168 : Shape := ⟨2, ![2304, 7168]⟩
abbrev S18x56 : Shape := ⟨2, ![18, 56]⟩
abbrev S256x7168 : Shape := ⟨2, ![256, 7168]⟩
abbrev S18x128x56x128 : Shape := ⟨4, ![18, 128, 56, 128]⟩
abbrev S18x1x56x1 : Shape := ⟨4, ![18, 1, 56, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x2304, .bf16⟩
  | .hbm, ⟨1, _⟩ => ⟨S2304x7168, .fp8e4m3⟩
  | .hbm, ⟨2, _⟩ => ⟨S18x56, .f32⟩
  | .hbm, ⟨3, _⟩ => ⟨S256x7168, .bf16⟩
  | .local _ .vmem, ⟨0, _⟩ => ⟨S256x2304, .bf16⟩
  | .local _ .vmem, ⟨1, _⟩ => ⟨S2304x7168, .fp8e4m3⟩
  | .local _ .vmem, ⟨2, _⟩ => ⟨S18x56, .f32⟩
  | .local _ .vmem, ⟨3, _⟩ => ⟨S256x7168, .bf16⟩
  | _, _ => ⟨S256x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GateUp.lean ====
abbrev S256x7168 : Shape := ⟨2, ![256, 7168]⟩
abbrev S256x1 : Shape := ⟨2, ![256, 1]⟩
abbrev S7168 : Shape := ⟨1, ![7168]⟩
abbrev S7168x2304 : Shape := ⟨2, ![7168, 2304]⟩
abbrev S56x18 : Shape := ⟨2, ![56, 18]⟩
abbrev S256x56x128 : Shape := ⟨3, ![256, 56, 128]⟩
abbrev S56x256x128 : Shape := ⟨3, ![56, 256, 128]⟩
abbrev S256x128 : Shape := ⟨2, ![256, 128]⟩
abbrev S56x128 : Shape := ⟨2, ![56, 128]⟩
abbrev S18x56 : Shape := ⟨2, ![18, 56]⟩
abbrev S2x56x128 : Shape := ⟨3, ![2, 56, 128]⟩
abbrev S256x2304 : Shape := ⟨2, ![256, 2304]⟩
abbrev S18x2x128 : Shape := ⟨3, ![18, 2, 128]⟩
abbrev S2x9x256x256 : Shape := ⟨4, ![2, 9, 256, 256]⟩
abbrev S2x2x1024x2304 : Shape := ⟨4, ![2, 2, 1024, 2304]⟩
abbrev S2x256x1024 : Shape := ⟨3, ![2, 256, 1024]⟩
abbrev S7x256x1024 : Shape := ⟨3, ![7, 256, 1024]⟩
abbrev S2 : Shape := ⟨1, ![2]⟩
abbrev S1 : Shape := ⟨1, ![1]⟩
abbrev S_ : Shape := ⟨0, ![]⟩
abbrev S1x1x1024x2304 : Shape := ⟨4, ![1, 1, 1024, 2304]⟩
abbrev S1024x2304 : Shape := ⟨2, ![1024, 2304]⟩
abbrev S1x256x128 : Shape := ⟨3, ![1, 256, 128]⟩
abbrev S1x128 : Shape := ⟨2, ![1, 128]⟩
abbrev S256 : Shape := ⟨1, ![256]⟩
abbrev S1x1x256x256 : Shape := ⟨4, ![1, 1, 256, 256]⟩
abbrev S256x256 : Shape := ⟨2, ![256, 256]⟩
abbrev S1x1x1024x256 : Shape := ⟨4, ![1, 1, 1024, 256]⟩
abbrev S1024x256 : Shape := ⟨2, ![1024, 256]⟩
abbrev S1x1 : Shape := ⟨2, ![1, 1]⟩
abbrev S128x128 : Shape := ⟨2, ![128, 128]⟩
abbrev S128x256 : Shape := ⟨2, ![128, 256]⟩
abbrev S1x256x1024 : Shape := ⟨3, ![1, 256, 1024]⟩
abbrev S256x1024 : Shape := ⟨2, ![256, 1024]⟩
abbrev S1x56x128 : Shape := ⟨3, ![1, 56, 128]⟩
abbrev S18x128 : Shape := ⟨2, ![18, 128]⟩
abbrev S18x1x128 : Shape := ⟨3, ![18, 1, 128]⟩

abbrev nBuf : Space → Nat
  | .hbm => 18
  | .vmem => 12
  | .smem => 2
  | _ => 0

abbrev bufTy : (tb : Table) → Fin (tcTables nBuf tb) → BufTy
  | .hbm, ⟨0, _⟩ => ⟨S256x7168, .f32⟩
  | .hbm, ⟨1, _⟩ => ⟨S256x1, .f32⟩
  | .hbm, ⟨2, _⟩ => ⟨S7168, .f32⟩
  | .hbm, ⟨3, _⟩ => ⟨S7168x2304, .fp8e4m3⟩
  | .hbm, ⟨4, _⟩ => ⟨S56x18, .f32⟩
  | .hbm, ⟨5, _⟩ => ⟨S7168x2304, .fp8e4m3⟩
  | .hbm, ⟨6, _⟩ => ⟨S56x18, .f32⟩
  | .hbm, ⟨7, _⟩ => ⟨S256x56x128, .f32⟩
  | .hbm, ⟨8, _⟩ => ⟨S56x256x128, .f32⟩
  | .hbm, ⟨9, _⟩ => ⟨S256x128, .f32⟩
  | .hbm, ⟨10, _⟩ => ⟨S56x128, .f32⟩
  | .hbm, ⟨11, _⟩ => ⟨S18x56, .f32⟩
  | .hbm, ⟨12, _⟩ => ⟨S18x56, .f32⟩
  | .hbm, ⟨13, _⟩ => ⟨S256x7168, .fp8e4m3⟩
  | .hbm, ⟨14, _⟩ => ⟨S2x56x128, .f32⟩
  | .hbm, ⟨15, _⟩ => ⟨S256x2304, .fp8e4m3⟩
  | .hbm, ⟨16, _⟩ => ⟨S18x2x128, .f32⟩
  | .hbm, ⟨17, _⟩ => ⟨S256x2304, .bf16⟩
  | .local _ .vmem, ⟨0, _⟩ => ⟨S56x256x128, .f32⟩
  | .local _ .vmem, ⟨1, _⟩ => ⟨S256x128, .f32⟩
  | .local _ .vmem, ⟨2, _⟩ => ⟨S56x128, .f32⟩
  | .local _ .vmem, ⟨3, _⟩ => ⟨S2x56x128, .f32⟩
  | .local _ .vmem, ⟨4, _⟩ => ⟨S18x2x128, .f32⟩
  | .local _ .vmem, ⟨5, _⟩ => ⟨S256x2304, .bf16⟩
  | .local _ .vmem, ⟨6, _⟩ => ⟨S2x9x256x256, .f32⟩
  | .local _ .vmem, ⟨7, _⟩ => ⟨S2x2x1024x2304, .fp8e4m3⟩
  | .local _ .vmem, ⟨8, _⟩ => ⟨S2x256x1024, .bf16⟩
  | .local _ .vmem, ⟨9, _⟩ => ⟨S7x256x1024, .fp8e4m3⟩
  | .local _ .vmem, ⟨10, _⟩ => ⟨S256x128, .f32⟩
  | .local _ .vmem, ⟨11, _⟩ => ⟨S256x2304, .fp8e4m3⟩
  | .local _ .smem, ⟨0, _⟩ => ⟨S18x56, .f32⟩
  | .local _ .smem, ⟨1, _⟩ => ⟨S18x56, .f32⟩
  | _, _ => ⟨S256x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_199 : BitVec 32 := 0#32
  let c6_i32_200 : BitVec 32 := 6#32
  let v433 : BitVec 32 := Scalar.addi c0_i32_199 c6_i32_200
  let c1_i32_201 : BitVec 32 := 1#32
  ⟨c0_i32_199, v433, c1_i32_201⟩
def k0_off1 (k0_t1 : Fin k0_t1_loop.trips) : Fin 1 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  ![v3322.toNat]
def k0_off2 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let c0_i32_1324 : BitVec 32 := 0#32
  let c0_i32_1325 : BitVec 32 := 0#32
  let c0_i32_1326 : BitVec 32 := 0#32
  ![v3322.toNat, 0, 0, 0]
def k0_off3 (k0_t1 : Fin k0_t1_loop.trips) : Fin 2 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1024_i32_1322 : BitVec 32 := 1024#32
  let v3323 : BitVec 32 := Scalar.muli v3321 c1024_i32_1322
  let c0_i32_1327 : BitVec 32 := 0#32
  ![v3323.toNat, 0]
def k0_off4 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let c1_i32_1328 : BitVec 32 := 1#32
  let c0_i32_1329 : BitVec 32 := 0#32
  let c0_i32_1330 : BitVec 32 := 0#32
  ![v3322.toNat, 1, 0, 0]
def k0_off5 (k0_t1 : Fin k0_t1_loop.trips) (c0_i32_1337 : BitVec 32) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let c8_i32_1336 : BitVec 32 := 8#32
  let v3339 : BitVec 32 := Scalar.muli v3335 c8_i32_1336
  let v3340 : BitVec 32 := Scalar.addi v3339 c0_i32_1337
  let v3341 : Index := Scalar.indexCast v3340
  let c0_1338 : Index := 0#32
  let c0_1339 : Index := 0#32
  ![v3341.toNat, 0, 0]
def k0_off6 (k0_t1 : Fin k0_t1_loop.trips) (c0_i32_1337 : BitVec 32) : Fin 2 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let c8_i32_1336 : BitVec 32 := 8#32
  let v3339 : BitVec 32 := Scalar.muli v3335 c8_i32_1336
  let v3340 : BitVec 32 := Scalar.addi v3339 c0_i32_1337
  let v3347 : Index := Scalar.indexCast v3340
  let c0_1342 : Index := 0#32
  ![v3347.toNat, 0]
def k0_off7 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3384 : Index := Scalar.indexCast v3335
  let c0_1352 : Index := 0#32
  let c0_1353 : Index := 0#32
  ![v3384.toNat, 0, 0]
def k0_off8 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3388 : Index := Scalar.indexCast v3336
  let c0_1354 : Index := 0#32
  let c0_1355 : Index := 0#32
  ![v3388.toNat, 0, 0]
def k0_off9 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3440 : Index := Scalar.indexCast v3335
  let c0_1372 : Index := 0#32
  let c128_1373 : Index := 128#32
  ![v3440.toNat, 0, 128]
def k0_off10 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3444 : Index := Scalar.indexCast v3336
  let c0_1374 : Index := 0#32
  let c128_1375 : Index := 128#32
  ![v3444.toNat, 0, 128]
def k0_off11 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3496 : Index := Scalar.indexCast v3335
  let c0_1392 : Index := 0#32
  let c256_1393 : Index := 256#32
  ![v3496.toNat, 0, 256]
def k0_off12 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3500 : Index := Scalar.indexCast v3336
  let c0_1394 : Index := 0#32
  let c256_1395 : Index := 256#32
  ![v3500.toNat, 0, 256]
def k0_off13 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3552 : Index := Scalar.indexCast v3335
  let c0_1412 : Index := 0#32
  let c384_1413 : Index := 384#32
  ![v3552.toNat, 0, 384]
def k0_off14 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3556 : Index := Scalar.indexCast v3336
  let c0_1414 : Index := 0#32
  let c384_1415 : Index := 384#32
  ![v3556.toNat, 0, 384]
def k0_off15 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3608 : Index := Scalar.indexCast v3335
  let c0_1432 : Index := 0#32
  let c512_1433 : Index := 512#32
  ![v3608.toNat, 0, 512]
def k0_off16 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3612 : Index := Scalar.indexCast v3336
  let c0_1434 : Index := 0#32
  let c512_1435 : Index := 512#32
  ![v3612.toNat, 0, 512]
def k0_off17 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3664 : Index := Scalar.indexCast v3335
  let c0_1452 : Index := 0#32
  let c640_1453 : Index := 640#32
  ![v3664.toNat, 0, 640]
def k0_off18 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3668 : Index := Scalar.indexCast v3336
  let c0_1454 : Index := 0#32
  let c640_1455 : Index := 640#32
  ![v3668.toNat, 0, 640]
def k0_off19 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3720 : Index := Scalar.indexCast v3335
  let c0_1472 : Index := 0#32
  let c768_1473 : Index := 768#32
  ![v3720.toNat, 0, 768]
def k0_off20 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3724 : Index := Scalar.indexCast v3336
  let c0_1474 : Index := 0#32
  let c768_1475 : Index := 768#32
  ![v3724.toNat, 0, 768]
def k0_off21 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c1_i32_1332 : BitVec 32 := 1#32
  let v3335 : BitVec 32 := Scalar.addi v3321 c1_i32_1332
  let v3776 : Index := Scalar.indexCast v3335
  let c0_1492 : Index := 0#32
  let c896_1493 : Index := 896#32
  ![v3776.toNat, 0, 896]
def k0_off22 (k0_t1 : Fin k0_t1_loop.trips) : Fin 3 → Nat :=
  let c1_i32_1333 : BitVec 32 := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3336 : BitVec 32 := Scalar.subi c1_i32_1333 v3322
  let v3780 : Index := Scalar.indexCast v3336
  let c0_1494 : Index := 0#32
  let c896_1495 : Index := 896#32
  ![v3780.toNat, 0, 896]
def k0_off23 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3792 : Index := Scalar.indexCast v3322
  let c0_1502 : Index := 0#32
  let c0_1503 : Index := 0#32
  let c0_1504 : Index := 0#32
  ![v3792.toNat, 0, 0, 0]
def k0_off24 (k0_t1 : Fin k0_t1_loop.trips) (c0_i32_1506 : BitVec 32) : Fin 2 → Nat :=
  let c0_1507 : Index := 0#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1505 : BitVec 32 := 8#32
  let v3795 : BitVec 32 := Scalar.muli v3321 c8_i32_1505
  let v3796 : BitVec 32 := Scalar.addi v3795 c0_i32_1506
  let v3797 : Index := Scalar.indexCast v3796
  ![0, v3797.toNat]
def k0_off25 (k0_t1 : Fin k0_t1_loop.trips) (c0_i32_1508 : BitVec 32) : Fin 2 → Nat :=
  let c1_1509 : Index := 1#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1505 : BitVec 32 := 8#32
  let v3795 : BitVec 32 := Scalar.muli v3321 c8_i32_1505
  let v3804 : BitVec 32 := Scalar.addi v3795 c0_i32_1508
  let v3805 : Index := Scalar.indexCast v3804
  ![1, v3805.toNat]
def k0_off26 (k0_t1 : Fin k0_t1_loop.trips) : Fin 3 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3933 : Index := Scalar.indexCast v3322
  let c0_1538 : Index := 0#32
  let c0_1539 : Index := 0#32
  ![v3933.toNat, 0, 0]
def k0_off27 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v3943 : Index := Scalar.indexCast v3322
  let c1_1549 : Index := 1#32
  let c0_1550 : Index := 0#32
  let c0_1551 : Index := 0#32
  ![v3943.toNat, 1, 0, 0]
def k0_off28 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4094 : Index := Scalar.indexCast v3322
  let c0_1596 : Index := 0#32
  let c0_1597 : Index := 0#32
  let c256_1598 : Index := 256#32
  ![v4094.toNat, 0, 0, 256]
def k0_off29 (k0_t1 : Fin k0_t1_loop.trips) (c0_i32_1600 : BitVec 32) : Fin 2 → Nat :=
  let c2_1601 : Index := 2#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1599 : BitVec 32 := 8#32
  let v4097 : BitVec 32 := Scalar.muli v3321 c8_i32_1599
  let v4098 : BitVec 32 := Scalar.addi v4097 c0_i32_1600
  let v4099 : Index := Scalar.indexCast v4098
  ![2, v4099.toNat]
def k0_off30 (k0_t1 : Fin k0_t1_loop.trips) (c0_i32_1602 : BitVec 32) : Fin 2 → Nat :=
  let c3_1603 : Index := 3#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1599 : BitVec 32 := 8#32
  let v4097 : BitVec 32 := Scalar.muli v3321 c8_i32_1599
  let v4106 : BitVec 32 := Scalar.addi v4097 c0_i32_1602
  let v4107 : Index := Scalar.indexCast v4106
  ![3, v4107.toNat]
def k0_off31 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4245 : Index := Scalar.indexCast v3322
  let c1_1643 : Index := 1#32
  let c0_1644 : Index := 0#32
  let c256_1645 : Index := 256#32
  ![v4245.toNat, 1, 0, 256]
def k0_off32 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4396 : Index := Scalar.indexCast v3322
  let c0_1690 : Index := 0#32
  let c0_1691 : Index := 0#32
  let c512_1692 : Index := 512#32
  ![v4396.toNat, 0, 0, 512]
def k0_off33 (k0_t1 : Fin k0_t1_loop.trips) (c0_i32_1694 : BitVec 32) : Fin 2 → Nat :=
  let c4_1695 : Index := 4#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1693 : BitVec 32 := 8#32
  let v4399 : BitVec 32 := Scalar.muli v3321 c8_i32_1693
  let v4400 : BitVec 32 := Scalar.addi v4399 c0_i32_1694
  let v4401 : Index := Scalar.indexCast v4400
  ![4, v4401.toNat]
def k0_off34 (k0_t1 : Fin k0_t1_loop.trips) (c0_i32_1696 : BitVec 32) : Fin 2 → Nat :=
  let c5_1697 : Index := 5#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1693 : BitVec 32 := 8#32
  let v4399 : BitVec 32 := Scalar.muli v3321 c8_i32_1693
  let v4408 : BitVec 32 := Scalar.addi v4399 c0_i32_1696
  let v4409 : Index := Scalar.indexCast v4408
  ![5, v4409.toNat]
def k0_off35 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4547 : Index := Scalar.indexCast v3322
  let c1_1737 : Index := 1#32
  let c0_1738 : Index := 0#32
  let c512_1739 : Index := 512#32
  ![v4547.toNat, 1, 0, 512]
def k0_off36 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4698 : Index := Scalar.indexCast v3322
  let c0_1784 : Index := 0#32
  let c0_1785 : Index := 0#32
  let c768_1786 : Index := 768#32
  ![v4698.toNat, 0, 0, 768]
def k0_off37 (k0_t1 : Fin k0_t1_loop.trips) (c0_i32_1788 : BitVec 32) : Fin 2 → Nat :=
  let c6_1789 : Index := 6#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1787 : BitVec 32 := 8#32
  let v4701 : BitVec 32 := Scalar.muli v3321 c8_i32_1787
  let v4702 : BitVec 32 := Scalar.addi v4701 c0_i32_1788
  let v4703 : Index := Scalar.indexCast v4702
  ![6, v4703.toNat]
def k0_off38 (k0_t1 : Fin k0_t1_loop.trips) (c0_i32_1790 : BitVec 32) : Fin 2 → Nat :=
  let c7_1791 : Index := 7#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1787 : BitVec 32 := 8#32
  let v4701 : BitVec 32 := Scalar.muli v3321 c8_i32_1787
  let v4710 : BitVec 32 := Scalar.addi v4701 c0_i32_1790
  let v4711 : Index := Scalar.indexCast v4710
  ![7, v4711.toNat]
def k0_off39 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v4849 : Index := Scalar.indexCast v3322
  let c1_1831 : Index := 1#32
  let c0_1832 : Index := 0#32
  let c768_1833 : Index := 768#32
  ![v4849.toNat, 1, 0, 768]
def k0_off40 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5000 : Index := Scalar.indexCast v3322
  let c0_1878 : Index := 0#32
  let c0_1879 : Index := 0#32
  let c1024_1880 : Index := 1024#32
  ![v5000.toNat, 0, 0, 1024]
def k0_off41 (k0_t1 : Fin k0_t1_loop.trips) (c0_i32_1882 : BitVec 32) : Fin 2 → Nat :=
  let c8_1883 : Index := 8#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1881 : BitVec 32 := 8#32
  let v5003 : BitVec 32 := Scalar.muli v3321 c8_i32_1881
  let v5004 : BitVec 32 := Scalar.addi v5003 c0_i32_1882
  let v5005 : Index := Scalar.indexCast v5004
  ![8, v5005.toNat]
def k0_off42 (k0_t1 : Fin k0_t1_loop.trips) (c0_i32_1884 : BitVec 32) : Fin 2 → Nat :=
  let c9_1885 : Index := 9#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1881 : BitVec 32 := 8#32
  let v5003 : BitVec 32 := Scalar.muli v3321 c8_i32_1881
  let v5012 : BitVec 32 := Scalar.addi v5003 c0_i32_1884
  let v5013 : Index := Scalar.indexCast v5012
  ![9, v5013.toNat]
def k0_off43 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5151 : Index := Scalar.indexCast v3322
  let c1_1925 : Index := 1#32
  let c0_1926 : Index := 0#32
  let c1024_1927 : Index := 1024#32
  ![v5151.toNat, 1, 0, 1024]
def k0_off44 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5302 : Index := Scalar.indexCast v3322
  let c0_1972 : Index := 0#32
  let c0_1973 : Index := 0#32
  let c1280_1974 : Index := 1280#32
  ![v5302.toNat, 0, 0, 1280]
def k0_off45 (k0_t1 : Fin k0_t1_loop.trips) (c0_i32_1976 : BitVec 32) : Fin 2 → Nat :=
  let c10_1977 : Index := 10#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1975 : BitVec 32 := 8#32
  let v5305 : BitVec 32 := Scalar.muli v3321 c8_i32_1975
  let v5306 : BitVec 32 := Scalar.addi v5305 c0_i32_1976
  let v5307 : Index := Scalar.indexCast v5306
  ![10, v5307.toNat]
def k0_off46 (k0_t1 : Fin k0_t1_loop.trips) (c0_i32_1978 : BitVec 32) : Fin 2 → Nat :=
  let c11_1979 : Index := 11#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_1975 : BitVec 32 := 8#32
  let v5305 : BitVec 32 := Scalar.muli v3321 c8_i32_1975
  let v5314 : BitVec 32 := Scalar.addi v5305 c0_i32_1978
  let v5315 : Index := Scalar.indexCast v5314
  ![11, v5315.toNat]
def k0_off47 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5453 : Index := Scalar.indexCast v3322
  let c1_2019 : Index := 1#32
  let c0_2020 : Index := 0#32
  let c1280_2021 : Index := 1280#32
  ![v5453.toNat, 1, 0, 1280]
def k0_off48 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5604 : Index := Scalar.indexCast v3322
  let c0_2066 : Index := 0#32
  let c0_2067 : Index := 0#32
  let c1536_2068 : Index := 1536#32
  ![v5604.toNat, 0, 0, 1536]
def k0_off49 (k0_t1 : Fin k0_t1_loop.trips) (c0_i32_2070 : BitVec 32) : Fin 2 → Nat :=
  let c12_2071 : Index := 12#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2069 : BitVec 32 := 8#32
  let v5607 : BitVec 32 := Scalar.muli v3321 c8_i32_2069
  let v5608 : BitVec 32 := Scalar.addi v5607 c0_i32_2070
  let v5609 : Index := Scalar.indexCast v5608
  ![12, v5609.toNat]
def k0_off50 (k0_t1 : Fin k0_t1_loop.trips) (c0_i32_2072 : BitVec 32) : Fin 2 → Nat :=
  let c13_2073 : Index := 13#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2069 : BitVec 32 := 8#32
  let v5607 : BitVec 32 := Scalar.muli v3321 c8_i32_2069
  let v5616 : BitVec 32 := Scalar.addi v5607 c0_i32_2072
  let v5617 : Index := Scalar.indexCast v5616
  ![13, v5617.toNat]
def k0_off51 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5755 : Index := Scalar.indexCast v3322
  let c1_2113 : Index := 1#32
  let c0_2114 : Index := 0#32
  let c1536_2115 : Index := 1536#32
  ![v5755.toNat, 1, 0, 1536]
def k0_off52 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v5906 : Index := Scalar.indexCast v3322
  let c0_2160 : Index := 0#32
  let c0_2161 : Index := 0#32
  let c1792_2162 : Index := 1792#32
  ![v5906.toNat, 0, 0, 1792]
def k0_off53 (k0_t1 : Fin k0_t1_loop.trips) (c0_i32_2164 : BitVec 32) : Fin 2 → Nat :=
  let c14_2165 : Index := 14#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2163 : BitVec 32 := 8#32
  let v5909 : BitVec 32 := Scalar.muli v3321 c8_i32_2163
  let v5910 : BitVec 32 := Scalar.addi v5909 c0_i32_2164
  let v5911 : Index := Scalar.indexCast v5910
  ![14, v5911.toNat]
def k0_off54 (k0_t1 : Fin k0_t1_loop.trips) (c0_i32_2166 : BitVec 32) : Fin 2 → Nat :=
  let c15_2167 : Index := 15#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2163 : BitVec 32 := 8#32
  let v5909 : BitVec 32 := Scalar.muli v3321 c8_i32_2163
  let v5918 : BitVec 32 := Scalar.addi v5909 c0_i32_2166
  let v5919 : Index := Scalar.indexCast v5918
  ![15, v5919.toNat]
def k0_off55 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v6057 : Index := Scalar.indexCast v3322
  let c1_2207 : Index := 1#32
  let c0_2208 : Index := 0#32
  let c1792_2209 : Index := 1792#32
  ![v6057.toNat, 1, 0, 1792]
def k0_off56 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v6208 : Index := Scalar.indexCast v3322
  let c0_2254 : Index := 0#32
  let c0_2255 : Index := 0#32
  let c2048_2256 : Index := 2048#32
  ![v6208.toNat, 0, 0, 2048]
def k0_off57 (k0_t1 : Fin k0_t1_loop.trips) (c0_i32_2258 : BitVec 32) : Fin 2 → Nat :=
  let c16_2259 : Index := 16#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2257 : BitVec 32 := 8#32
  let v6211 : BitVec 32 := Scalar.muli v3321 c8_i32_2257
  let v6212 : BitVec 32 := Scalar.addi v6211 c0_i32_2258
  let v6213 : Index := Scalar.indexCast v6212
  ![16, v6213.toNat]
def k0_off58 (k0_t1 : Fin k0_t1_loop.trips) (c0_i32_2260 : BitVec 32) : Fin 2 → Nat :=
  let c17_2261 : Index := 17#32
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c8_i32_2257 : BitVec 32 := 8#32
  let v6211 : BitVec 32 := Scalar.muli v3321 c8_i32_2257
  let v6220 : BitVec 32 := Scalar.addi v6211 c0_i32_2260
  let v6221 : Index := Scalar.indexCast v6220
  ![17, v6221.toNat]
def k0_off59 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let v6359 : Index := Scalar.indexCast v3322
  let c1_2301 : Index := 1#32
  let c0_2302 : Index := 0#32
  let c2048_2303 : Index := 2048#32
  ![v6359.toNat, 1, 0, 2048]
def k0_cond1 (k0_t1 : Fin k0_t1_loop.trips) : BitVec 1 :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_2344 : BitVec 32 := 2#32
  let v6508 : BitVec 32 := Scalar.addi v3321 c2_i32_2344
  let c7_i32_2345 : BitVec 32 := 7#32
  let v6509 : BitVec 1 := Scalar.cmpi .slt v6508 c7_i32_2345
  let v6510 : BitVec 32 := Scalar.extui v6509
  let c0_i32_2346 : BitVec 32 := 0#32
  let v6511 : BitVec 1 := Scalar.cmpi .ne v6510 c0_i32_2346
  v6511

def k0_off60 (k0_t1 : Fin k0_t1_loop.trips) : Fin 1 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  ![v3322.toNat]
def k0_off61 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let c0_i32_2350 : BitVec 32 := 0#32
  let c0_i32_2351 : BitVec 32 := 0#32
  let c0_i32_2352 : BitVec 32 := 0#32
  ![v3322.toNat, 0, 0, 0]
def k0_off62 (k0_t1 : Fin k0_t1_loop.trips) : Fin 2 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_2347 : BitVec 32 := 2#32
  let v6512 : BitVec 32 := Scalar.addi v3321 c2_i32_2347
  let c1024_i32_2348 : BitVec 32 := 1024#32
  let v6513 : BitVec 32 := Scalar.muli v6512 c1024_i32_2348
  let c0_i32_2353 : BitVec 32 := 0#32
  ![v6513.toNat, 0]
def k0_off63 (k0_t1 : Fin k0_t1_loop.trips) : Fin 4 → Nat :=
  let c0_i32_1320 : BitVec 32 := 0#32
  let c0_i32_199 : BitVec 32 := 0#32
  let c1_i32_201 : BitVec 32 := 1#32
  let arg20 : BitVec 32 := Scf.iv c0_i32_199 c1_i32_201 k0_t1
  let c1_i32_1319 : BitVec 32 := 1#32
  let v3320 : BitVec 32 := Scalar.muli arg20 c1_i32_1319
  let v3321 : BitVec 32 := Scalar.addi c0_i32_1320 v3320
  let c2_i32_1321 : BitVec 32 := 2#32
  let v3322 : BitVec 32 := Scalar.remsi v3321 c2_i32_1321
  let c1_i32_2354 : BitVec 32 := 1#32
  let c0_i32_2355 : BitVec 32 := 0#32
  let c0_i32_2356 : BitVec 32 := 0#32
  ![v3322.toNat, 1, 0, 0]
abbrev stage0_0 : Fin 1 → Memref sig .tc .vmem S56x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S18x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S18x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GateUpReferenceIdeal.lean ====
abbrev S256x7168 : Shape := ⟨2, ![256, 7168]⟩
abbrev S256x1 : Shape := ⟨2, ![256, 1]⟩
abbrev S7168 : Shape := ⟨1, ![7168]⟩
abbrev S7168x2304 : Shape := ⟨2, ![7168, 2304]⟩
abbrev S56x18 : Shape := ⟨2, ![56, 18]⟩
abbrev S1x7168 : Shape := ⟨2, ![1, 7168]⟩
abbrev S2x56x128 : Shape := ⟨3, ![2, 56, 128]⟩
abbrev S256x2304 : Shape := ⟨2, ![256, 2304]⟩
abbrev S18x2x128 : Shape := ⟨3, ![18, 2, 128]⟩
abbrev S2x128x56x128 : Shape := ⟨4, ![2, 128, 56, 128]⟩
abbrev S2x128x56 : Shape := ⟨3, ![2, 128, 56]⟩
abbrev S2x128x56x1 : Shape := ⟨4, ![2, 128, 56, 1]⟩
abbrev S56x128x18x128 : Shape := ⟨4, ![56, 128, 18, 128]⟩
abbrev S56x1x18x1 : Shape := ⟨4, ![56, 1, 18, 1]⟩
abbrev S2x128x18x128 : Shape := ⟨4, ![2, 128, 18, 128]⟩
abbrev S2x128x18 : Shape := ⟨3, ![2, 128, 18]⟩
abbrev S2x128x18x1 : Shape := ⟨4, ![2, 128, 18, 1]⟩

abbrev nBuf : Space → Nat
  | .hbm => 13
  | .vmem => 12
  | .smem => 0
  | _ => 0

abbrev bufTy : (tb : Table) → Fin (tcTables nBuf tb) → BufTy
  | .hbm, ⟨0, _⟩ => ⟨S256x7168, .f32⟩
  | .hbm, ⟨1, _⟩ => ⟨S256x1, .f32⟩
  | .hbm, ⟨2, _⟩ => ⟨S7168, .f32⟩
  | .hbm, ⟨3, _⟩ => ⟨S7168x2304, .fp8e4m3⟩
  | .hbm, ⟨4, _⟩ => ⟨S56x18, .f32⟩
  | .hbm, ⟨5, _⟩ => ⟨S7168x2304, .fp8e4m3⟩
  | .hbm, ⟨6, _⟩ => ⟨S56x18, .f32⟩
  | .hbm, ⟨7, _⟩ => ⟨S1x7168, .f32⟩
  | .hbm, ⟨8, _⟩ => ⟨S256x7168, .fp8e4m3⟩
  | .hbm, ⟨9, _⟩ => ⟨S2x56x128, .f32⟩
  | .hbm, ⟨10, _⟩ => ⟨S256x2304, .fp8e4m3⟩
  | .hbm, ⟨11, _⟩ => ⟨S18x2x128, .f32⟩
  | .hbm, ⟨12, _⟩ => ⟨S256x2304, .bf16⟩
  | .local _ .vmem, ⟨0, _⟩ => ⟨S256x7168, .f32⟩
  | .local _ .vmem, ⟨1, _⟩ => ⟨S256x1, .f32⟩
  | .local _ .vmem, ⟨2, _⟩ => ⟨S1x7168, .f32⟩
  | .local _ .vmem, ⟨3, _⟩ => ⟨S7168x2304, .fp8e4m3⟩
  | .local _ .vmem, ⟨4, _⟩ => ⟨S56x18, .f32⟩
  | .local _ .vmem, ⟨5, _⟩ => ⟨S7168x2304, .fp8e4m3⟩
  | .local _ .vmem, ⟨6, _⟩ => ⟨S56x18, .f32⟩
  | .local _ .vmem, ⟨7, _⟩ => ⟨S256x7168, .fp8e4m3⟩
  | .local _ .vmem, ⟨8, _⟩ => ⟨S2x56x128, .f32⟩
  | .local _ .vmem, ⟨9, _⟩ => ⟨S256x2304, .fp8e4m3⟩
  | .local _ .vmem, ⟨10, _⟩ => ⟨S18x2x128, .f32⟩
  | .local _ .vmem, ⟨11, _⟩ => ⟨S256x2304, .bf16⟩
  | _, _ => ⟨S256x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2304 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x56x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2304 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Trip.lean ====
/-
  One trip of the down projection's loop: names, pieces, and the run of a trip. (Same text for both printed programs.)
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Ring.Trips
public import Idealize.ShloMosaic.Lib.Tactic

@[expose] public section

noncomputable section

namespace Cert.Proof.Down

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the body's own copies ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Canonical names: column block `b` of the weight and of the result, the two rings' slots and cells -/

abbrev wM : Memref sig .tc .hbm S2304x7168 .fp8e4m3 := Memref.whole main_arg1
abbrev oM : Memref sig .tc .hbm S256x7168 .bf16 := Memref.whole main_v0
abbrev wdM : Memref sig .tc .vmem S4x2304x1024 .fp8e4m3 := Memref.whole cc0_scratch0
abbrev mbM : Memref sig .tc .vmem S2x256x1024 .bf16 := Memref.whole cc0_scratch1

abbrev colOff (b : Fin 7) : Fin 2 → Nat := ![0, 1024 * b.val]
theorem wcol_inb (b : Fin 7) : ∀ a, colOff b a + S2304x1024.size a ≤ S2304x7168.size a := by
  have := b.isLt; intro a; fin_cases a
  · show 0 + 2304 ≤ 2304; omega
  · show 1024 * b.val + 1024 ≤ 7168; omega
theorem ocol_inb (b : Fin 7) : ∀ a, colOff b a + S256x1024.size a ≤ S256x7168.size a := by
  have := b.isLt; intro a; fin_cases a
  · show 0 + 256 ≤ 256; omega
  · show 1024 * b.val + 1024 ≤ 7168; omega
abbrev slotOff {n : ℕ} (s : Fin n) : Fin 3 → Nat := ![s.val, 0, 0]
theorem wslot_inb (s : Fin 4) : ∀ a, slotOff s a + S1x2304x1024.size a ≤ S4x2304x1024.size a := by
  have := s.isLt; intro a; fin_cases a
  · show s.val + 1 ≤ 4; omega
  · show 0 + 2304 ≤ 2304; omega
  · show 0 + 1024 ≤ 1024; omega
theorem mslot_inb (s : Fin 2) : ∀ a, slotOff s a + S1x256x1024.size a ≤ S2x256x1024.size a := by
  have := s.isLt; intro a; fin_cases a
  · show s.val + 1 ≤ 2; omega
  · show 0 + 256 ≤ 256; omega
  · show 0 + 1024 ≤ 1024; omega
abbrev semOff {n : ℕ} (s : Fin n) : Fin 1 → Nat := ![s.val]
theorem wsem_inb (s : Fin 4) : ∀ a, semOff s a + S1.size a ≤ S4.size a := by
  have := s.isLt; intro a; fin_cases a; show s.val + 1 ≤ 4; omega
theorem msem_inb (s : Fin 2) : ∀ a, semOff s a + S1.size a ≤ S2.size a := by
  have := s.isLt; intro a; fin_cases a; show s.val + 1 ≤ 2; omega

/-- Column block `b` of the weight. -/
def wblk (b : Fin 7) : Memref sig .tc .hbm S2304x1024 .fp8e4m3 :=
  wM.slice (Rect.unit (s := S2304x7168) (colOff b) S2304x1024.size (wcol_inb b)) (fun _ => rfl)
/-- Column block `b` of the result. -/
def oblk (b : Fin 7) : Memref sig .tc .hbm S256x1024 .bf16 :=
  oM.slice (Rect.unit (s := S256x7168) (colOff b) S256x1024.size (ocol_inb b)) (fun _ => rfl)
/-- Slot `s` of the weight buffer. -/
def wslot (s : Fin 4) : Memref sig .tc .vmem S2304x1024 .fp8e4m3 :=
  (wdM.slice (Rect.unit (s := S4x2304x1024) (slotOff s) S1x2304x1024.size (wslot_inb s)) (fun _ => rfl)).squeeze S2304x1024 squeezes_S1x2304x1024_S2304x1024
/-- Slot `s` of the result buffer. -/
def mslot (s : Fin 2) : Memref sig .tc .vmem S256x1024 .bf16 :=
  (mbM.slice (Rect.unit (s := S2x256x1024) (slotOff s) S1x256x1024.size (mslot_inb s)) (fun _ => rfl)).squeeze S256x1024 squeezes_S1x256x1024_S256x1024
/-- The weight slots' DMA semaphores and the result slots'. -/
def wsm (s : Fin 4) : DmaSems sig S_ := (cc0_scratch2.slice (Rect.unit (s := S4) (semOff s) S1.size (wsem_inb s))).squeeze S_ squeezes_S1_S_
def msm (s : Fin 2) : DmaSems sig S_ := (cc0_scratch3.slice (Rect.unit (s := S2) (semOff s) S1.size (msem_inb s))).squeeze S_ squeezes_S1_S_

instance {n : ℕ} (s : Fin n) : ClosedOff (slotOff s) := ⟨slotOff s, rfl⟩
instance (b : Fin 7) : ClosedOff (colOff b) := ⟨colOff b, rfl⟩

/-! ### The loop's windows under those names -/

theorem off1_eq : ∀ k : Fin k0_t1_loop.trips, k0_off1 k = semOff (Ring.sl 4 k.val) := by decide +kernel
theorem off2_eq : ∀ k : Fin k0_t1_loop.trips, k0_off2 k = slotOff (Ring.sl 4 k.val) := by decide +kernel
theorem off3_eq : ∀ k : Fin k0_t1_loop.trips, k0_off3 k = colOff (Ring.bk 7 k.val) := by decide +kernel
theorem off4_eq : ∀ k : Fin k0_t1_loop.trips, k0_off4 k = semOff (Ring.sl 2 k.val) := by decide +kernel
theorem off5_eq : ∀ k : Fin k0_t1_loop.trips, 2 ≤ k.val → k0_off5 k = colOff (Ring.bk 7 (k.val - 2)) := by decide +kernel
theorem off6_eq : ∀ k : Fin k0_t1_loop.trips, k0_off6 k = slotOff (Ring.sl 2 k.val) := by decide +kernel
theorem off33_eq : ∀ k : Fin k0_t1_loop.trips, k0_off33 k = semOff (Ring.sl 2 k.val) := by decide +kernel
theorem off34_eq : ∀ k : Fin k0_t1_loop.trips, k0_off34 k = colOff (Ring.bk 7 k.val) := by decide +kernel
theorem off35_eq : ∀ k : Fin k0_t1_loop.trips, k0_off35 k = slotOff (Ring.sl 2 k.val) := by decide +kernel
theorem off36_eq : ∀ k : Fin k0_t1_loop.trips, k0_off36 k = semOff (Ring.sl 4 k.val) := by decide +kernel
theorem off37_eq : ∀ k : Fin k0_t1_loop.trips, k0_off37 k = slotOff (Ring.sl 4 k.val) := by decide +kernel
theorem off38_eq : ∀ k : Fin k0_t1_loop.trips, k.val + 4 < 7 → k0_off38 k = colOff (Ring.bk 7 (k.val + 4)) := by decide +kernel
theorem cond1_of_le : ∀ k : Fin k0_t1_loop.trips, 2 ≤ k.val → k0_cond1 k = 1#1 := by decide +kernel
theorem cond1_of_lt : ∀ k : Fin k0_t1_loop.trips, k.val < 2 → ¬ k0_cond1 k = 1#1 := by decide +kernel
theorem cond2_of_lt : ∀ k : Fin k0_t1_loop.trips, k.val + 4 < 7 → k0_cond2 k = 1#1 := by decide +kernel
theorem cond2_of_le : ∀ k : Fin k0_t1_loop.trips, 7 ≤ k.val + 4 → ¬ k0_cond2 k = 1#1 := by decide +kernel

theorem off7_eq : ∀ k : Fin k0_t1_loop.trips, k0_off7 k = ![(Ring.sl 4 k.val).val, 0, 0] := by decide +kernel
instance closed7 (k : Fin k0_t1_loop.trips) : ClosedOff (k0_off7 k) := ⟨![(Ring.sl 4 k.val).val, 0, 0], off7_eq k⟩
theorem off27_eq : ∀ k : Fin k0_t1_loop.trips, k0_off27 k = ![(Ring.sl 4 k.val).val, 0, 256] := by decide +kernel
instance closed27 (k : Fin k0_t1_loop.trips) : ClosedOff (k0_off27 k) := ⟨![(Ring.sl 4 k.val).val, 0, 256], off27_eq k⟩
theorem off29_eq : ∀ k : Fin k0_t1_loop.trips, k0_off29 k = ![(Ring.sl 4 k.val).val, 0, 512] := by decide +kernel
instance closed29 (k : Fin k0_t1_loop.trips) : ClosedOff (k0_off29 k) := ⟨![(Ring.sl 4 k.val).val, 0, 512], off29_eq k⟩
theorem off31_eq : ∀ k : Fin k0_t1_loop.trips, k0_off31 k = ![(Ring.sl 4 k.val).val, 0, 768] := by decide +kernel
instance closed31 (k : Fin k0_t1_loop.trips) : ClosedOff (k0_off31 k) := ⟨![(Ring.sl 4 k.val).val, 0, 768], off31_eq k⟩
theorem off26_eq : ∀ k : Fin k0_t1_loop.trips, k0_off26 k = ![(Ring.sl 2 k.val).val, 0, 0] := by decide +kernel
instance closed26 (k : Fin k0_t1_loop.trips) : ClosedOff (k0_off26 k) := ⟨![(Ring.sl 2 k.val).val, 0, 0], off26_eq k⟩
theorem off28_eq : ∀ k : Fin k0_t1_loop.trips, k0_off28 k = ![(Ring.sl 2 k.val).val, 0, 256] := by decide +kernel
instance closed28 (k : Fin k0_t1_loop.trips) : ClosedOff (k0_off28 k) := ⟨![(Ring.sl 2 k.val).val, 0, 256], off28_eq k⟩
theorem off30_eq : ∀ k : Fin k0_t1_loop.trips, k0_off30 k = ![(Ring.sl 2 k.val).val, 0, 512] := by decide +kernel
instance closed30 (k : Fin k0_t1_loop.trips) : ClosedOff (k0_off30 k) := ⟨![(Ring.sl 2 k.val).val, 0, 512], off30_eq k⟩
theorem off32_eq : ∀ k : Fin k0_t1_loop.trips, k0_off32 k = ![(Ring.sl 2 k.val).val, 0, 768] := by decide +kernel
instance closed32 (k : Fin k0_t1_loop.trips) : ClosedOff (k0_off32 k) := ⟨![(Ring.sl 2 k.val).val, 0, 768], off32_eq k⟩

private theorem wsm_congr {off : Fin 1 → Nat} {s : Fin 4} (e : off = semOff s) (hh) :
    (cc0_scratch2.slice (Rect.unit (s := S4) off S1.size hh)).squeeze S_ squeezes_S1_S_ = wsm s :=
  congrArg (fun A : DmaSems sig S1 => A.squeeze S_ squeezes_S1_S_) (SemArray.slice_unit_congr _ e _ _)
private theorem msm_congr {off : Fin 1 → Nat} {s : Fin 2} (e : off = semOff s) (hh) :
    (cc0_scratch3.slice (Rect.unit (s := S2) off S1.size hh)).squeeze S_ squeezes_S1_S_ = msm s :=
  congrArg (fun A : DmaSems sig S1 => A.squeeze S_ squeezes_S1_S_) (SemArray.slice_unit_congr _ e _ _)
private theorem wslot_congr {off : Fin 3 → Nat} {s : Fin 4} (e : off = slotOff s) (hh hs) :
    (wdM.slice (Rect.unit (s := S4x2304x1024) off S1x2304x1024.size hh) hs).squeeze S2304x1024 squeezes_S1x2304x1024_S2304x1024 = wslot s :=
  congrArg (fun M : Memref sig .tc .vmem S1x2304x1024 .fp8e4m3 => M.squeeze S2304x1024 squeezes_S1x2304x1024_S2304x1024) (Memref.slice_unit_congr _ e _ _ _ _)
private theorem mslot_congr {off : Fin 3 → Nat} {s : Fin 2} (e : off = slotOff s) (hh hs) :
    (mbM.slice (Rect.unit (s := S2x256x1024) off S1x256x1024.size hh) hs).squeeze S256x1024 squeezes_S1x256x1024_S256x1024 = mslot s :=
  congrArg (fun M : Memref sig .tc .vmem S1x256x1024 .bf16 => M.squeeze S256x1024 squeezes_S1x256x1024_S256x1024) (Memref.slice_unit_congr _ e _ _ _ _)
private theorem wblk_congr {off : Fin 2 → Nat} {b : Fin 7} (e : off = colOff b) (hh hs) :
    wM.slice (Rect.unit (s := S2304x7168) off S2304x1024.size hh) hs = wblk b := Memref.slice_unit_congr _ e _ _ _ (fun _ => rfl)
private theorem oblk_congr {off : Fin 2 → Nat} {b : Fin 7} (e : off = colOff b) (hh hs) :
    oM.slice (Rect.unit (s := S256x7168) off S256x1024.size hh) hs = oblk b := Memref.slice_unit_congr _ e _ _ _ (fun _ => rfl)

section Canon
@[sl_canon] theorem wsL0 (hh) : (cc0_scratch2.slice (Rect.unit (s := S4) ![0] S1.size hh)).squeeze S_ squeezes_S1_S_ = wsm 0 := wsm_congr (by decide) _
@[sl_canon] theorem wsL1 (hh) : (cc0_scratch2.slice (Rect.unit (s := S4) ![1] S1.size hh)).squeeze S_ squeezes_S1_S_ = wsm 1 := wsm_congr (by decide) _
@[sl_canon] theorem wsL2 (hh) : (cc0_scratch2.slice (Rect.unit (s := S4) ![2] S1.size hh)).squeeze S_ squeezes_S1_S_ = wsm 2 := wsm_congr (by decide) _
@[sl_canon] theorem wsL3 (hh) : (cc0_scratch2.slice (Rect.unit (s := S4) ![3] S1.size hh)).squeeze S_ squeezes_S1_S_ = wsm 3 := wsm_congr (by decide) _
@[sl_canon] theorem msL0 (hh) : (cc0_scratch3.slice (Rect.unit (s := S2) ![0] S1.size hh)).squeeze S_ squeezes_S1_S_ = msm 0 := msm_congr (by decide) _
@[sl_canon] theorem msL1 (hh) : (cc0_scratch3.slice (Rect.unit (s := S2) ![1] S1.size hh)).squeeze S_ squeezes_S1_S_ = msm 1 := msm_congr (by decide) _
@[sl_canon] theorem wlL0 (hh hs) : (wdM.slice (Rect.unit (s := S4x2304x1024) ![0, 0, 0] S1x2304x1024.size hh) hs).squeeze S2304x1024 squeezes_S1x2304x1024_S2304x1024 = wslot 0 := wslot_congr (by decide) _ _
@[sl_canon] theorem wlL1 (hh hs) : (wdM.slice (Rect.unit (s := S4x2304x1024) ![1, 0, 0] S1x2304x1024.size hh) hs).squeeze S2304x1024 squeezes_S1x2304x1024_S2304x1024 = wslot 1 := wslot_congr (by decide) _ _
@[sl_canon] theorem wlL2 (hh hs) : (wdM.slice (Rect.unit (s := S4x2304x1024) ![2, 0, 0] S1x2304x1024.size hh) hs).squeeze S2304x1024 squeezes_S1x2304x1024_S2304x1024 = wslot 2 := wslot_congr (by decide) _ _
@[sl_canon] theorem wlL3 (hh hs) : (wdM.slice (Rect.unit (s := S4x2304x1024) ![3, 0, 0] S1x2304x1024.size hh) hs).squeeze S2304x1024 squeezes_S1x2304x1024_S2304x1024 = wslot 3 := wslot_congr (by decide) _ _
@[sl_canon] theorem mlL0 (hh hs) : (mbM.slice (Rect.unit (s := S2x256x1024) ![0, 0, 0] S1x256x1024.size hh) hs).squeeze S256x1024 squeezes_S1x256x1024_S256x1024 = mslot 0 := mslot_congr (by decide) _ _
@[sl_canon] theorem mlL1 (hh hs) : (mbM.slice (Rect.unit (s := S2x256x1024) ![1, 0, 0] S1x256x1024.size hh) hs).squeeze S256x1024 squeezes_S1x256x1024_S256x1024 = mslot 1 := mslot_congr (by decide) _ _
@[sl_canon] theorem wbL0 (hh hs) : wM.slice (Rect.unit (s := S2304x7168) ![0, 0] S2304x1024.size hh) hs = wblk 0 := wblk_congr (by decide) _ _
@[sl_canon] theorem wbL1 (hh hs) : wM.slice (Rect.unit (s := S2304x7168) ![0, 1024] S2304x1024.size hh) hs = wblk 1 := wblk_congr (by decide) _ _
@[sl_canon] theorem wbL2 (hh hs) : wM.slice (Rect.unit (s := S2304x7168) ![0, 2048] S2304x1024.size hh) hs = wblk 2 := wblk_congr (by decide) _ _
@[sl_canon] theorem wbL3 (hh hs) : wM.slice (Rect.unit (s := S2304x7168) ![0, 3072] S2304x1024.size hh) hs = wblk 3 := wblk_congr (by decide) _ _
@[sl_canon] theorem obL5 (hh hs) : oM.slice (Rect.unit (s := S256x7168) ![0, 5120] S256x1024.size hh) hs = oblk 5 := oblk_congr (by decide) _ _
@[sl_canon] theorem obL6 (hh hs) : oM.slice (Rect.unit (s := S256x7168) ![0, 6144] S256x1024.size hh) hs = oblk 6 := oblk_congr (by decide) _ _

variable (k : Fin k0_t1_loop.trips)
@[sl_canon] theorem wsK (hh) : (cc0_scratch2.slice (Rect.unit (s := S4) (k0_off1 k) S1.size hh)).squeeze S_ squeezes_S1_S_ = wsm (Ring.sl 4 k.val) := wsm_congr (off1_eq k) _
@[sl_canon] theorem wlK (hh hs) : (wdM.slice (Rect.unit (s := S4x2304x1024) (k0_off2 k) S1x2304x1024.size hh) hs).squeeze S2304x1024 squeezes_S1x2304x1024_S2304x1024 = wslot (Ring.sl 4 k.val) := wslot_congr (off2_eq k) _ _
@[sl_canon] theorem wbK (hh hs) : wM.slice (Rect.unit (s := S2304x7168) (k0_off3 k) S2304x1024.size hh) hs = wblk (Ring.bk 7 k.val) := wblk_congr (off3_eq k) _ _
@[sl_canon] theorem msW (hh) : (cc0_scratch3.slice (Rect.unit (s := S2) (k0_off4 k) S1.size hh)).squeeze S_ squeezes_S1_S_ = msm (Ring.sl 2 k.val) := msm_congr (off4_eq k) _
@[sl_canon] theorem obW (h2 : 2 ≤ k.val) (hh hs) : oM.slice (Rect.unit (s := S256x7168) (k0_off5 k) S256x1024.size hh) hs = oblk (Ring.bk 7 (k.val - 2)) := oblk_congr (off5_eq k h2) _ _
@[sl_canon] theorem mlW (hh hs) : (mbM.slice (Rect.unit (s := S2x256x1024) (k0_off6 k) S1x256x1024.size hh) hs).squeeze S256x1024 squeezes_S1x256x1024_S256x1024 = mslot (Ring.sl 2 k.val) := mslot_congr (off6_eq k) _ _
@[sl_canon] theorem msI (hh) : (cc0_scratch3.slice (Rect.unit (s := S2) (k0_off33 k) S1.size hh)).squeeze S_ squeezes_S1_S_ = msm (Ring.sl 2 k.val) := msm_congr (off33_eq k) _
@[sl_canon] theorem obI (hh hs) : oM.slice (Rect.unit (s := S256x7168) (k0_off34 k) S256x1024.size hh) hs = oblk (Ring.bk 7 k.val) := oblk_congr (off34_eq k) _ _
@[sl_canon] theorem mlI (hh hs) : (mbM.slice (Rect.unit (s := S2x256x1024) (k0_off35 k) S1x256x1024.size hh) hs).squeeze S256x1024 squeezes_S1x256x1024_S256x1024 = mslot (Ring.sl 2 k.val) := mslot_congr (off35_eq k) _ _
@[sl_canon] theorem wsI (hh) : (cc0_scratch2.slice (Rect.unit (s := S4) (k0_off36 k) S1.size hh)).squeeze S_ squeezes_S1_S_ = wsm (Ring.sl 4 k.val) := wsm_congr (off36_eq k) _
@[sl_canon] theorem wlI (hh hs) : (wdM.slice (Rect.unit (s := S4x2304x1024) (k0_off37 k) S1x2304x1024.size hh) hs).squeeze S2304x1024 squeezes_S1x2304x1024_S2304x1024 = wslot (Ring.sl 4 k.val) := wslot_congr (off37_eq k) _ _
@[sl_canon] theorem wbI (h4 : k.val + 4 < 7) (hh hs) : wM.slice (Rect.unit (s := S2304x7168) (k0_off38 k) S2304x1024.size hh) hs = wblk (Ring.bk 7 (k.val + 4)) := wblk_congr (off38_eq k h4) _ _
end Canon

/-! ## The pieces -/

section Pieces
variable (c : Dev nD) (XW : Buf (Elt F) (wM.view.loc (c : Thread nD τ)))

abbrev wcellP (s : Fin 4) : sProp 𝕄 := semVal ((c : Thread nD τ), SemLoc.dma (wsm s).sem) 0
abbrev mcellP (s : Fin 2) : sProp 𝕄 := semVal ((c : Thread nD τ), SemLoc.dma (msm s).sem) 0
abbrev wslotP (s : Fin 4) (f : Buf (Elt F) ((wslot s).view.loc (c : Thread nD τ))) : sProp 𝕄 :=
  (wslot s).view.loc (c : Thread nD τ) ↦[(wslot s).view.set]{fullShare} f
abbrev mslotP (s : Fin 2) (f : Buf (Elt F) ((mslot s).view.loc (c : Thread nD τ))) : sProp 𝕄 :=
  (mslot s).view.loc (c : Thread nD τ) ↦[(mslot s).view.set]{fullShare} f
/-- Column block `b` of the weight at home. -/
abbrev homeP (b : Fin 7) : sProp 𝕄 := (wblk b).view.loc (c : Thread nD τ) ↦[(wblk b).view.set]{fullShare} XW
/-- Column block `b` of the result, at contents `f`. -/
abbrev oblkP (b : Fin 7) (f : Buf (Elt F) ((oblk b).view.loc (c : Thread nD τ))) : sProp 𝕄 :=
  (oblk b).view.loc (c : Thread nD τ) ↦[(oblk b).view.set]{fullShare} f
/-- What block `b`'s copy leaves in slot `s` over prior contents `f`. -/
abbrev wlanded (s : Fin 4) (b : Fin 7) (f : Buf (Elt F) ((wslot s).view.loc (c : Thread nD τ))) : Buf (Elt F) ((wslot s).view.loc (c : Thread nD τ)) :=
  (wslot s).view.writes (Elt F) f [⟨Rect.whole S2304x1024, ReadAs.same.apply ((wblk b).view.read (Elt F) XW)⟩]
/-- What the copy of slot `s` at contents `g` leaves in block `b` of the result over `f`. -/
abbrev olanded (s : Fin 2) (b : Fin 7) (g : Buf (Elt F) ((mslot s).view.loc (c : Thread nD τ))) (f : Buf (Elt F) ((oblk b).view.loc (c : Thread nD τ))) : Buf (Elt F) ((oblk b).view.loc (c : Thread nD τ)) :=
  (oblk b).view.writes (Elt F) f [⟨Rect.whole S256x1024, ReadAs.same.apply ((mslot s).view.read (Elt F) g)⟩]
/-- Slot `s` in flight with block `b` of the weight, issued over `f`. -/
abbrev wflightP (s : Fin 4) (b : Fin 7) (f : Buf (Elt F) ((wslot s).view.loc (c : Thread nD τ))) : sProp 𝕄 :=
  Transfers.Flight countersEmb (c : Thread nD τ) (SemLoc.dma (wsm s).sem) () 73728 iprop(wslotP c s (wlanded c XW s b f) ∗ homeP c XW b)
/-- Result slot `s`, at contents `g`, in flight to block `b`, issued over `f`. -/
abbrev mflightP (s : Fin 2) (b : Fin 7) (g : Buf (Elt F) ((mslot s).view.loc (c : Thread nD τ))) (f : Buf (Elt F) ((oblk b).view.loc (c : Thread nD τ))) : sProp 𝕄 :=
  Transfers.Flight countersEmb (c : Thread nD τ) (SemLoc.dma (msm s).sem) () 16384 iprop(oblkP c b (olanded c s b g f) ∗ mslotP c s g)
end Pieces

/-! ## What a trip computes -/

/-- 128 rows of a dequantised weight tile: two 128 x 128 blocks of codes, each times its own scale. -/
def deqRow (w : FVec F S2304x256 .fp8e4m3) (o : ℕ) (h0 : S2304x256.Slices ![o, 0] S128x128) (h1 : S2304x256.Slices ![o, 128] S128x128)
    (s0 s1 : Elt F .f32) : FVec F S128x256 .bf16 :=
  concatenate S128x256 1
    [⟨S128x128, mulf (extf .bf16 (extractStridedSlice S128x128 ![o, 0] w h0) bitsLt_fp8e4m3_bf16)
      (truncf .bf16 (broadcast S128x128 s0) bitsLt_bf16_f32)⟩,
     ⟨S128x128, mulf (extf .bf16 (extractStridedSlice S128x128 ![o, 128] w h1) bitsLt_fp8e4m3_bf16)
      (truncf .bf16 (broadcast S128x128 s1) bitsLt_bf16_f32)⟩] concatenates_S128x128_S128x128_S128x256_d1

/-- A dequantised weight tile: 18 such rows of blocks, block `(i, r)` under scale `s i r`. -/
def deqTile (w : FVec F S2304x256 .fp8e4m3) (s : Fin 18 → Fin 2 → Elt F .f32) : FVec F S2304x256 .bf16 :=
  concatenate S2304x256 0 [⟨S128x256, deqRow w 0 slices_S2304x256_o0_0_S128x128 slices_S2304x256_o0_128_S128x128 (s 0 0) (s 0 1)⟩,
    ⟨S128x256, deqRow w 128 slices_S2304x256_o128_0_S128x128 slices_S2304x256_o128_128_S128x128 (s 1 0) (s 1 1)⟩,
    ⟨S128x256, deqRow w 256 slices_S2304x256_o256_0_S128x128 slices_S2304x256_o256_128_S128x128 (s 2 0) (s 2 1)⟩,
    ⟨S128x256, deqRow w 384 slices_S2304x256_o384_0_S128x128 slices_S2304x256_o384_128_S128x128 (s 3 0) (s 3 1)⟩,
    ⟨S128x256, deqRow w 512 slices_S2304x256_o512_0_S128x128 slices_S2304x256_o512_128_S128x128 (s 4 0) (s 4 1)⟩,
    ⟨S128x256, deqRow w 640 slices_S2304x256_o640_0_S128x128 slices_S2304x256_o640_128_S128x128 (s 5 0) (s 5 1)⟩,
    ⟨S128x256, deqRow w 768 slices_S2304x256_o768_0_S128x128 slices_S2304x256_o768_128_S128x128 (s 6 0) (s 6 1)⟩,
    ⟨S128x256, deqRow w 896 slices_S2304x256_o896_0_S128x128 slices_S2304x256_o896_128_S128x128 (s 7 0) (s 7 1)⟩,
    ⟨S128x256, deqRow w 1024 slices_S2304x256_o1024_0_S128x128 slices_S2304x256_o1024_128_S128x128 (s 8 0) (s 8 1)⟩,
    ⟨S128x256, deqRow w 1152 slices_S2304x256_o1152_0_S128x128 slices_S2304x256_o1152_128_S128x128 (s 9 0) (s 9 1)⟩,
    ⟨S128x256, deqRow w 1280 slices_S2304x256_o1280_0_S128x128 slices_S2304x256_o1280_128_S128x128 (s 10 0) (s 10 1)⟩,
    ⟨S128x256, deqRow w 1408 slices_S2304x256_o1408_0_S128x128 slices_S2304x256_o1408_128_S128x128 (s 11 0) (s 11 1)⟩,
    ⟨S128x256, deqRow w 1536 slices_S2304x256_o1536_0_S128x128 slices_S2304x256_o1536_128_S128x128 (s 12 0) (s 12 1)⟩,
    ⟨S128x256, deqRow w 1664 slices_S2304x256_o1664_0_S128x128 slices_S2304x256_o1664_128_S128x128 (s 13 0) (s 13 1)⟩,
    ⟨S128x256, deqRow w 1792 slices_S2304x256_o1792_0_S128x128 slices_S2304x256_o1792_128_S128x128 (s 14 0) (s 14 1)⟩,
    ⟨S128x256, deqRow w 1920 slices_S2304x256_o1920_0_S128x128 slices_S2304x256_o1920_128_S128x128 (s 15 0) (s 15 1)⟩,
    ⟨S128x256, deqRow w 2048 slices_S2304x256_o2048_0_S128x128 slices_S2304x256_o2048_128_S128x128 (s 16 0) (s 16 1)⟩,
    ⟨S128x256, deqRow w 2176 slices_S2304x256_o2176_0_S128x128 slices_S2304x256_o2176_128_S128x128 (s 17 0) (s 17 1)⟩]
    concatenates_S128x256_S128x256_S128x256_S128x256_S128x256_S128x256_S128x256_S128x256_S128x256_S128x256_S128x256_S128x256_S128x256_S128x256_S128x256_S128x256_S128x256_S128x256_S2304x256_d0

/-- The result's tile: the rows times a dequantised tile of the weight. -/
def mulTile (h : Vec F S256x2304 .bf16) (w : Vec F S1x2304x256 .fp8e4m3) (s : Fin 18 → Fin 2 → Elt F .f32) : FVec F S1x256x256 .bf16 :=
  shapeCast S1x256x256 (truncf .bf16 (matmul dot_S256x2304_S2304x256_S256x256_1_0_0_1_n_n none h
    (deqTile (shapeCast S2304x256 w shapeCasts_S1x2304x256_S2304x256) s) (constant S256x256 .f32 0)) bitsLt_bf16_f32) shapeCasts_S256x256_S1x256x256

/-- Where the scale of block row `i` is read. -/
def scOff (k : Fin k0_t1_loop.trips) (c r : BitVec 32) (i : Fin 18) : Fin 2 → ℕ :=
  match i.val with
  | 0 => k0_off8 k c r
  | 1 => k0_off9 k c r
  | 2 => k0_off10 k c r
  | 3 => k0_off11 k c r
  | 4 => k0_off12 k c r
  | 5 => k0_off13 k c r
  | 6 => k0_off14 k c r
  | 7 => k0_off15 k c r
  | 8 => k0_off16 k c r
  | 9 => k0_off17 k c r
  | 10 => k0_off18 k c r
  | 11 => k0_off19 k c r
  | 12 => k0_off20 k c r
  | 13 => k0_off21 k c r
  | 14 => k0_off22 k c r
  | 15 => k0_off23 k c r
  | 16 => k0_off24 k c r
  | _ => k0_off25 k c r

theorem scOff_eq (k : Fin k0_t1_loop.trips) (n : Fin 4) (r : Fin 2) (i : Fin 18) :
    scOff k (BitVec.ofNat 32 (2 * n.val)) (BitVec.ofNat 32 r.val) i = ![i.val, 8 * k.val + 2 * n.val + r.val] := by
  fin_cases i <;> first | exact k0_off8_eq k n r | exact k0_off9_eq k n r | exact k0_off10_eq k n r | exact k0_off11_eq k n r | exact k0_off12_eq k n r | exact k0_off13_eq k n r | exact k0_off14_eq k n r | exact k0_off15_eq k n r | exact k0_off16_eq k n r | exact k0_off17_eq k n r | exact k0_off18_eq k n r | exact k0_off19_eq k n r | exact k0_off20_eq k n r | exact k0_off21_eq k n r | exact k0_off22_eq k n r | exact k0_off23_eq k n r | exact k0_off24_eq k n r | exact k0_off25_eq k n r

/-! ## One trip -/

section Trip
variable (c : Dev nD) (XW : Buf (Elt F) (wM.view.loc (c : Thread nD τ)))
  (arg0 : Memref sig .tc .vmem S256x2304 .bf16) (harg0 : arg0.IsWhole)
  (arg2 : Memref sig .tc .smem S18x56 .f32) (harg2 : arg2.IsWhole)
  (XH : Buf (Elt F) (arg0.view.loc (c : Thread nD τ))) (XS : Buf (Elt F) (arg2.view.loc (c : Thread nD τ)))

abbrev hP : sProp 𝕄 := arg0.view.loc (c : Thread nD τ) ↦[arg0.view.set]{fullShare} XH
abbrev sP : sProp 𝕄 := arg2.view.loc (c : Thread nD τ) ↦[arg2.view.set]{fullShare} XS

abbrev tripG (k : Fin k0_t1_loop.trips) : Prog (TpuEff nD τ sig (Elt F) Λ₀ .tc) Unit :=
  k0_t1_body (F := F) arg0 harg0 wM (Memref.isWhole_whole _) arg2 harg2 oM (Memref.isWhole_whole _) wdM (Memref.isWhole_whole _)
    mbM (Memref.isWhole_whole _) cc0_scratch2 cc0_scratch3 k ()

theorem trips_eq : k0_t1_loop.trips = 7 := by decide +kernel

theorem scOff_inb (k : Fin k0_t1_loop.trips) (n : Fin 4) (r : Fin 2) (i : Fin 18) :
    ∀ a, scOff k (BitVec.ofNat 32 (2 * n.val)) (BitVec.ofNat 32 r.val) i a + S1x1.size a ≤ S18x56.size a := by
  rw [scOff_eq]
  have := k.isLt; have := trips_eq; have := n.isLt; have := r.isLt; have := i.isLt
  intro a; fin_cases a
  · show i.val + 1 ≤ 18; omega
  · show 8 * k.val + 2 * n.val + r.val + 1 ≤ 56; omega

/-- The scale of block row `i`, block column `r` of tile `n` in trip `k`. -/
def scal (k : Fin k0_t1_loop.trips) (n : Fin 4) (i : Fin 18) (r : Fin 2) : Elt F .f32 :=
  View.readAt (Elt F) arg2.view (Rect.unit (s := S18x56) (scOff k (BitVec.ofNat 32 (2 * n.val)) (BitVec.ofNat 32 r.val) i) S1x1.size
    (scOff_inb k n r i)).toLoadRect XS (Shape.Idx.first (show 0 < S1x1.numel by decide))

def wOff (k : Fin k0_t1_loop.trips) (n : Fin 4) : Fin 3 → ℕ :=
  match n with
  | 0 => k0_off7 k
  | 1 => k0_off27 k
  | 2 => k0_off29 k
  | 3 => k0_off31 k
def mOff (k : Fin k0_t1_loop.trips) (n : Fin 4) : Fin 3 → ℕ :=
  match n with
  | 0 => k0_off26 k
  | 1 => k0_off28 k
  | 2 => k0_off30 k
  | 3 => k0_off32 k
theorem wOff_eq (k : Fin k0_t1_loop.trips) (n : Fin 4) : wOff k n = ![(Ring.sl 4 k.val).val, 0, 256 * n.val] := by
  fin_cases n
  · exact off7_eq k
  · exact off27_eq k
  · exact off29_eq k
  · exact off31_eq k
theorem mOff_eq (k : Fin k0_t1_loop.trips) (n : Fin 4) : mOff k n = ![(Ring.sl 2 k.val).val, 0, 256 * n.val] := by
  fin_cases n
  · exact off26_eq k
  · exact off28_eq k
  · exact off30_eq k
  · exact off32_eq k
theorem wOff_inb (k : Fin k0_t1_loop.trips) (n : Fin 4) : ∀ a, wOff k n a + S1x2304x256.size a ≤ S4x2304x1024.size a := by
  rw [wOff_eq]; have := n.isLt; have := (Ring.sl 4 k.val).isLt
  intro a; fin_cases a
  · show (Ring.sl 4 k.val).val + 1 ≤ 4; omega
  · show 0 + 2304 ≤ 2304; omega
  · show 256 * n.val + 256 ≤ 1024; omega
theorem mOff_inb (k : Fin k0_t1_loop.trips) (n : Fin 4) : ∀ a, mOff k n a + S1x256x256.size a ≤ S2x256x1024.size a := by
  rw [mOff_eq]; have := n.isLt; have := (Ring.sl 2 k.val).isLt
  intro a; fin_cases a
  · show (Ring.sl 2 k.val).val + 1 ≤ 2; omega
  · show 0 + 256 ≤ 256; omega
  · show 256 * n.val + 256 ≤ 1024; omega

/-- Tile `n` of the weight block held by slot `k` mod 4, as a load reads it. -/
def wload (k : Fin k0_t1_loop.trips) (n : Fin 4) : Vec F S1x2304x256 .fp8e4m3 :=
  View.readAt (Elt F) wdM.view (Rect.unit (s := S4x2304x1024) (wOff k n) S1x2304x256.size (wOff_inb k n)).toLoadRect
    ((wslot (Ring.sl 4 k.val)).view.writes (Elt F) (wslot (Ring.sl 4 k.val)).view.junk
      [⟨Rect.whole S2304x1024, ReadAs.same.apply ((wblk (Ring.bk 7 k.val)).view.read (Elt F) XW)⟩])
def hload : Vec F S256x2304 .bf16 :=
  View.readAt (Elt F) arg0.view (Rect.unit (s := S256x2304) ![0, 0] S256x2304.size inb_S256x2304_S256x2304_0_0).toLoadRect XH

/-- Tile `n` of column block `k` of the result. -/
def outTile (k : Fin k0_t1_loop.trips) (n : Fin 4) : FVec F S1x256x256 .bf16 :=
  mulTile (hload c arg0 XH) (wload c XW k n) (fun i r => scal c arg2 XS k n i r)

/-- A result slot after the store of tile `n`. -/
def put (k : Fin k0_t1_loop.trips) (n : Fin 4) (g : Buf (Elt F) ((mslot (Ring.sl 2 k.val)).view.loc (c : Thread nD τ))) :
    Buf (Elt F) ((mslot (Ring.sl 2 k.val)).view.loc (c : Thread nD τ)) :=
  View.write (Elt F) (mbM.access (Rect.unit (s := S2x256x1024) (mOff k n) S1x256x256.size (mOff_inb k n))) g
    (outTile c XW arg0 arg2 XH XS k n) Finset.univ
/-- A result slot after a trip's four stores. -/
def stored (k : Fin k0_t1_loop.trips) (g : Buf (Elt F) ((mslot (Ring.sl 2 k.val)).view.loc (c : Thread nD τ))) :
    Buf (Elt F) ((mslot (Ring.sl 2 k.val)).view.loc (c : Thread nD τ)) :=
  put c XW arg0 arg2 XH XS k 3 (put c XW arg0 arg2 XH XS k 2 (put c XW arg0 arg2 XH XS k 1 (put c XW arg0 arg2 XH XS k 0 g)))

/-- Trip 0 or 1: both buffers of the result are free, block `k + 4` of the weight goes out. -/
theorem tripA (k : Fin k0_t1_loop.trips) (h2 : k.val < 2) (f g W o) :
    iprop(hP c arg0 XH ∗ sP c arg2 XS ∗ owes (c : Thread nD τ) 0 W ∗ homeP c XW (Ring.bk 7 (k.val + 4))
      ∗ wflightP c XW (Ring.sl 4 k.val) (Ring.bk 7 k.val) f ∗ mcellP c (Ring.sl 2 k.val) ∗ mslotP c (Ring.sl 2 k.val) g ∗ oblkP c (Ring.bk 7 k.val) o)
      ⊢ wp frame (wpE (defs₀ (F := F)) 𝒱₀ (c : Thread nD τ) none) Set.univ (tripG arg0 harg0 arg2 harg2 k) (fun _ => iprop(
        hP c arg0 XH ∗ sP c arg2 XS ∗ (∃ W, owes (c : Thread nD τ) 0 W) ∗ homeP c XW (Ring.bk 7 k.val)
        ∗ (∃ f, wflightP c XW (Ring.sl 4 k.val) (Ring.bk 7 (k.val + 4)) f)
        ∗ mflightP c (Ring.sl 2 k.val) (Ring.bk 7 k.val) (stored c XW arg0 arg2 XH XS k g) o)) := by
  have h4 : k.val + 4 < 7 := by omega
  have c1 := cond1_of_lt k h2
  have c2 := cond2_of_lt k h4
  iintro ⟨Hh, Hs, HW, Hg, HF, Hc, Hm, Ho⟩
  dsimp only [tripG]
  sl_unfold [k0_t1_body]
  sl_exec_parts
  sl_step
  have e : tripA.sl.Hm_w4 c XW arg0 arg2 XH XS k g = stored c XW arg0 arg2 XH XS k g := rfl
  isplitl [Hh]
  · iexact Hh
  isplitl [Hs]
  · iexact Hs
  isplitl [HW]
  · iexists _; iexact HW
  isplitl [HF_src]
  · iexact HF_src
  isplitl [HF]
  · iexists _; iexact HF
  rw [← e]; iexact Hc

/-- Trip 2: the result buffer `k` mod 2 comes back with block `k - 2` written out, block `k + 4` of the weight goes out. -/
theorem tripB (k : Fin k0_t1_loop.trips) (h2 : 2 ≤ k.val) (h4 : k.val + 4 < 7) (f g W o o') :
    iprop(hP c arg0 XH ∗ sP c arg2 XS ∗ owes (c : Thread nD τ) 0 W ∗ homeP c XW (Ring.bk 7 (k.val + 4))
      ∗ wflightP c XW (Ring.sl 4 k.val) (Ring.bk 7 k.val) f ∗ mflightP c (Ring.sl 2 k.val) (Ring.bk 7 (k.val - 2)) g o' ∗ oblkP c (Ring.bk 7 k.val) o)
      ⊢ wp frame (wpE (defs₀ (F := F)) 𝒱₀ (c : Thread nD τ) none) Set.univ (tripG arg0 harg0 arg2 harg2 k) (fun _ => iprop(
        hP c arg0 XH ∗ sP c arg2 XS ∗ (∃ W, owes (c : Thread nD τ) 0 W) ∗ homeP c XW (Ring.bk 7 k.val)
        ∗ (∃ f, wflightP c XW (Ring.sl 4 k.val) (Ring.bk 7 (k.val + 4)) f)
        ∗ oblkP c (Ring.bk 7 (k.val - 2)) (olanded c (Ring.sl 2 k.val) (Ring.bk 7 (k.val - 2)) g o')
        ∗ mflightP c (Ring.sl 2 k.val) (Ring.bk 7 k.val) (stored c XW arg0 arg2 XH XS k g) o)) := by
  have c1 := cond1_of_le k h2
  have c2 := cond2_of_lt k h4
  iintro ⟨Hh, Hs, HW, Hg, HF, HM, Ho⟩
  dsimp only [tripG]
  sl_unfold [k0_t1_body]
  sl_exec_parts
  sl_step
  have e : tripB.sl.HM_src_w4 c XW arg0 arg2 XH XS k g = stored c XW arg0 arg2 XH XS k g := rfl
  isplitl [Hh]
  · iexact Hh
  isplitl [Hs]
  · iexact Hs
  isplitl [HW]
  · iexists _; iexact HW
  isplitl [HF_src]
  · iexact HF_src
  isplitl [HF]
  · iexists _; iexact HF
  isplitl [HM_dst]
  · iexact HM_dst
  rw [← e]; iexact HM

/-- Trips 3 to 6: the result buffer `k` mod 2 comes back, the weight slot stays free. -/
theorem tripC (k : Fin k0_t1_loop.trips) (h2 : 2 ≤ k.val) (h4 : 7 ≤ k.val + 4) (f g W o o') :
    iprop(hP c arg0 XH ∗ sP c arg2 XS ∗ owes (c : Thread nD τ) 0 W
      ∗ wflightP c XW (Ring.sl 4 k.val) (Ring.bk 7 k.val) f ∗ mflightP c (Ring.sl 2 k.val) (Ring.bk 7 (k.val - 2)) g o' ∗ oblkP c (Ring.bk 7 k.val) o)
      ⊢ wp frame (wpE (defs₀ (F := F)) 𝒱₀ (c : Thread nD τ) none) Set.univ (tripG arg0 harg0 arg2 harg2 k) (fun _ => iprop(
        hP c arg0 XH ∗ sP c arg2 XS ∗ (∃ W, owes (c : Thread nD τ) 0 W) ∗ homeP c XW (Ring.bk 7 k.val)
        ∗ (wcellP c (Ring.sl 4 k.val) ∗ ∃ f, wslotP c (Ring.sl 4 k.val) f)
        ∗ oblkP c (Ring.bk 7 (k.val - 2)) (olanded c (Ring.sl 2 k.val) (Ring.bk 7 (k.val - 2)) g o')
        ∗ mflightP c (Ring.sl 2 k.val) (Ring.bk 7 k.val) (stored c XW arg0 arg2 XH XS k g) o)) := by
  have c1 := cond1_of_le k h2
  have c2 := cond2_of_le k h4
  iintro ⟨Hh, Hs, HW, HF, HM, Ho⟩
  dsimp only [tripG]
  sl_unfold [k0_t1_body]
  sl_exec_parts
  sl_step
  have e : tripC.sl.HM_src_w4 c XW arg0 arg2 XH XS k g = stored c XW arg0 arg2 XH XS k g := rfl
  isplitl [Hh]
  · iexact Hh
  isplitl [Hs]
  · iexact Hs
  isplitl [HW]
  · iexists _; iexact HW
  isplitl [HF_src]
  · iexact HF_src
  isplitl [HF HF_dst]
  · isplitl [HF]
    · iexact HF
    iexists _; iexact HF_dst
  isplitl [HM_dst]
  · iexact HM_dst
  rw [← e]; iexact HM

end Trip
end Cert.Proof.Down
end
-- ==== Proof.Loop.lean ====
/-
  The loop: what a result slot holds after a trip, the resources before a trip, and the loop's invariant.
-/
module

public import proofs.«01_k».proof.Proof.Trip
public import Idealize.ShloMosaic.Lib.Pipeline.ValueKit

@[expose] public section

noncomputable section

namespace Cert.Proof.Down

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Val
variable (c : Dev nD) (XW : Buf (Elt F) (wM.view.loc (c : Thread nD τ)))
  (arg0 : Memref sig .tc .vmem S256x2304 .bf16) (harg0 : arg0.IsWhole)
  (arg2 : Memref sig .tc .smem S18x56 .f32) (harg2 : arg2.IsWhole)
  (XH : Buf (Elt F) (arg0.view.loc (c : Thread nD τ))) (XS : Buf (Elt F) (arg2.view.loc (c : Thread nD τ)))

/-! ## A result slot after a trip -/

/-- The trip of column block `b`. -/
def tk (b : Fin 7) : Fin k0_t1_loop.trips := ⟨b.val, by rw [trips_eq]; exact b.isLt⟩
theorem tk_bk (k : Fin k0_t1_loop.trips) : tk (Ring.bk 7 k.val) = k :=
  Fin.ext (Ring.bk_val (NB := 7) (Nat.lt_of_lt_of_eq k.isLt trips_eq))

/-- The index of a tile's element. -/
def tileIdx (i j : ℕ) (hi : i < 256) (hj : j < 256) : S1x256x256.Idx := ix3 (0 : Fin 1) (⟨i, hi⟩ : Fin 256) (⟨j, hj⟩ : Fin 256)

/-- Column block `b` of the result: tile `j / 256` at column `j mod 256`. -/
def blkVal (b : Fin 7) : S256x1024.Idx → Elt F .bf16 := fun y =>
  outTile c XW arg0 arg2 XH XS (tk b) ⟨(y 1).val / 256, by have : (y 1).val < 1024 := (y 1).isLt; omega⟩
    (tileIdx (y 0).val ((y 1).val % 256) (y 0).isLt (Nat.mod_lt _ (by decide)))

theorem put_hit (k : Fin k0_t1_loop.trips) (n : Fin 4) (g) (i : S2x256x1024.Idx) (x : S1x256x256.Idx)
    (h0 : (i 0).val = (Ring.sl 2 k.val).val) (h1 : (i 1).val = (x 1).val) (h2 : (i 2).val = 256 * n.val + (x 2).val) :
    put c XW arg0 arg2 XH XS k n g i = outTile c XW arg0 arg2 XH XS k n x := by
  have e : i = (mbM.access (Rect.unit (s := S2x256x1024) (mOff k n) S1x256x256.size (mOff_inb k n))).emb x := by
    have hx : (x 0).val < 1 := (x 0).isLt
    funext a
    refine Fin.ext ((?_ : (i a).val = mOff k n a + (x a).val).trans (ValueKit.view_emb_slice_whole_unit_val cc0_scratch1 (mOff k n) S1x256x256.size (mOff_inb k n) x a).symm)
    rw [mOff_eq]
    fin_cases a
    · show (i 0).val = (Ring.sl 2 k.val).val + (x 0).val; omega
    · show (i 1).val = 0 + (x 1).val; omega
    · show (i 2).val = 256 * n.val + (x 2).val; omega
  rw [e]
  exact View.write_emb_of_mem _ _ (Finset.mem_univ x)

theorem put_miss (k : Fin k0_t1_loop.trips) (n : Fin 4) (g) (i : S2x256x1024.Idx) (h : (i 2).val / 256 ≠ n.val) :
    put c XW arg0 arg2 XH XS k n g i = g i := by
  refine View.write_of_not_mem _ _ _ fun hi => h ?_
  obtain ⟨x, -, rfl⟩ := Finset.mem_map.mp hi
  have e := ValueKit.view_emb_slice_whole_unit_val cc0_scratch1 (mOff k n) S1x256x256.size (mOff_inb k n) x 2
  have hx : (x 2).val < 256 := (x 2).isLt
  have e2 : mOff k n 2 = 256 * n.val := by rw [mOff_eq]; rfl
  have e3 : (((mbM.access (Rect.unit (s := S2x256x1024) (mOff k n) S1x256x256.size (mOff_inb k n))).emb x : S2x256x1024.Idx) 2).val = 256 * n.val + (x 2).val := by
    rw [← e2]; exact e
  rw [e3]; omega

theorem stored_at (k : Fin k0_t1_loop.trips) (n : Fin 4) (g) (i : S2x256x1024.Idx) (x : S1x256x256.Idx)
    (h0 : (i 0).val = (Ring.sl 2 k.val).val) (h1 : (i 1).val = (x 1).val) (h2 : (i 2).val = 256 * n.val + (x 2).val) :
    stored c XW arg0 arg2 XH XS k g i = outTile c XW arg0 arg2 XH XS k n x := by
  have hx : (x 2).val < 256 := (x 2).isLt
  unfold stored
  have miss : ∀ (n' : Fin 4) (g'), n'.val ≠ n.val → put c XW arg0 arg2 XH XS k n' g' i = g' i := fun n' g' hne =>
    put_miss c XW arg0 arg2 XH XS k n' g' i (by rw [h2]; omega)
  fin_cases n
  · rw [miss 3 _ (by decide), miss 2 _ (by decide), miss 1 _ (by decide)]; exact put_hit c XW arg0 arg2 XH XS k 0 _ i x h0 h1 h2
  · rw [miss 3 _ (by decide), miss 2 _ (by decide)]; exact put_hit c XW arg0 arg2 XH XS k 1 _ i x h0 h1 h2
  · rw [miss 3 _ (by decide)]; exact put_hit c XW arg0 arg2 XH XS k 2 _ i x h0 h1 h2
  · exact put_hit c XW arg0 arg2 XH XS k 3 _ i x h0 h1 h2

/-- A result slot read at an element: the buffer at the slot's number and the element's coordinates. -/
theorem mslot_read (s : Fin 2) (f : Buf (Elt F) ((mslot s).view.loc (c : Thread nD τ))) (y : S256x1024.Idx) (i : S2x256x1024.Idx)
    (h0 : (i 0).val = s.val) (h1 : (i 1).val = (y 0).val) (h2 : (i 2).val = (y 1).val) :
    (mslot s).view.read (Elt F) f y = (f : S2x256x1024.Idx → Elt F .bf16) i := by
  have hc : S1x256x1024.ShapeCasts S256x1024 := by decide
  have e := congrFun (Memref.read_squeeze_slice (Val := Elt F) mbM (Rect.unit (s := S2x256x1024) (slotOff s) S1x256x1024.size (mslot_inb s)) (fun _ => rfl)
    squeezes_S1x256x1024_S256x1024 hc f) y
  refine e.trans ((shapeCast_apply _ hc y (ix3 (0 : Fin 1) (y 0 : Fin 256) (y 1 : Fin 1024)) ?_).trans ?_)
  · rw [Shape.rowMajor_val_two, Shape.rowMajor_val_three]
    show (0 * 256 + (y 0).val) * 1024 + (y 1).val = (y 0).val * 1024 + (y 1).val
    omega
  · refine congrArg (f : S2x256x1024.Idx → Elt F .bf16) (funext fun a => Fin.ext ?_)
    refine (ValueKit.view_emb_slice_whole_unit_val cc0_scratch1 (slotOff s) S1x256x1024.size (mslot_inb s) (ix3 (0 : Fin 1) (y 0 : Fin 256) (y 1 : Fin 1024)) a).trans ?_
    fin_cases a
    · show s.val + 0 = (i 0).val; omega
    · show 0 + (y 0).val = (i 1).val; omega
    · show 0 + (y 1).val = (i 2).val; omega

/-- After its trip the slot holds column block `k`. -/
theorem read_stored (k : Fin k0_t1_loop.trips) (g) :
    (mslot (Ring.sl 2 k.val)).view.read (Elt F) (stored c XW arg0 arg2 XH XS k g) = blkVal c XW arg0 arg2 XH XS (Ring.bk 7 k.val) := by
  funext y
  have hy : (y 1).val < 1024 := (y 1).isLt
  rw [mslot_read c (Ring.sl 2 k.val) _ y (ix3 (Ring.sl 2 k.val) (y 0 : Fin 256) (y 1 : Fin 1024)) rfl rfl rfl]
  unfold blkVal
  rw [tk_bk]
  refine stored_at c XW arg0 arg2 XH XS k ⟨(y 1).val / 256, by omega⟩ g _ _ rfl rfl ?_
  show (y 1).val = 256 * ((y 1).val / 256) + (y 1).val % 256
  omega

/-! ## The resources before trip `k` -/

/-- Slot `p` mod 4 of the weight: block `p` in flight, or free past the last block. -/
def roleW (p : ℕ) : sProp 𝕄 :=
  if p < 7 then iprop(∃ f, wflightP c XW (Ring.sl 4 p) (Ring.bk 7 p) f) else iprop(wcellP c (Ring.sl 4 p) ∗ ∃ f, wslotP c (Ring.sl 4 p) f)
/-- Slot `q` mod 2 of the result: free at first, then block `q - 2` in flight out of it. -/
def roleM (q : ℕ) : sProp 𝕄 :=
  if 2 ≤ q then iprop(∃ g o, mflightP c (Ring.sl 2 q) (Ring.bk 7 (q - 2)) g o
      ∗ ⌜(mslot (Ring.sl 2 q)).view.read (Elt F) g = blkVal c XW arg0 arg2 XH XS (Ring.bk 7 (q - 2))⌝)
  else iprop(mcellP c (Ring.sl 2 q) ∗ ∃ f, mslotP c (Ring.sl 2 q) f)
/-- Block `b` of the result written; -/
def doneP (b : Fin 7) : sProp 𝕄 := iprop(∃ g, oblkP c b g ∗ ⌜(oblk b).view.read (Elt F) g = blkVal c XW arg0 arg2 XH XS b⌝)
/-- and not yet written. -/
def freshP (b : Fin 7) : sProp 𝕄 := iprop(∃ g, oblkP c b g)

def resAt (k : ℕ) : sProp 𝕄 :=
  iprop(hP c arg0 XH ∗ sP c arg2 XS ∗ (∃ W, owes (c : Thread nD τ) 0 W) ∗ bigSep (Ring.homeSet 4 k) (homeP c XW)
    ∗ roleW c XW k ∗ roleW c XW (k + 1) ∗ roleW c XW (k + 2) ∗ roleW c XW (k + 3)
    ∗ bigSep (Ring.rangeSet 7 0 (k - 2)) (doneP c XW arg0 arg2 XH XS) ∗ bigSep (Ring.rangeSet 7 k 7) (freshP c)
    ∗ roleM c XW arg0 arg2 XH XS k ∗ roleM c XW arg0 arg2 XH XS (k + 1))

theorem roleW_lt {p : ℕ} (h : p < 7) : roleW c XW p = iprop(∃ f, wflightP c XW (Ring.sl 4 p) (Ring.bk 7 p) f) := if_pos h
theorem roleW_ge {p : ℕ} (h : 7 ≤ p) : roleW c XW p = iprop(wcellP c (Ring.sl 4 p) ∗ ∃ f, wslotP c (Ring.sl 4 p) f) := if_neg (by omega)
theorem roleM_ge {q : ℕ} (h : 2 ≤ q) : roleM c XW arg0 arg2 XH XS q = iprop(∃ g o, mflightP c (Ring.sl 2 q) (Ring.bk 7 (q - 2)) g o
      ∗ ⌜(mslot (Ring.sl 2 q)).view.read (Elt F) g = blkVal c XW arg0 arg2 XH XS (Ring.bk 7 (q - 2))⌝) := if_pos h
theorem roleM_lt {q : ℕ} (h : q < 2) : roleM c XW arg0 arg2 XH XS q = iprop(mcellP c (Ring.sl 2 q) ∗ ∃ f, mslotP c (Ring.sl 2 q) f) := if_neg (by omega)

theorem homes_here (k : ℕ) (h : k + 4 < 7) : bigSep (Ring.homeSet 4 k) (homeP c XW)
    = iprop(homeP c XW (Ring.bk 7 (k + 4)) ∗ bigSep ((Ring.homeSet 4 k).erase (Ring.bk 7 (k + 4))) (homeP c XW)) := by
  conv_lhs => rw [Ring.homeSet_out 4 k h, bigSep_insert (Ring.bkL_not_mem_erase 4 k)]
  rfl
theorem homes_next (k : ℕ) (h : k + 4 < 7) : bigSep (Ring.homeSet 4 (k + 1)) (homeP c XW)
    = iprop(homeP c XW (Ring.bk 7 k) ∗ bigSep ((Ring.homeSet 4 k).erase (Ring.bk 7 (k + 4))) (homeP c XW)) := by
  conv_lhs => rw [Ring.homeSet_succ 4 k h, bigSep_insert (Ring.bk_not_mem_erase 4 k (by omega) (by decide))]
  rfl
theorem homes_tail (k : ℕ) (h : 7 ≤ k + 4) (hk : k < 7) : bigSep (Ring.homeSet 4 (k + 1)) (homeP c XW)
    = iprop(homeP c XW (Ring.bk 7 k) ∗ bigSep (Ring.homeSet 4 k) (homeP c XW)) := by
  conv_lhs => rw [Ring.homeSet_succ_tail 4 k h hk, bigSep_insert (Ring.bk_not_mem_homeSet 4 k hk (by decide))]
  rfl
theorem bk_mk {k : ℕ} (h : k < 7) : Ring.bk 7 k = ⟨k, h⟩ := Fin.ext (Ring.bk_val h)
theorem fresh_head (k : ℕ) (hk : k < 7) : bigSep (Ring.rangeSet 7 k 7) (freshP (F := F) c)
    = iprop(freshP c (Ring.bk 7 k) ∗ bigSep (Ring.rangeSet 7 (k + 1) 7) (freshP c)) := by
  rw [Ring.bigSep_rangeSet_head hk hk, bk_mk hk]
theorem done_last (k : ℕ) (h : 2 ≤ k) (hk : k < 7) : bigSep (Ring.rangeSet 7 0 (k + 1 - 2)) (doneP c XW arg0 arg2 XH XS)
    = iprop(doneP c XW arg0 arg2 XH XS (Ring.bk 7 (k - 2)) ∗ bigSep (Ring.rangeSet 7 0 (k - 2)) (doneP c XW arg0 arg2 XH XS)) := by
  rw [Ring.bigSep_rangeSet_last (by omega : 0 < k + 1 - 2) (by omega), bk_mk (show k - 2 < 7 by omega)]
  have e : k + 1 - 2 - 1 = k - 2 := by omega
  simp only [e]
theorem done_none (k : ℕ) (h : k < 2) : bigSep (Ring.rangeSet 7 0 (k + 1 - 2)) (doneP c XW arg0 arg2 XH XS)
    = bigSep (Ring.rangeSet 7 0 (k - 2)) (doneP c XW arg0 arg2 XH XS) := by
  have e : k + 1 - 2 = k - 2 := by omega
  rw [e]

/-- The slot's contents land in the block. -/
theorem read_olanded (s : Fin 2) (b : Fin 7) (g o) : (oblk b).view.read (Elt F) (olanded c s b g o) = (mslot s).view.read (Elt F) g := by
  rw [olanded, View.read_writes_whole]

set_option maxHeartbeats 800000 in
/-- ONE TRIP: the resources before trip `k` give those before trip `k + 1`. -/
theorem trip (k : Fin k0_t1_loop.trips) :
    resAt c XW arg0 arg2 XH XS k.val
      ⊢ wp frame (wpE (defs₀ (F := F)) 𝒱₀ (c : Thread nD τ) none) Set.univ (tripG arg0 harg0 arg2 harg2 k)
        (fun _ => resAt c XW arg0 arg2 XH XS (k.val + 1)) := by
  have hk : k.val < 7 := Nat.lt_of_lt_of_eq k.isLt trips_eq
  have s4 : Ring.sl 4 (k.val + 1 + 3) = Ring.sl 4 k.val := Ring.sl_add 4 k.val
  have s2 : Ring.sl 2 (k.val + 1 + 1) = Ring.sl 2 k.val := Ring.sl_add 2 k.val
  have b2 : k.val + 1 + 1 - 2 = k.val := by omega
  by_cases h4 : k.val + 4 < 7
  · by_cases h2 : k.val < 2
    · unfold resAt
      rw [homes_here c XW k.val h4, homes_next c XW k.val h4, fresh_head c k.val hk, done_none c XW arg0 arg2 XH XS k.val h2,
        roleW_lt c XW (show k.val < 7 from hk), roleW_lt c XW (show k.val + 1 + 3 < 7 by omega), s4,
        roleM_lt c XW arg0 arg2 XH XS h2, roleM_ge c XW arg0 arg2 XH XS (show 2 ≤ k.val + 1 + 1 by omega), s2, b2]
      unfold freshP
      iintro ⟨Hh, Hs, ⟨%W, HW⟩, ⟨Hg, Hrest⟩, ⟨%f, HF⟩, HF1, HF2, HF3, Hd, ⟨⟨%o, Ho⟩, Hfr⟩, ⟨Hc, ⟨%g, Hm⟩⟩, HM1⟩
      iapply (wp_wand_r Idealize.ShloMosaic.frame (wpE (defs₀ (F := F)) 𝒱₀ (c : Thread nD τ) none) Set.univ)
      isplitl [Hh Hs HW Hg HF Hc Hm Ho]
      · iapply (tripA c XW arg0 harg0 arg2 harg2 XH XS k h2 f g W o)
        isplitl [Hh]; · iexact Hh
        isplitl [Hs]; · iexact Hs
        isplitl [HW]; · iexact HW
        isplitl [Hg]; · iexact Hg
        isplitl [HF]; · iexact HF
        isplitl [Hc]; · iexact Hc
        isplitl [Hm]; · iexact Hm
        iexact Ho
      iintro %_ ⟨Hh, Hs, HW, Hg, HF, HM⟩
      isplitl [Hh]; · iexact Hh
      isplitl [Hs]; · iexact Hs
      isplitl [HW]; · iexact HW
      isplitl [Hg Hrest]
      · isplitl [Hg]; · iexact Hg
        iexact Hrest
      isplitl [HF1]; · iexact HF1
      isplitl [HF2]; · iexact HF2
      isplitl [HF3]; · iexact HF3
      isplitl [HF]; · iexact HF
      isplitl [Hd]; · iexact Hd
      isplitl [Hfr]; · iexact Hfr
      isplitl [HM1]; · iexact HM1
      iexists _; iexists _
      isplitl [HM]; · iexact HM
      ipureintro; exact read_stored c XW arg0 arg2 XH XS k g
    · have h2' : 2 ≤ k.val := by omega
      unfold resAt
      rw [homes_here c XW k.val h4, homes_next c XW k.val h4, fresh_head c k.val hk, done_last c XW arg0 arg2 XH XS k.val h2' hk,
        roleW_lt c XW (show k.val < 7 from hk), roleW_lt c XW (show k.val + 1 + 3 < 7 by omega), s4,
        roleM_ge c XW arg0 arg2 XH XS h2', roleM_ge c XW arg0 arg2 XH XS (show 2 ≤ k.val + 1 + 1 by omega), s2, b2]
      unfold freshP
      iintro ⟨Hh, Hs, ⟨%W, HW⟩, ⟨Hg, Hrest⟩, ⟨%f, HF⟩, HF1, HF2, HF3, Hd, ⟨⟨%o, Ho⟩, Hfr⟩, ⟨%g, %o', HM, %hg⟩, HM1⟩
      iapply (wp_wand_r Idealize.ShloMosaic.frame (wpE (defs₀ (F := F)) 𝒱₀ (c : Thread nD τ) none) Set.univ)
      isplitl [Hh Hs HW Hg HF HM Ho]
      · iapply (tripB c XW arg0 harg0 arg2 harg2 XH XS k h2' h4 f g W o o')
        isplitl [Hh]; · iexact Hh
        isplitl [Hs]; · iexact Hs
        isplitl [HW]; · iexact HW
        isplitl [Hg]; · iexact Hg
        isplitl [HF]; · iexact HF
        isplitl [HM]; · iexact HM
        iexact Ho
      iintro %_ ⟨Hh, Hs, HW, Hg, HF, Hob, HM⟩
      isplitl [Hh]; · iexact Hh
      isplitl [Hs]; · iexact Hs
      isplitl [HW]; · iexact HW
      isplitl [Hg Hrest]
      · isplitl [Hg]; · iexact Hg
        iexact Hrest
      isplitl [HF1]; · iexact HF1
      isplitl [HF2]; · iexact HF2
      isplitl [HF3]; · iexact HF3
      isplitl [HF]; · iexact HF
      isplitl [Hd Hob]
      · isplitl [Hob]
        · unfold doneP; iexists _
          isplitl [Hob]; · iexact Hob
          ipureintro; rw [read_olanded]; exact hg
        iexact Hd
      isplitl [Hfr]; · iexact Hfr
      isplitl [HM1]; · iexact HM1
      iexists _; iexists _
      isplitl [HM]; · iexact HM
      ipureintro; exact read_stored c XW arg0 arg2 XH XS k g
  · have h4' : 7 ≤ k.val + 4 := by omega
    have h2' : 2 ≤ k.val := by omega
    unfold resAt
    rw [homes_tail c XW k.val h4' hk, fresh_head c k.val hk, done_last c XW arg0 arg2 XH XS k.val h2' hk,
      roleW_lt c XW (show k.val < 7 from hk), roleW_ge c XW (show 7 ≤ k.val + 1 + 3 by omega), s4,
      roleM_ge c XW arg0 arg2 XH XS h2', roleM_ge c XW arg0 arg2 XH XS (show 2 ≤ k.val + 1 + 1 by omega), s2, b2]
    unfold freshP
    iintro ⟨Hh, Hs, ⟨%W, HW⟩, Hrest, ⟨%f, HF⟩, HF1, HF2, HF3, Hd, ⟨⟨%o, Ho⟩, Hfr⟩, ⟨%g, %o', HM, %hg⟩, HM1⟩
    iapply (wp_wand_r Idealize.ShloMosaic.frame (wpE (defs₀ (F := F)) 𝒱₀ (c : Thread nD τ) none) Set.univ)
    isplitl [Hh Hs HW HF HM Ho]
    · iapply (tripC c XW arg0 harg0 arg2 harg2 XH XS k h2' h4' f g W o o')
      isplitl [Hh]; · iexact Hh
      isplitl [Hs]; · iexact Hs
      isplitl [HW]; · iexact HW
      isplitl [HF]; · iexact HF
      isplitl [HM]; · iexact HM
      iexact Ho
    iintro %_ ⟨Hh, Hs, HW, Hg, HF, Hob, HM⟩
    isplitl [Hh]; · iexact Hh
    isplitl [Hs]; · iexact Hs
    isplitl [HW]; · iexact HW
    isplitl [Hg Hrest]
    · isplitl [Hg]; · iexact Hg
      iexact Hrest
    isplitl [HF1]; · iexact HF1
    isplitl [HF2]; · iexact HF2
    isplitl [HF3]; · iexact HF3
    isplitl [HF]; · iexact HF
    isplitl [Hd Hob]
    · isplitl [Hob]
      · unfold doneP; iexists _
        isplitl [Hob]; · iexact Hob
        ipureintro; rw [read_olanded]; exact hg
      iexact Hd
    isplitl [Hfr]; · iexact Hfr
    isplitl [HM1]; · iexact HM1
    iexists _; iexists _
    isplitl [HM]; · iexact HM
    ipureintro; exact read_stored c XW arg0 arg2 XH XS k g

/-- At the loop's entry, as the prologue leaves it. -/
abbrev entryP : sProp 𝕄 :=
  iprop(hP c arg0 XH ∗ sP c arg2 XS ∗ (∃ W, owes (c : Thread nD τ) 0 W) ∗ bigSep (Ring.homeSet 4 0) (homeP c XW)
    ∗ (∃ f, wflightP c XW 0 0 f) ∗ (∃ f, wflightP c XW 1 1 f) ∗ (∃ f, wflightP c XW 2 2 f) ∗ (∃ f, wflightP c XW 3 3 f)
    ∗ bigSep Finset.univ (freshP c)
    ∗ (mcellP c 0 ∗ ∃ f, mslotP c 0 f) ∗ (mcellP c 1 ∗ ∃ f, mslotP c 1 f))
theorem entry_res : entryP c XW arg0 arg2 XH XS ⊢ resAt c XW arg0 arg2 XH XS 0 := by
  unfold resAt
  rw [roleW_lt c XW (show 0 < 7 by decide), roleW_lt c XW (show 0 + 1 < 7 by decide), roleW_lt c XW (show 0 + 2 < 7 by decide),
    roleW_lt c XW (show 0 + 3 < 7 by decide), roleM_lt c XW arg0 arg2 XH XS (show 0 < 2 by decide),
    roleM_lt c XW arg0 arg2 XH XS (show 0 + 1 < 2 by decide), Ring.bigSep_rangeSet_empty (show 0 - 2 ≤ 0 by decide), Ring.rangeSet_univ]
  iintro ⟨Hh, Hs, HW, Hg, H0, H1, H2, H3, Hf, Hm0, Hm1⟩
  isplitl [Hh]; · iexact Hh
  isplitl [Hs]; · iexact Hs
  isplitl [HW]; · iexact HW
  isplitl [Hg]; · iexact Hg
  isplitl [H0]; · iexact H0
  isplitl [H1]; · iexact H1
  isplitl [H2]; · iexact H2
  isplitl [H3]; · iexact H3
  isplitr; · iempintro
  isplitl [Hf]; · iexact Hf
  isplitl [Hm0]; · iexact Hm0
  iexact Hm1

/-- The loop's invariant: the prologue's state at the entry, the resources before trip `k` after. -/
def invAt (k : ℕ) : sProp 𝕄 :=
  match k with
  | 0 => entryP c XW arg0 arg2 XH XS
  | k + 1 => resAt c XW arg0 arg2 XH XS (k + 1)
theorem inv_res (k : ℕ) : invAt c XW arg0 arg2 XH XS k ⊢ resAt c XW arg0 arg2 XH XS k := by
  cases k with
  | zero => exact entry_res c XW arg0 arg2 XH XS
  | succ k => exact .rfl

end Val
end Cert.Proof.Down
end
-- ==== Proof.Body.lean ====
/-
  The body: the four first copies, the loop, the last two waits.
-/
module

public import proofs.«01_k».proof.Proof.Loop

@[expose] public section

noncomputable section

namespace Cert.Proof.Down

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (XW : Buf (Elt F) (wM.view.loc (c : Thread nD τ)))
  (arg0 : Memref sig .tc .vmem S256x2304 .bf16) (harg0 : arg0.IsWhole)
  (arg2 : Memref sig .tc .smem S18x56 .f32) (harg2 : arg2.IsWhole)
  (XH : Buf (Elt F) (arg0.view.loc (c : Thread nD τ))) (XS : Buf (Elt F) (arg2.view.loc (c : Thread nD τ)))

abbrev bodyG : Prog (TpuEff nD τ sig (Elt F) Λ₀ .tc) PUnit :=
  cc0_mhc_mlp_down arg0 harg0 wM (Memref.isWhole_whole _) arg2 harg2 oM (Memref.isWhole_whole _) wdM (Memref.isWhole_whole _)
    mbM (Memref.isWhole_whole _) cc0_scratch2 cc0_scratch3

/-- The two rings at rest. -/
abbrev ringsP : sProp 𝕄 :=
  iprop((∃ f, wslotP c 0 f) ∗ (∃ f, wslotP c 1 f) ∗ (∃ f, wslotP c 2 f) ∗ (∃ f, wslotP c 3 f)
    ∗ (∃ f, mslotP c 0 f) ∗ (∃ f, mslotP c 1 f)
    ∗ wcellP c 0 ∗ wcellP c 1 ∗ wcellP c 2 ∗ wcellP c 3 ∗ mcellP c 0 ∗ mcellP c 1)
/-- What the body is handed; -/
abbrev PRE (W : Waits sig Unit) : sProp 𝕄 :=
  iprop(hP c arg0 XH ∗ sP c arg2 XS ∗ homeP c XW 0 ∗ homeP c XW 1 ∗ homeP c XW 2 ∗ homeP c XW 3 ∗ bigSep (Ring.homeSet 4 0) (homeP c XW)
    ∗ bigSep Finset.univ (freshP c) ∗ ringsP c ∗ owes (c : Thread nD τ) 0 W)
/-- and what it hands back. -/
abbrev POST : sProp 𝕄 :=
  iprop(hP c arg0 XH ∗ sP c arg2 XS ∗ bigSep Finset.univ (homeP c XW) ∗ bigSep Finset.univ (doneP c XW arg0 arg2 XH XS)
    ∗ ringsP c ∗ ∃ W, owes (c : Thread nD τ) 0 W)

/-- After the loop: blocks 5 and 6 of the result in flight, the rest written. -/
abbrev exitP : sProp 𝕄 :=
  iprop(hP c arg0 XH ∗ sP c arg2 XS ∗ (∃ W, owes (c : Thread nD τ) 0 W) ∗ bigSep Finset.univ (homeP c XW)
    ∗ (wcellP c 3 ∗ ∃ f, wslotP c 3 f) ∗ (wcellP c 0 ∗ ∃ f, wslotP c 0 f) ∗ (wcellP c 1 ∗ ∃ f, wslotP c 1 f) ∗ (wcellP c 2 ∗ ∃ f, wslotP c 2 f)
    ∗ bigSep (Ring.rangeSet 7 0 5) (doneP c XW arg0 arg2 XH XS)
    ∗ (∃ g o, mflightP c 1 5 g o ∗ ⌜(mslot 1).view.read (Elt F) g = blkVal c XW arg0 arg2 XH XS 5⌝)
    ∗ (∃ g o, mflightP c 0 6 g o ∗ ⌜(mslot 0).view.read (Elt F) g = blkVal c XW arg0 arg2 XH XS 6⌝))
theorem res_exit : invAt c XW arg0 arg2 XH XS k0_t1_loop.trips ⊢ exitP c XW arg0 arg2 XH XS := by
  rw [trips_eq]
  refine (inv_res c XW arg0 arg2 XH XS 7).trans ?_
  unfold resAt
  rw [roleW_ge c XW (show 7 ≤ 7 by decide), roleW_ge c XW (show 7 ≤ 7 + 1 by decide), roleW_ge c XW (show 7 ≤ 7 + 2 by decide),
    roleW_ge c XW (show 7 ≤ 7 + 3 by decide), roleM_ge c XW arg0 arg2 XH XS (show 2 ≤ 7 by decide),
    roleM_ge c XW arg0 arg2 XH XS (show 2 ≤ 7 + 1 by decide), Ring.homeSet_last 4 7 (by decide)]
  iintro ⟨Hh, Hs, HW, Hg, H0, H1, H2, H3, Hd, -, Hm0, Hm1⟩
  isplitl [Hh]; · iexact Hh
  isplitl [Hs]; · iexact Hs
  isplitl [HW]; · iexact HW
  isplitl [Hg]; · iexact Hg
  isplitl [H0]; · iexact H0
  isplitl [H1]; · iexact H1
  isplitl [H2]; · iexact H2
  isplitl [H3]; · iexact H3
  isplitl [Hd]; · iexact Hd
  isplitl [Hm0]; · iexact Hm0
  iexact Hm1

theorem done_all : iprop(doneP c XW arg0 arg2 XH XS 5 ∗ doneP c XW arg0 arg2 XH XS 6 ∗ bigSep (Ring.rangeSet 7 0 5) (doneP c XW arg0 arg2 XH XS))
    ⊢ bigSep Finset.univ (doneP c XW arg0 arg2 XH XS) := by
  have e : (Finset.univ : Finset (Fin 7)) = insert 5 (insert 6 (Ring.rangeSet 7 0 5)) := by decide +kernel
  rw [e, bigSep_insert (by decide +kernel), bigSep_insert (by decide +kernel)]
  exact .rfl

theorem bodyRun (W) (Q : PUnit → sProp 𝕄) :
    iprop(PRE c XW arg0 arg2 XH XS W ∗ (POST c XW arg0 arg2 XH XS -∗ Q ⟨⟩))
      ⊢ wp frame (wpE (defs₀ (F := F)) 𝒱₀ (c : Thread nD τ) none) Set.univ (bodyG arg0 harg0 arg2 harg2) Q := by
  iintro ⟨⟨Hh, Hs, Hg0, Hg1, Hg2, Hg3, Hg, Hf, ⟨⟨%f0, Hw0⟩, ⟨%f1, Hw1⟩, ⟨%f2, Hw2⟩, ⟨%f3, Hw3⟩, ⟨%m0, Hm0⟩, ⟨%m1, Hm1⟩, Hc0, Hc1, Hc2, Hc3, Hd0, Hd1⟩, HW⟩, Hk⟩
  sl_exec_parts
  sl_for (fun k _ => invAt c XW arg0 arg2 XH XS k) $$ [Hh Hs HW Hg Hc0 Hc1 Hc2 Hc3 Hf Hd0 Hd1 Hm0 Hm1]
  · intro k acc
    exact (inv_res c XW arg0 arg2 XH XS k.val).trans (trip c XW arg0 harg0 arg2 harg2 XH XS k)
  · show _ ⊢ entryP c XW arg0 arg2 XH XS
    iintro ⟨⟨⟨⟨⟨⟨⟨⟨⟨⟨⟨⟨Hh, Hs⟩, Hg⟩, Hf⟩, Hm0⟩, Hm1⟩, Hd0⟩, Hd1⟩, HW⟩, Hc0⟩, Hc1⟩, Hc2⟩, Hc3⟩
    isplitl [Hh]; · iexact Hh
    isplitl [Hs]; · iexact Hs
    isplitl [HW]; · iexists _; iexact HW
    isplitl [Hg]; · iexact Hg
    isplitl [Hc0]; · iexists _; iexact Hc0
    isplitl [Hc1]; · iexists _; iexact Hc1
    isplitl [Hc2]; · iexists _; iexact Hc2
    isplitl [Hc3]; · iexists _; iexact Hc3
    isplitl [Hf]; · iexact Hf
    isplitl [Hd0 Hm0]
    · isplitl [Hd0]; · iexact Hd0
      iexists _; iexact Hm0
    isplitl [Hd1]; · iexact Hd1
    iexists _; iexact Hm1
  iintro %acc HI
  ihave HE := (res_exit c XW arg0 arg2 XH XS) $$ HI
  icases HE with ⟨Hh, Hs, ⟨%W', HW⟩, Hg, ⟨Hc3, Hw3⟩, ⟨Hc0, Hw0⟩, ⟨Hc1, Hw1⟩, ⟨Hc2, Hw2⟩, Hd, ⟨%g5, %o5, HM5, %e5⟩, ⟨%g6, %o6, HM6, %e6⟩⟩
  sl_exec_parts
  sl_step
  iapply Hk
  isplitl [Hh]; · iexact Hh
  isplitl [Hs]; · iexact Hs
  isplitl [Hg]; · iexact Hg
  isplitl [HM5_dst HM6_dst Hd]
  · iapply (done_all c XW arg0 arg2 XH XS)
    isplitl [HM5_dst]
    · unfold doneP; iexists _
      isplitl [HM5_dst]; · iexact HM5_dst
      ipureintro; rw [read_olanded]; exact e5
    isplitl [HM6_dst]
    · unfold doneP; iexists _
      isplitl [HM6_dst]; · iexact HM6_dst
      ipureintro; rw [read_olanded]; exact e6
    iexact Hd
  isplitr [HW]
  · isplitl [Hw0]; · iexact Hw0
    isplitl [Hw1]; · iexact Hw1
    isplitl [Hw2]; · iexact Hw2
    isplitl [Hw3]; · iexact Hw3
    isplitl [HM6_src]; · iexists _; iexact HM6_src
    isplitl [HM5_src]; · iexists _; iexact HM5_src
    isplitl [Hc0]; · iexact Hc0
    isplitl [Hc1]; · iexact Hc1
    isplitl [Hc2]; · iexact Hc2
    isplitl [Hc3]; · iexact Hc3
    isplitl [HM6]; · iexact HM6
    iexact HM5
  iexists _; iexact HW
end Body
end Cert.Proof.Down
end
-- ==== Proof.Launch.lean ====
/-
  The launch: the run of the whole program, from the run of the body. The weight enters as its seven column blocks, the
  result leaves as its seven column blocks, each holding the value its trip computed.
-/
module

public import proofs.«01_k».proof.Proof.Body

@[expose] public section

noncomputable section

namespace Cert.Proof.Down

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
local notation "𝕄" => MT nD τ sig Unit (Elt F) ℕ (UU nD τ) ℕ

/-- The state at launch. -/
abbrev s₀ : MemSt nD τ sig (Elt F) := ⟨m, fun _ => 0, ρ⟩
/-- A buffer's contents at launch. -/
abbrev V (c : Dev nD) (b : Ref sig .tc) : Buf (Elt F) ((c : Thread nD τ).loc b) := m ((c : Thread nD τ).loc b)
/-- The weight's, as its column blocks read it. -/
abbrev XW (c : Dev nD) : Buf (Elt F) (wM.view.loc (c : Thread nD τ)) := m _

/-! ## The kernel's own semaphores -/

abbrev osem : Fin 6 → SemLoc sig := fun | 0 => .dma (wsm 0).sem | 1 => .dma (wsm 1).sem | 2 => .dma (wsm 2).sem | 3 => .dma (wsm 3).sem | 4 => .dma (msm 0).sem | 5 => .dma (msm 1).sem
theorem ownSemFacts : Pipeline.OwnSemFacts spec0 osem := by decide

/-! ## Element sets of the column blocks and of the slots -/

abbrev WB (b : Fin 7) : Finset S2304x7168.Idx := (Rect.unit (s := S2304x7168) (colOff b) S2304x1024.size (wcol_inb b)).set
abbrev OB (b : Fin 7) : Finset S256x7168.Idx := (Rect.unit (s := S256x7168) (colOff b) S256x1024.size (ocol_inb b)).set
abbrev WS (s : Fin 4) : Finset S4x2304x1024.Idx := (Rect.unit (s := S4x2304x1024) (slotOff s) S1x2304x1024.size (wslot_inb s)).set
abbrev MS (s : Fin 2) : Finset S2x256x1024.Idx := (Rect.unit (s := S2x256x1024) (slotOff s) S1x256x1024.size (mslot_inb s)).set

theorem wblk_set (b : Fin 7) : (wblk b).view.set = WB b := View.set_slice_whole _ _
theorem oblk_set (b : Fin 7) : (oblk b).view.set = OB b := View.set_slice_whole _ _
theorem wslot_set (s : Fin 4) : (wslot s).view.set = WS s := (View.set_reshape _ _).trans (View.set_slice_whole _ _)
theorem mslot_set (s : Fin 2) : (mslot s).view.set = MS s := (View.set_reshape _ _).trans (View.set_slice_whole _ _)

theorem mem_WB (b : Fin 7) (y : S2304x7168.Idx) : y ∈ WB b ↔ (y 1).val / 1024 = b.val := by
  rw [Rect.mem_set_unit]
  have h0 : (y 0).val < 2304 := (y 0).isLt
  constructor
  · intro H; have a1 : 1024 * b.val ≤ (y 1).val ∧ (y 1).val < 1024 * b.val + 1024 := H 1; omega
  · intro H i; fin_cases i
    · show 0 ≤ (y 0).val ∧ (y 0).val < 0 + 2304; omega
    · show 1024 * b.val ≤ (y 1).val ∧ (y 1).val < 1024 * b.val + 1024; omega
theorem mem_OB (b : Fin 7) (y : S256x7168.Idx) : y ∈ OB b ↔ (y 1).val / 1024 = b.val := by
  rw [Rect.mem_set_unit]
  have h0 : (y 0).val < 256 := (y 0).isLt
  constructor
  · intro H; have a1 : 1024 * b.val ≤ (y 1).val ∧ (y 1).val < 1024 * b.val + 1024 := H 1; omega
  · intro H i; fin_cases i
    · show 0 ≤ (y 0).val ∧ (y 0).val < 0 + 256; omega
    · show 1024 * b.val ≤ (y 1).val ∧ (y 1).val < 1024 * b.val + 1024; omega
theorem mem_WS (s : Fin 4) (y : S4x2304x1024.Idx) : y ∈ WS s ↔ (y 0).val = s.val := by
  rw [Rect.mem_set_unit]
  have h1 : (y 1).val < 2304 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2304; omega
    · show 0 ≤ (y 2).val ∧ (y 2).val < 0 + 1024; omega
theorem mem_MS (s : Fin 2) (y : S2x256x1024.Idx) : y ∈ MS s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega

theorem WB_disjoint : ∀ b b' : Fin 7, b ≠ b' → Disjoint (WB b) (WB b') := by
  intro b b' hne; rw [Finset.disjoint_left]; intro y hy hy'; rw [mem_WB] at hy hy'; exact hne (Fin.ext (hy.symm.trans hy'))
theorem WB_cover : (Finset.univ : Finset (Fin 7)).biUnion WB = Finset.univ := by
  ext y; simp only [Finset.mem_biUnion, Finset.mem_univ, true_and, iff_true]
  have h : (y 1).val < 7168 := (y 1).isLt
  exact ⟨⟨(y 1).val / 1024, by omega⟩, by rw [mem_WB]⟩
theorem OB_disjoint : ∀ b b' : Fin 7, b ≠ b' → Disjoint (OB b) (OB b') := by
  intro b b' hne; rw [Finset.disjoint_left]; intro y hy hy'; rw [mem_OB] at hy hy'; exact hne (Fin.ext (hy.symm.trans hy'))
theorem OB_cover : (Finset.univ : Finset (Fin 7)).biUnion OB = Finset.univ := by
  ext y; simp only [Finset.mem_biUnion, Finset.mem_univ, true_and, iff_true]
  have h : (y 1).val < 7168 := (y 1).isLt
  exact ⟨⟨(y 1).val / 1024, by omega⟩, by rw [mem_OB]⟩
theorem WS_disjoint : ∀ s s' : Fin 4, s ≠ s' → Disjoint (WS s) (WS s') := by
  intro s s' hne; rw [Finset.disjoint_left]; intro y hy hy'; rw [mem_WS] at hy hy'; exact hne (Fin.ext (hy.symm.trans hy'))
theorem WS_cover : (Finset.univ : Finset (Fin 4)).biUnion WS = Finset.univ := by
  ext y; simp only [Finset.mem_biUnion, Finset.mem_univ, true_and, iff_true]; exact ⟨(y 0).cast (by decide), by rw [mem_WS]; rfl⟩
theorem MS_disjoint : ∀ s s' : Fin 2, s ≠ s' → Disjoint (MS s) (MS s') := by
  intro s s' hne; rw [Finset.disjoint_left]; intro y hy hy'; rw [mem_MS] at hy hy'; exact hne (Fin.ext (hy.symm.trans hy'))
theorem MS_cover : (Finset.univ : Finset (Fin 2)).biUnion MS = Finset.univ := by
  ext y; simp only [Finset.mem_biUnion, Finset.mem_univ, true_and, iff_true]; exact ⟨(y 0).cast (by decide), by rw [mem_MS]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

/-- The weight whole is its seven column blocks; -/
theorem w_eq (c : Dev nD) :
    (((c : Thread nD τ).loc main_arg1) ↦{fullShare} m ((c : Thread nD τ).loc main_arg1) : sProp 𝕄) = bigSep Finset.univ (homeP c (XW m c)) := by
  rw [Ring.pointsTo_blocks (ℓ := (c : Thread nD τ).loc main_arg1) WB WB_disjoint WB_cover]
  exact bigSep_congr fun b _ => by rw [← wblk_set]; rfl
/-- at the body's entry, blocks 0 to 3 apart from the rest. -/
theorem homes_zero (c : Dev nD) (XW : Buf (Elt F) (wM.view.loc (c : Thread nD τ))) :
    bigSep Finset.univ (homeP c XW) = iprop(homeP c XW 0 ∗ homeP c XW 1 ∗ homeP c XW 2 ∗ homeP c XW 3 ∗ bigSep (Ring.homeSet 4 0) (homeP c XW)) := by
  have e : (Finset.univ : Finset (Fin 7)) = insert 0 (insert 1 (insert 2 (insert 3 (Ring.homeSet (NB := 7) 4 0)))) := by decide +kernel
  rw [e, bigSep_insert (by decide +kernel), bigSep_insert (by decide +kernel), bigSep_insert (by decide +kernel), bigSep_insert (by decide +kernel)]; rfl

/-- The result whole is its seven column blocks not yet written. -/
theorem o_split (c : Dev nD) :
    (((c : Thread nD τ).loc main_v0) ↦{fullShare} m ((c : Thread nD τ).loc main_v0) : sProp 𝕄) ⊢ bigSep Finset.univ (freshP (F := F) c) := by
  rw [Ring.pointsTo_blocks (ℓ := (c : Thread nD τ).loc main_v0) OB OB_disjoint OB_cover]
  refine bigSep_mono fun b _ => ?_
  rw [← oblk_set]
  show oblkP c b _ ⊢ iprop(∃ g, oblkP c b g)
  iintro H; iexists _; iexact H

theorem wslotP_eq (c : Dev nD) (s : Fin 4) (f) : wslotP (F := F) c s f = (((c : Thread nD τ).loc cc0_scratch0) ↦[WS s]{fullShare} f : sProp 𝕄) :=
  congrArg (fun S => (_ ↦[S]{fullShare} f : sProp 𝕄)) (wslot_set s)
theorem mslotP_eq (c : Dev nD) (s : Fin 2) (f) : mslotP (F := F) c s f = (((c : Thread nD τ).loc cc0_scratch1) ↦[MS s]{fullShare} f : sProp 𝕄) :=
  congrArg (fun S => (_ ↦[S]{fullShare} f : sProp 𝕄)) (mslot_set s)

/-- The two buffers whole are their slots, and back. -/
theorem wbuf_split (c : Dev nD) :
    iprop(∃ f : Buf (Elt F) ((c : Thread nD τ).loc cc0_scratch0), ((c : Thread nD τ).loc cc0_scratch0) ↦{fullShare} f)
      ⊢ (iprop((∃ f, wslotP c 0 f) ∗ (∃ f, wslotP c 1 f) ∗ (∃ f, wslotP c 2 f) ∗ ∃ f, wslotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) WS WS_disjoint WS_cover f).trans (bigSep_fin4 _))) $$ H
  icases H2 with ⟨H0, H1, H2, H3⟩
  isplitl [H0]
  · iexists f; iapply (entails_of_eq (wslotP_eq c 0 f).symm); iexact H0
  isplitl [H1]
  · iexists f; iapply (entails_of_eq (wslotP_eq c 1 f).symm); iexact H1
  isplitl [H2]
  · iexists f; iapply (entails_of_eq (wslotP_eq c 2 f).symm); iexact H2
  · iexists f; iapply (entails_of_eq (wslotP_eq c 3 f).symm); iexact H3
theorem wbuf_join (c : Dev nD) :
    iprop((∃ f, wslotP c 0 f) ∗ (∃ f, wslotP c 1 f) ∗ (∃ f, wslotP c 2 f) ∗ ∃ f, wslotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) WS WS_disjoint WS_cover f0)
  irw [bigSep_fin4]
  isplitl [H0]
  · iexists f0; iapply (entails_of_eq (wslotP_eq c 0 f0)); iexact H0
  isplitl [H1]
  · iexists f1; iapply (entails_of_eq (wslotP_eq c 1 f1)); iexact H1
  isplitl [H2]
  · iexists f2; iapply (entails_of_eq (wslotP_eq c 2 f2)); iexact H2
  · iexists f3; iapply (entails_of_eq (wslotP_eq c 3 f3)); iexact H3
theorem mbuf_split (c : Dev nD) :
    iprop(∃ f : Buf (Elt F) ((c : Thread nD τ).loc cc0_scratch1), ((c : Thread nD τ).loc cc0_scratch1) ↦{fullShare} f)
      ⊢ (iprop((∃ f, mslotP c 0 f) ∗ ∃ f, mslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) MS MS_disjoint MS_cover f).trans (bigSep_fin2 _))) $$ H
  icases H2 with ⟨H0, H1⟩
  isplitl [H0]
  · iexists f; iapply (entails_of_eq (mslotP_eq c 0 f).symm); iexact H0
  · iexists f; iapply (entails_of_eq (mslotP_eq c 1 f).symm); iexact H1
theorem mbuf_join (c : Dev nD) :
    iprop((∃ f, mslotP c 0 f) ∗ ∃ f, mslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) MS MS_disjoint MS_cover f0)
  irw [bigSep_fin2]
  isplitl [H0]
  · iexists f0; iapply (entails_of_eq (mslotP_eq c 0 f0)); iexact H0
  · iexists f1; iapply (entails_of_eq (mslotP_eq c 1 f1)); iexact H1

omit [FloatOps F] in
/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = iprop(wcellP c 0 ∗ wcellP c 1 ∗ wcellP c 2 ∗ wcellP c 3 ∗ mcellP c 0 ∗ mcellP c 1) := by
  unfold Pipeline.ownSems0; rw [bigSep_fin6]

/-! ## The pipeline's proof data -/

abbrev st0 (t : Fin cfg0.N) : Memref sig .tc .vmem S256x2304 .bf16 := win0_0.stage (cfg0.slots t 0)
abbrev st1 (t : Fin cfg0.N) : Memref sig .tc .smem S18x56 .f32 := win0_1.stage (cfg0.slots t 1)
abbrev hst0 (t : Fin cfg0.N) : (st0 t).IsWhole := hstage0_0 0
abbrev hst1 (t : Fin cfg0.N) : (st1 t).IsWhole := hstage0_1 0

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations and the scales as the body reads them. -/
abbrev XH (c : Dev nD) (t : Fin cfg0.N) : Buf (Elt F) ((st0 t).view.loc (c : Thread nD τ)) := (st0 t).view.rep (iblk m c 0 t)
abbrev XS (c : Dev nD) (t : Fin cfg0.N) : Buf (Elt F) ((st1 t).view.loc (c : Thread nD τ)) := (st1 t).view.rep (iblk m c 1 t)

/-- Column block `b` of the result as the program computes it; -/
def blkOut (c : Dev nD) (b : Fin 7) : S256x1024.Idx → Elt F .bf16 := blkVal c (XW m c) (st0 t0_0) (st1 t0_0) (XH m c t0_0) (XS m c t0_0) b
/-- and the whole result. -/
def outG (c : Dev nD) : Buf (Elt F) ((c : Thread nD τ).loc main_v0) := fun (i : S256x7168.Idx) =>
  blkOut m c ⟨(i 1).val / 1024, by have : (i 1).val < 7168 := (i 1).isLt; omega⟩ (ix2 (i 0 : Fin 256) (⟨(i 1).val % 1024, Nat.mod_lt _ (by decide)⟩ : Fin 1024))
/-- The blocks written. -/
abbrev donesP (c : Dev nD) : sProp 𝕄 := bigSep Finset.univ (doneP c (XW m c) (st0 t0_0) (st1 t0_0) (XH m c t0_0) (XS m c t0_0))

/-- Where element `y` of column block `b` lies in the result. -/
abbrev oemb (b : Fin 7) (y : S256x1024.Idx) : S256x7168.Idx := (oblk b).view.emb y

/-- A block that reads as `blkOut` holds `outG`'s elements. -/
theorem outG_block (c : Dev nD) (b : Fin 7) (g : Buf (Elt F) ((oblk b).view.loc (c : Thread nD τ)))
    (e : (oblk b).view.read (Elt F) g = blkOut m c b) (i : S256x7168.Idx) (hi : i ∈ OB b) : (g : S256x7168.Idx → Elt F .bf16) i = outG m c i := by
  rw [← oblk_set] at hi
  obtain ⟨y, -, rfl⟩ := Finset.mem_map.mp hi
  have h0 : (oemb b y 0).val = 0 + (y 0).val := ValueKit.view_emb_slice_whole_unit_val main_v0 (colOff b) S256x1024.size (ocol_inb b) y 0
  have h1 : (oemb b y 1).val = 1024 * b.val + (y 1).val := ValueKit.view_emb_slice_whole_unit_val main_v0 (colOff b) S256x1024.size (ocol_inb b) y 1
  have hy : (y 1).val < 1024 := (y 1).isLt
  refine (congrFun e y).trans ?_
  have hb : b = ⟨(oemb b y 1).val / 1024, by have : (oemb b y 1).val < 7168 := (oemb b y 1).isLt; omega⟩ := Fin.ext (by show b.val = _ / 1024; rw [h1]; omega)
  have hj : y = ix2 (oemb b y 0 : Fin 256) (⟨(oemb b y 1).val % 1024, Nat.mod_lt _ (by decide)⟩ : Fin 1024) := by
    funext a
    refine Fin.ext ?_
    fin_cases a
    · show (y 0).val = (oemb b y 0).val; rw [h0, Nat.zero_add]
    · show (y 1).val = (oemb b y 1).val % 1024; rw [h1]; omega
  exact (congrArg (blkOut m c b) hj).trans (congrArg (fun B => blkOut m c B _) hb)

/-- The seven blocks written are the result whole. -/
theorem o_join (c : Dev nD) : donesP m c ⊢ (((c : Thread nD τ).loc main_v0) ↦{fullShare} outG m c : sProp 𝕄) := by
  rw [Ring.pointsTo_blocks (ℓ := (c : Thread nD τ).loc main_v0) OB OB_disjoint OB_cover]
  refine bigSep_mono fun b _ => ?_
  show iprop(∃ g, oblkP c b g ∗ ⌜(oblk b).view.read (Elt F) g = blkOut m c b⌝) ⊢ (((c : Thread nD τ).loc main_v0) ↦[OB b]{fullShare} outG m c : sProp 𝕄)
  iintro ⟨%g, H, %e⟩
  iapply (show oblkP c b g ⊢ (((c : Thread nD τ).loc main_v0) ↦[OB b]{fullShare} outG m c : sProp 𝕄) from
    entails_of_eq ((congrArg (fun S => (((c : Thread nD τ).loc main_v0) ↦[S]{fullShare} g : sProp 𝕄)) (oblk_set b)).trans
    (pointsTo_congr (outG_block m c b g e))))
  iexact H

/-- The region's resources before the one point (the result's blocks not written) and after it (written). -/
def Φ (c : Dev nD) (n : Fin (cfg0.N + 1)) : sProp 𝕄 :=
  iprop(bigSep Finset.univ (homeP c (XW m c)) ∗ (if n.val = 0 then bigSep Finset.univ (freshP c) else donesP m c) ∗ ringsP c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ n := Φ m c n
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (st0 t) (hst0 t) (st1 t) (hst1 t) :=
  (congrFun defs_tc _).trans rfl

theorem Φ_before (c : Dev nD) : Φ m c (t0_0 : Fin cfg0.N).castSucc = iprop(bigSep Finset.univ (homeP c (XW m c)) ∗ bigSep Finset.univ (freshP c) ∗ ringsP c) := by
  unfold Φ; rw [if_pos (by rfl)]
theorem Φ_after (c : Dev nD) : Φ m c (t0_0 : Fin cfg0.N).succ = iprop(bigSep Finset.univ (homeP c (XW m c)) ∗ donesP m c ∗ ringsP c) := by
  unfold Φ; rw [if_neg (by decide)]

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1]
  rw [show (dats m 0 c).Φ (t0_0 : Fin cfg0.N).castSucc = Φ m c (t0_0 : Fin cfg0.N).castSucc from rfl, show (dats m 0 c).Φ (t0_0 : Fin cfg0.N).succ = Φ m c (t0_0 : Fin cfg0.N).succ from rfl, Φ_before, Φ_after]
  unfold Dat.owesAt Pipeline.owesWithin
  rw [show (dats m 0 c).owed (t0_0 : Fin cfg0.N).castSucc = 0 from rfl, show (dats m 0 c).owed (t0_0 : Fin cfg0.N).succ = 0 from rfl]
  unfold owns
  iintro ⟨⟨Hh7, Hf, HR⟩, ⟨%W, -, HW⟩, ⟨%d0, %g0, %hg0, Hh⟩, ⟨%d1, %g1, %hg1, Hs⟩⟩
  ihave Hg := (entails_of_eq (homes_zero c (XW m c))) $$ Hh7
  icases Hg with ⟨Hg0, Hg1, Hg2, Hg3, Hg⟩
  ihave Hh' := (pointsTo_rep_entails (c : Thread nD τ) (st0 t0_0) g0 fullShare) $$ Hh
  rw [hg0]
  ihave Hs' := (pointsTo_rep_entails (c : Thread nD τ) (st1 t0_0) g1 fullShare) $$ Hs
  rw [hg1]
  sl_rw [prog_eq t0_0]
  iapply (bodyRun c (XW m c) (st0 t0_0) (hst0 t0_0) (st1 t0_0) (hst1 t0_0) (XH m c t0_0) (XS m c t0_0) W)
  isplitl [Hh' Hs' Hg0 Hg1 Hg2 Hg3 Hg Hf HR HW]
  · isplitl [Hh']; · iexact Hh'
    isplitl [Hs']; · iexact Hs'
    isplitl [Hg0]; · iexact Hg0
    isplitl [Hg1]; · iexact Hg1
    isplitl [Hg2]; · iexact Hg2
    isplitl [Hg3]; · iexact Hg3
    isplitl [Hg]; · iexact Hg
    isplitl [Hf]; · iexact Hf
    isplitl [HR]; · iexact HR
    iexact HW
  · iintro ⟨Hh, Hs, Hg, Hd, HR, ⟨%W', HW⟩⟩
    isplitl [Hg Hd HR]
    · isplitl [Hg]; · iexact Hg
      isplitl [Hd]; · iexact Hd
      iexact HR
    isplitl [HW]
    · iexists W'; isplitr; · ipureintro; exact fun _ _ => Or.inl trivial
      iexact HW
    isplitl [Hh]
    · iexists _; isplitr; · ipureintro; exact View.read_rep _ _
      iexact Hh
    iexists _; isplitr; · ipureintro; exact View.read_rep _ _
    iexact Hs

/-! ## The run -/

def intoΦ (c : Dev nD) : sProp 𝕄 := iprop((bigSep Finset.univ (homeP c (XW m c)) ∗ bigSep Finset.univ (freshP c)) ∗ Pipeline.ownSems0 osem c)
def outOfΦ (c : Dev nD) : sProp 𝕄 :=
  iprop((((c : Thread nD τ).loc main_arg1) ↦{fullShare} m ((c : Thread nD τ).loc main_arg1)) ∗ ((c : Thread nD τ).loc main_v0) ↦{fullShare} outG m c)
def u₀ : UU nD τ := (initOf (Pipeline.cells cfgs Cert.Kernel.Gen.cellOf_inj) (Pipeline.launchToks cfgs Cert.Kernel.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = m ((c : Thread nD τ).loc main_arg1) ∧ s.mem ((c : Thread nD τ).loc main_v0) = outG m c
def QC : PUnit × MemSt nD τ sig (Elt F) → Prop := fun r =>
  ∀ c : Dev nD, (∀ w : Fin cfg0.W, r.2.mem ((cfg0.win w).arr.view.loc (c : Thread nD τ)) = finalA m c w) ∧ QY m c r.2

theorem rings_mk (c : Dev nD) :
    iprop((wcellP c 0 ∗ wcellP c 1 ∗ wcellP c 2 ∗ wcellP c 3 ∗ mcellP c 0 ∗ mcellP c 1)
      ∗ (∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f) ⊢ (ringsP c : sProp 𝕄) := by
  iintro ⟨HC, Hw, Hm⟩
  ihave Hw' := (wbuf_split c) $$ Hw
  ihave Hm' := (mbuf_split c) $$ Hm
  icases Hw' with ⟨H0, H1, H2, H3⟩
  icases Hm' with ⟨H4, H5⟩
  isplitl [H0]; · iexact H0
  isplitl [H1]; · iexact H1
  isplitl [H2]; · iexact H2
  isplitl [H3]; · iexact H3
  isplitl [H4]; · iexact H4
  isplitl [H5]; · iexact H5
  iexact HC
theorem rings_rest (c : Dev nD) :
    (ringsP c : sProp 𝕄) ⊢ iprop((wcellP c 0 ∗ wcellP c 1 ∗ wcellP c 2 ∗ wcellP c 3 ∗ mcellP c 0 ∗ mcellP c 1)
      ∗ (∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f) := by
  iintro ⟨H0, H1, H2, H3, H4, H5, HC⟩
  isplitl [HC]; · iexact HC
  isplitl [H0 H1 H2 H3]
  · iapply (wbuf_join c)
    isplitl [H0]; · iexact H0
    isplitl [H1]; · iexact H1
    isplitl [H2]; · iexact H2
    iexact H3
  iapply (mbuf_join c)
  isplitl [H4]; · iexact H4
  iexact H5

set_option backward.isDefEq.respectTransparency.types false in
/-- From any memory with zero counters every weakly fair execution of the program terminates, with the result at `outG`,
    the arguments unchanged and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, w_eq m c]
      unfold intoΦ
      iintro ⟨⟨H0, H1⟩, HS, -, -, -⟩; imodintro
      isplitl [H0 H1 HS]
      · isplitl [H0 H1]
        · isplitl [H0]; · iexact H0
          iapply (o_split m c); iexact H1
        iexact HS
      iempintro)
    (hin := fun c => by
      rw [scopedRest0_eq, show (dats m 0 c).Φ 0 = iprop(bigSep Finset.univ (homeP c (XW m c)) ∗ bigSep Finset.univ (freshP c) ∗ ringsP c) from Φ_before m c]
      unfold intoΦ; rw [ownSems0_eq]
      iintro ⟨⟨⟨H0, H1⟩, HC⟩, Hb⟩
      isplitl [H0]; · iexact H0
      isplitl [H1]; · iexact H1
      iapply (rings_mk c)
      isplitl [HC]; · iexact HC
      iexact Hb)
    (hout := fun c => by
      rw [scopedRest0_eq, show (dats m 0 c).Φ (Fin.last cfg0.N) = iprop(bigSep Finset.univ (homeP c (XW m c)) ∗ donesP m c ∗ ringsP c) from Φ_after m c, ownSems0_eq]
      unfold outOfΦ; rw [← w_eq m c]
      iintro ⟨H0, H1, HR⟩
      isplitl [H0 H1]
      · isplitl [H0]; · iexact H0
        iapply (o_join m c); iexact H1
      iapply (rings_rest c); iexact HR)
    (QY := QY m)
    (hY := fun c s' => by
      unfold outOfΦ
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-- The run in the words of the claims: the result, the three arguments, the counters. -/
theorem run_full : θ_run defs (onTc (τ := τ) (main (F := F))) ⟨m, fun _ => 0, ρ⟩ (fun r => (∀ c : Dev nD,
      r.2.mem ((c : Thread nD τ).loc main_v0) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ hh => ⟨fun c => ⟨(hh.1 c).2.2, ((hh.1 c).1 0).trans (finalA_in m c 0 rfl), (hh.1 c).2.1,
    ((hh.1 c).1 1).trans (finalA_in m c 1 rfl)⟩, hh.2⟩) (run_main m ρ)

end Cert.Proof.Down

end
-- ==== Proof.Frames.lean ====
/-
  The idealized program is the same text as the printed one: their definitions agree by unfolding, so the run proved of
  the one, for any floats, is a run of the other.
-/
module

public import proofs.«01_k».proof.Proof.Launch
public import proofs.«01_k».proof.Proof.Gen.KernelIdeal.Launch

@[expose] public section

noncomputable section

namespace Cert.Proof.Down

open Idealize.ShloMosaic Idealize.ShloMosaic.TcCoe Idealize.SL.Sem

set_option maxRecDepth 100000

variable {F : FTy → Type} [FloatOps F]

theorem cc0_same : @Cert.KernelIdeal.cc0_mhc_mlp_down F _ _ = @Cert.Kernel.cc0_mhc_mlp_down F _ _ := rfl
theorem defs0_same : Cert.KernelIdeal.defs₀ (F := F) = Cert.Kernel.defs₀ (F := F) := by
  delta Cert.KernelIdeal.defs₀ Cert.Kernel.defs₀
  refine congrArg Defs.onTc ?_
  funext x y
  match x, y with
  | 0, (t, s) => rfl
theorem defs_same : Cert.KernelIdeal.defs (F := F) = Cert.Kernel.defs (F := F) := by
  delta Cert.KernelIdeal.defs Cert.Kernel.defs
  rw [defs0_same]
  rfl
theorem main_same : Cert.KernelIdeal.main (F := F) = Cert.Kernel.main (F := F) := rfl

/-- The run of the idealized program: the result, the three arguments, the counters. -/
theorem run_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c : Thread Cert.KernelIdeal.nD Cert.KernelIdeal.τ).loc Cert.KernelIdeal.main_v0) = outG (F := F) m c
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
    ∧ r.2.sem = fun _ => 0) := by
  rw [defs_same, main_same]
  exact run_full (F := F) m ρ

/-- Each program's frame: it terminates, its arguments end unchanged, its counters at zero. -/
theorem frame_kernel : Cert.quiescent_Kernel := fun m ρ _ =>
  (θ_run Cert.Kernel.defs _ _).mono (fun _ hh => ⟨fun c => (hh.1 c).2, hh.2⟩) (run_full (F := Bits) m ρ)
theorem frame_ideal : Cert.quiescent_KernelIdeal := fun m ρ _ =>
  (θ_run Cert.KernelIdeal.defs _ _).mono (fun _ hh => ⟨fun c => (hh.1 c).2, hh.2⟩) (run_ideal (F := Ideal) m ρ)

end Cert.Proof.Down

end
-- ==== Proof.Value.lean ====
/-
  The value over the extended reals: a tile of the result is the rows times the dequantised columns, and the reference's
  one product is the same sum.
-/
module

public import proofs.«01_k».proof.Proof.Frames
public import proofs.«01_k».proof.Proof.Gen.ReferenceIdeal.Value
public import Idealize.ShloMosaic.Lib.Pointwise
public import Idealize.ShloMosaic.Lib.MatmulPlain
public import Idealize.ShloMosaic.Lib.Pipeline.Value

@[expose] public section

set_option maxRecDepth 16384

noncomputable section

namespace Cert.Proof.Down

open Cert.Kernel Cert.Kernel.Gen
open Idealize.ShloMosaic Idealize.ShloMosaic.TcCoe Idealize.SL.Sem
open scoped BigOperators

/-- The product with the dequantised weight: codes times the scale of their 128 x 128 block. -/
def product (H : S256x2304.Idx → EReal) (W : S2304x7168.Idx → EReal) (S : S18x56.Idx → EReal) (i : Fin 256) (j : Fin 7168) : EReal :=
  ∑ r : Fin 2304, H (ix2 i r) * (W (ix2 r j) * S (ix2 (⟨r.val / 128, by have := r.isLt; omega⟩ : Fin 18) (⟨j.val / 128, by have := j.isLt; omega⟩ : Fin 56)))

/-! ## The reference -/

theorem ref_apply (H : Vec Ideal S256x2304 .bf16) (W : Vec Ideal S2304x7168 .fp8e4m3) (S : Vec Ideal S18x56 .f32) (i : Fin 256) (j : Fin 7168) :
    Cert.ReferenceIdeal.Gen.k0_pay1 (F := Ideal) H W S (ix2 i j) = product H W S i j := by
  unfold product
  pointwise [Cert.ReferenceIdeal.Gen.k0_pay1]

/-! ## A dequantised tile -/

theorem deqRow_apply (w : FVec Ideal S2304x256 .fp8e4m3) (o : ℕ) (h0 : S2304x256.Slices ![o, 0] S128x128) (h1 : S2304x256.Slices ![o, 128] S128x128)
    (s : Fin 2 → EReal) (i : Fin 128) (j : Fin 256) (r : Fin 2304) (hr : r.val = o + i.val) :
    deqRow (F := Ideal) w o h0 h1 (s 0) (s 1) (ix2 i j) = w (ix2 r j) * s ⟨j.val / 128, by have := j.isLt; omega⟩ := by
  unfold deqRow
  by_cases hj : j.val < 128
  · refine (concatenate_pair_apply_left (s₁ := S128x128) (s₂ := S128x128) 1 _ _ _ (ix2 i j) rfl (ix2 i (⟨j.val, hj⟩ : Fin 128)) (fun b => by fin_cases b <;> rfl)).trans ?_
    have e : (⟨j.val / 128, by have := j.isLt; omega⟩ : Fin 2) = 0 := Fin.ext (by show j.val / 128 = 0; omega)
    rw [e]
    refine congrArg (· * s 0) (congrArg w (funext fun a => Fin.ext ?_))
    fin_cases a
    · show o + i.val = r.val; omega
    · show 0 + j.val = j.val; omega
  · have hj2 := j.isLt
    refine (concatenate_pair_apply_right (s₁ := S128x128) (s₂ := S128x128) 1 _ _ _ (ix2 i j) rfl rfl (ix2 i (⟨j.val - 128, by omega⟩ : Fin 128)) (fun b hb => by
      fin_cases b
      · rfl
      · exact absurd rfl hb) (by show (j.val - 128) + 128 = j.val; omega)).trans ?_
    have e : (⟨j.val / 128, by have := j.isLt; omega⟩ : Fin 2) = 1 := Fin.ext (by show j.val / 128 = 1; omega)
    rw [e]
    refine congrArg (· * s 1) (congrArg w (funext fun a => Fin.ext ?_))
    fin_cases a
    · show o + i.val = r.val; omega
    · show 128 + (j.val - 128) = j.val; omega

theorem row0_slices (k : Fin 18) : S2304x256.Slices ![128 * k.val, 0] S128x128 := by revert k; decide +kernel
theorem row1_slices (k : Fin 18) : S2304x256.Slices ![128 * k.val, 128] S128x128 := by revert k; decide +kernel

theorem deqTile_rows (w : FVec Ideal S2304x256 .fp8e4m3) (s : Fin 18 → Fin 2 → EReal) : deqTile (F := Ideal) w s
    = concatenate S2304x256 0 (List.ofFn fun k : Fin 18 => (⟨S128x256, deqRow w (128 * k.val) (row0_slices k) (row1_slices k) (s k 0) (s k 1)⟩ : (s : Shape) × (s.Idx → EReal)))
    concatenates_S128x256_S128x256_S128x256_S128x256_S128x256_S128x256_S128x256_S128x256_S128x256_S128x256_S128x256_S128x256_S128x256_S128x256_S128x256_S128x256_S128x256_S128x256_S2304x256_d0 := rfl

theorem deqTile_apply (w : FVec Ideal S2304x256 .fp8e4m3) (s : Fin 18 → Fin 2 → EReal) (r : Fin 2304) (j : Fin 256) :
    deqTile (F := Ideal) w s (ix2 r j) = w (ix2 r j) * s ⟨r.val / 128, by have := r.isLt; omega⟩ ⟨j.val / 128, by have := j.isLt; omega⟩ := by
  have hr := r.isLt
  obtain ⟨k, hk⟩ : ∃ k : Fin 18, k.val = r.val / 128 := ⟨⟨r.val / 128, by omega⟩, rfl⟩
  have ek : (⟨r.val / 128, by omega⟩ : Fin 18) = k := Fin.ext hk.symm
  rw [ek]
  refine (congrFun (deqTile_rows w s) _).trans ((concatenate_ofFn_apply (s₁ := S128x256) 0 (fun k : Fin 18 => deqRow w (128 * k.val) (row0_slices k) (row1_slices k) (s k 0) (s k 1))
    concatenates_S128x256_S128x256_S128x256_S128x256_S128x256_S128x256_S128x256_S128x256_S128x256_S128x256_S128x256_S128x256_S128x256_S128x256_S128x256_S128x256_S128x256_S128x256_S2304x256_d0 rfl 128 rfl (ix2 r j) k
    (by show r.val / 128 = k.val; omega) (ix2 (⟨r.val % 128, Nat.mod_lt _ (by decide)⟩ : Fin 128) j) (by show r.val % 128 = r.val % 128; rfl) (fun b hb => by
      fin_cases b
      · exact absurd rfl hb
      · rfl)).trans ?_)
  exact deqRow_apply w (128 * k.val) _ _ (s k) _ j r (by show r.val = 128 * k.val + r.val % 128; omega)

/-- A tile of the result. -/
theorem mulTile_apply (h : Vec Ideal S256x2304 .bf16) (w : Vec Ideal S1x2304x256 .fp8e4m3) (s : Fin 18 → Fin 2 → EReal) (i j : Fin 256) :
    mulTile (F := Ideal) h w s (ix3 (0 : Fin 1) i j)
      = ∑ r : Fin 2304, h (ix2 i r) * (w (ix3 (0 : Fin 1) r j) * s ⟨r.val / 128, by have := r.isLt; omega⟩ ⟨j.val / 128, by have := j.isLt; omega⟩) := by
  unfold mulTile
  rw [shapeCast_apply _ _ (ix3 (0 : Fin 1) i j) (ix2 i j) (by rw [Shape.rowMajor_val_two, Shape.rowMajor_val_three]; show i.val * 256 + j.val = (0 * 256 + i.val) * 256 + j.val; omega)]
  refine (Ideal.matmul_plain_apply (φ₁ := .bf16) none h _ (constant S256x256 .f32 0) i j).trans ?_
  refine (congrArg₂ (· + ·) Ideal.ofBits_zero_f32 (Finset.sum_congr rfl fun r _ => congrArg (h (ix2 i r) * ·) ?_)).trans (zero_add _)
  refine (deqTile_apply _ s r j).trans (congrArg (· * _) ?_)
  exact shapeCast_apply _ _ (ix2 r j) (ix3 (0 : Fin 1) r j) (by rw [Shape.rowMajor_val_two, Shape.rowMajor_val_three]; show (0 * 2304 + r.val) * 256 + j.val = r.val * 256 + j.val; omega)

/-! ## What the trips load -/

section Loads
variable (m : (ℓ : Loc nD τ sig) → Buf (Elt Ideal) ℓ) (c : Dev nD)

/-- The three arguments. -/
abbrev argH : S256x2304.Idx → EReal := m ((c : Thread nD τ).loc main_arg0)
abbrev argW : S2304x7168.Idx → EReal := m ((c : Thread nD τ).loc main_arg1)
abbrev argS : S18x56.Idx → EReal := m ((c : Thread nD τ).loc main_arg2)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem iblk0_apply (t : Fin cfg0.N) (j : S256x2304.Idx) : (iblk m c 0 t : S256x2304.Idx → EReal) j = argH m c j := by
  obtain ⟨e0, e1⟩ := idx0 t
  refine congrArg (argH m c) (funext fun a => Fin.ext ?_)
  match a with
  | ⟨0, _⟩ => show win0_0.index t (0 : Fin 2) * 256 + 1 * (j 0).val = (j 0).val; omega
  | ⟨1, _⟩ => show win0_0.index t (1 : Fin 2) * 2304 + 1 * (j 1).val = (j 1).val; omega
theorem iblk1_apply (t : Fin cfg0.N) (j : S18x56.Idx) : (iblk m c 1 t : S18x56.Idx → EReal) j = argS m c j := by
  obtain ⟨e0, e1⟩ := idx1 t
  refine congrArg (argS m c) (funext fun a => Fin.ext ?_)
  match a with
  | ⟨0, _⟩ => show win0_1.index t (0 : Fin 2) * 18 + 1 * (j 0).val = (j 0).val; omega
  | ⟨1, _⟩ => show win0_1.index t (1 : Fin 2) * 56 + 1 * (j 1).val = (j 1).val; omega

theorem hload_apply (t : Fin cfg0.N) (i : Fin 256) (r : Fin 2304) : hload (F := Ideal) c (st0 t) (XH m c t) (ix2 i r) = argH m c (ix2 i r) := by
  unfold hload
  rw [View.readAt_apply, View.read_rep]
  refine (iblk0_apply m c t _).trans (congrArg (argH m c) (funext fun a => Fin.ext ?_))
  fin_cases a
  · show 0 + 1 * i.val = i.val; omega
  · show 0 + 1 * r.val = r.val; omega

theorem scal_apply (t : Fin cfg0.N) (k : Fin k0_t1_loop.trips) (n : Fin 4) (i : Fin 18) (r : Fin 2) (q : Fin 56) (hq : q.val = 8 * k.val + 2 * n.val + r.val) :
    scal (F := Ideal) c (st1 t) (XS m c t) k n i r = argS m c (ix2 i q) := by
  unfold scal
  rw [View.readAt_apply, View.read_rep]
  refine (iblk1_apply m c t _).trans (congrArg (argS m c) (funext fun a => Fin.ext ?_))
  fin_cases a
  · show scOff k (BitVec.ofNat 32 (2 * n.val)) (BitVec.ofNat 32 r.val) i 0 + 1 * 0 = i.val
    rw [scOff_eq]; rfl
  · show scOff k (BitVec.ofNat 32 (2 * n.val)) (BitVec.ofNat 32 r.val) i 1 + 1 * 0 = q.val
    rw [scOff_eq, hq]; rfl

/-- A weight slot read at an element: the buffer at the slot's number and the element's coordinates. -/
theorem wslot_read (s : Fin 4) (f : Buf (Elt Ideal) ((wslot s).view.loc (c : Thread nD τ))) (y : S2304x1024.Idx) (i : S4x2304x1024.Idx)
    (h0 : (i 0).val = s.val) (h1 : (i 1).val = (y 0).val) (h2 : (i 2).val = (y 1).val) :
    (wslot s).view.read (Elt Ideal) f y = (f : S4x2304x1024.Idx → EReal) i := by
  have hc : S1x2304x1024.ShapeCasts S2304x1024 := by decide
  have e := congrFun (Memref.read_squeeze_slice (Val := Elt Ideal) wdM (Rect.unit (s := S4x2304x1024) (slotOff s) S1x2304x1024.size (wslot_inb s)) (fun _ => rfl)
    squeezes_S1x2304x1024_S2304x1024 hc f) y
  refine e.trans ((shapeCast_apply _ hc y (ix3 (0 : Fin 1) (y 0 : Fin 2304) (y 1 : Fin 1024)) ?_).trans ?_)
  · rw [Shape.rowMajor_val_two, Shape.rowMajor_val_three]
    show (0 * 2304 + (y 0).val) * 1024 + (y 1).val = (y 0).val * 1024 + (y 1).val
    omega
  · refine congrArg (f : S4x2304x1024.Idx → EReal) (funext fun a => Fin.ext ?_)
    refine (ValueKit.view_emb_slice_whole_unit_val cc0_scratch0 (slotOff s) S1x2304x1024.size (wslot_inb s) (ix3 (0 : Fin 1) (y 0 : Fin 2304) (y 1 : Fin 1024)) a).trans ?_
    fin_cases a
    · show s.val + 0 = (i 0).val; omega
    · show 0 + (y 0).val = (i 1).val; omega
    · show 0 + (y 1).val = (i 2).val; omega

/-- A weight slot read after a copy has written the whole of it. -/
theorem wslot_written (s : Fin 4) (x : S2304x1024.Idx → Elt Ideal .fp8e4m3) (y : S2304x1024.Idx) :
    (wslot s).view.read (Elt Ideal) ((wslot s).view.writes (Elt Ideal) (wslot s).view.junk [⟨Rect.whole S2304x1024, x⟩]) y = x y :=
  congrFun (View.read_writes_whole _ _ _) y

/-- A column block of the weights read at an element. -/
theorem wblk_read (b : Fin 7) (r : Fin 2304) (j : Fin 1024) :
    (wblk b).view.read (Elt Ideal) (XW m c) (ix2 r j) = argW m c (ix2 r (⟨1024 * b.val + j.val, by have := b.isLt; have := j.isLt; omega⟩ : Fin 7168)) := by
  refine congrArg (argW m c) (funext fun a => Fin.ext ?_)
  refine (ValueKit.view_emb_slice_whole_unit_val main_arg1 (colOff b) S2304x1024.size (wcol_inb b) (ix2 r j) a).trans ?_
  fin_cases a
  · show 0 + r.val = r.val; omega
  · rfl

/-- A weight load at an element: its slot at that element. -/
theorem wd_readAt (k : Fin k0_t1_loop.trips) (n : Fin 4) (r : Fin 2304) (j : Fin 256) (q : Fin 1024) (hq : q.val = 256 * n.val + j.val)
    (f : Buf (Elt Ideal) ((wslot (Ring.sl 4 k.val)).view.loc (c : Thread nD τ))) :
    View.readAt (Elt Ideal) wdM.view (Rect.unit (s := S4x2304x1024) (wOff k n) S1x2304x256.size (wOff_inb k n)).toLoadRect f (ix3 (0 : Fin 1) r j)
      = (wslot (Ring.sl 4 k.val)).view.read (Elt Ideal) f (ix2 r q) := by
  refine Eq.trans (b := (f : S4x2304x1024.Idx → EReal) (ix3 (Ring.sl 4 k.val) r q)) ?_ (wslot_read c (Ring.sl 4 k.val) f (ix2 r q) (ix3 (Ring.sl 4 k.val) r q) rfl rfl rfl).symm
  refine congrArg (f : S4x2304x1024.Idx → EReal) (funext fun a => Fin.ext ?_)
  fin_cases a
  · show wOff k n 0 + 1 * 0 = (Ring.sl 4 k.val).val
    rw [wOff_eq]; rfl
  · show wOff k n 1 + 1 * r.val = r.val
    rw [wOff_eq]; show 0 + 1 * r.val = r.val; omega
  · show wOff k n 2 + 1 * j.val = q.val
    rw [wOff_eq]; show 256 * n.val + 1 * j.val = q.val; omega

theorem wload_apply (k : Fin k0_t1_loop.trips) (n : Fin 4) (r : Fin 2304) (j : Fin 256) (q : Fin 7168) (hq : q.val = 1024 * k.val + 256 * n.val + j.val) :
    wload (F := Ideal) c (XW m c) k n (ix3 (0 : Fin 1) r j) = argW m c (ix2 r q) := by
  have hk := Nat.lt_of_lt_of_eq k.isLt trips_eq
  have hn := n.isLt
  have hj := j.isLt
  have hq' : 256 * n.val + j.val < 1024 := by omega
  refine (wd_readAt c k n r j ⟨256 * n.val + j.val, hq'⟩ rfl _).trans ?_
  refine (wslot_written (Ring.sl 4 k.val) _ _).trans ?_
  refine (wblk_read m c (Ring.bk 7 k.val) r ⟨256 * n.val + j.val, hq'⟩).trans (congrArg (fun q => argW m c (ix2 r q)) (Fin.ext ?_))
  show 1024 * (Ring.bk 7 k.val).val + (256 * n.val + j.val) = q.val
  rw [Ring.bk_val (NB := 7) hk]; omega

/-- The result at an index. -/
theorem outG_apply (i : Fin 256) (j : Fin 7168) : (outG m c : S256x7168.Idx → EReal) (ix2 i j) = product (argH m c) (argW m c) (argS m c) i j := by
  have hj := j.isLt
  unfold outG blkOut blkVal outTile
  refine (mulTile_apply _ _ _ i (⟨j.val % 1024 % 256, Nat.mod_lt _ (by decide)⟩ : Fin 256)).trans ?_
  unfold product
  refine Finset.sum_congr rfl fun r _ => ?_
  refine congrArg₂ (· * ·) (hload_apply m c t0_0 i r) (congrArg₂ (· * ·) (wload_apply m c _ _ r _ j ?_) (scal_apply m c t0_0 _ _ _ _ _ ?_))
  · show j.val = 1024 * (j.val / 1024) + 256 * (j.val % 1024 / 256) + j.val % 1024 % 256
    omega
  · show j.val / 128 = 8 * (j.val / 1024) + 2 * (j.val % 1024 / 256) + j.val % 1024 % 256 / 128
    omega

/-- The result is the reference's. -/
theorem outG_eq : outG m c = Cert.ReferenceIdeal.Gen.k0_pay1 (F := Ideal) (argH m c) (argW m c) (argS m c) := by
  funext (y : S256x7168.Idx)
  obtain ⟨i, j, rfl⟩ : ∃ (i : Fin 256) (j : Fin 7168), y = ix2 i j := ⟨y 0, y 1, by funext a; fin_cases a <;> rfl⟩
  exact (outG_apply m c i j).trans (ref_apply _ _ _ i j).symm

end Loads

/-- Kernel and reference compute the same function over the extended reals. -/
theorem algebraic : Cert.algebraic_KernelIdeal_ReferenceIdeal := fun m ρ m' ρ' _ he =>
  ⟨fun c => outG (F := Ideal) m c,
    (θ_run Cert.KernelIdeal.defs _ _).mono (fun _ hh => hh.1) (run_ideal (F := Ideal) m ρ),
    (θ_run Cert.ReferenceIdeal.defs _ _).mono (fun _ hh c => ⟨(hh c).1.trans (by
      rw [(he c).1, (he c).2.1, (he c).2.2]; exact (outG_eq m c).symm), (hh c).2⟩) (Cert.ReferenceIdeal.Value.run (F := Ideal) m' ρ')⟩

end Cert.Proof.Down

end
-- ==== Proof.GuNames.lean ====
/-
  One trip of the gate and up projections' loop: names, pieces, and the run of a trip. (Same text for both printed programs.)
-/
module

public import proofs.«01_k».proof.Defs
public import proofs.«01_k».proof.Proof.Gen.GateUp.Launch
public import proofs.«01_k».proof.Proof.Gen.GateUp.Skeleton
public import proofs.«01_k».proof.Proof.Gen.GateUp.Loops
public import proofs.«01_k».proof.Proof.Gen.GateUp.Points
public import Idealize.ShloMosaic.Lib.Pipeline.KitQuiescent
public import Idealize.ShloMosaic.Lib.Ring
public import Idealize.ShloMosaic.Lib.Ring.Trips
public import Idealize.ShloMosaic.Lib.Tactic

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the body's own copies ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Canonical names: row block `b` of the two weights, the slots that hold them, the slots of the dequantised rows -/

abbrev wgM : Memref sig .tc .hbm S7168x2304 .fp8e4m3 := Memref.whole main_arg3
abbrev wuM : Memref sig .tc .hbm S7168x2304 .fp8e4m3 := Memref.whole main_arg5
abbrev acM : Memref sig .tc .hbm S256x7168 .fp8e4m3 := Memref.whole main_v6_0
abbrev hcM : Memref sig .tc .hbm S256x2304 .fp8e4m3 := Memref.whole main_v6_2
abbrev accM : Memref sig .tc .vmem S2x9x256x256 .f32 := Memref.whole cc0_scratch0
abbrev wguM : Memref sig .tc .vmem S2x2x1024x2304 .fp8e4m3 := Memref.whole cc0_scratch1
abbrev abfM : Memref sig .tc .vmem S2x256x1024 .bf16 := Memref.whole cc0_scratch2
abbrev acodM : Memref sig .tc .vmem S7x256x1024 .fp8e4m3 := Memref.whole cc0_scratch3
abbrev ascM : Memref sig .tc .vmem S256x128 .f32 := Memref.whole cc0_scratch4
abbrev hcodM : Memref sig .tc .vmem S256x2304 .fp8e4m3 := Memref.whole cc0_scratch5

abbrev rowOff (b : Fin 7) : Fin 2 → Nat := ![1024 * b.val, 0]
theorem wrow_inb (b : Fin 7) : ∀ a, rowOff b a + S1024x2304.size a ≤ S7168x2304.size a := by
  have := b.isLt; intro a; fin_cases a
  · show 1024 * b.val + 1024 ≤ 7168; omega
  · show 0 + 2304 ≤ 2304; omega
abbrev gOff (s p : Fin 2) : Fin 4 → Nat := ![s.val, p.val, 0, 0]
theorem gslot_inb (s p : Fin 2) : ∀ a, gOff s p a + S1x1x1024x2304.size a ≤ S2x2x1024x2304.size a := by
  have := s.isLt; have := p.isLt; intro a; fin_cases a
  · show s.val + 1 ≤ 2; omega
  · show p.val + 1 ≤ 2; omega
  · show 0 + 1024 ≤ 1024; omega
  · show 0 + 2304 ≤ 2304; omega
abbrev slotOff (s : Fin 2) : Fin 3 → Nat := ![s.val, 0, 0]
theorem aslot_inb (s : Fin 2) : ∀ a, slotOff s a + S1x256x1024.size a ≤ S2x256x1024.size a := by
  have := s.isLt; intro a; fin_cases a
  · show s.val + 1 ≤ 2; omega
  · show 0 + 256 ≤ 256; omega
  · show 0 + 1024 ≤ 1024; omega
abbrev semOff (s : Fin 2) : Fin 1 → Nat := ![s.val]
theorem sem_inb (s : Fin 2) : ∀ a, semOff s a + S1.size a ≤ S2.size a := by
  have := s.isLt; intro a; fin_cases a; show s.val + 1 ≤ 2; omega

/-- Row block `b` of the gate weight, -/
def wgblk (b : Fin 7) : Memref sig .tc .hbm S1024x2304 .fp8e4m3 :=
  wgM.slice (Rect.unit (s := S7168x2304) (rowOff b) S1024x2304.size (wrow_inb b)) (fun _ => rfl)
/-- and of the up weight. -/
def wublk (b : Fin 7) : Memref sig .tc .hbm S1024x2304 .fp8e4m3 :=
  wuM.slice (Rect.unit (s := S7168x2304) (rowOff b) S1024x2304.size (wrow_inb b)) (fun _ => rfl)
/-- Slot `s` of the weight buffer: its half `p` holds a block of the gate weight (0) or of the up weight (1). -/
def gslot (s p : Fin 2) : Memref sig .tc .vmem S1024x2304 .fp8e4m3 :=
  (wguM.slice (Rect.unit (s := S2x2x1024x2304) (gOff s p) S1x1x1024x2304.size (gslot_inb s p)) (fun _ => rfl)).squeeze S1024x2304 squeezes_S1x1x1024x2304_S1024x2304
/-- Slot `s` of the dequantised rows. -/
def aslot (s : Fin 2) : Memref sig .tc .vmem S256x1024 .bf16 :=
  (abfM.slice (Rect.unit (s := S2x256x1024) (slotOff s) S1x256x1024.size (aslot_inb s)) (fun _ => rfl)).squeeze S256x1024 squeezes_S1x256x1024_S256x1024
/-- The weight slots' DMA semaphores and the result copies'. -/
def gsm (s : Fin 2) : DmaSems sig S_ := (cc0_scratch6.slice (Rect.unit (s := S2) (semOff s) S1.size (sem_inb s))).squeeze S_ squeezes_S1_S_
def csm (s : Fin 2) : DmaSems sig S_ := (cc0_scratch7.slice (Rect.unit (s := S2) (semOff s) S1.size (sem_inb s))).squeeze S_ squeezes_S1_S_

instance (s p : Fin 2) : ClosedOff (gOff s p) := ⟨gOff s p, rfl⟩
instance (s : Fin 2) : ClosedOff (slotOff s) := ⟨slotOff s, rfl⟩
instance (b : Fin 7) : ClosedOff (rowOff b) := ⟨rowOff b, rfl⟩

/-! ### The loop's windows under those names -/

theorem trips_eq : k0_t1_loop.trips = 6 := by decide +kernel

theorem off1_eq : ∀ k : Fin k0_t1_loop.trips, k0_off1 k = semOff (Ring.sl 2 k.val) := by decide +kernel
theorem off60_eq : ∀ k : Fin k0_t1_loop.trips, k0_off60 k = semOff (Ring.sl 2 k.val) := by decide +kernel
theorem off2_eq : ∀ k : Fin k0_t1_loop.trips, k0_off2 k = gOff (Ring.sl 2 k.val) 0 := by decide +kernel
theorem off4_eq : ∀ k : Fin k0_t1_loop.trips, k0_off4 k = gOff (Ring.sl 2 k.val) 1 := by decide +kernel
theorem off61_eq : ∀ k : Fin k0_t1_loop.trips, k0_off61 k = gOff (Ring.sl 2 k.val) 0 := by decide +kernel
theorem off63_eq : ∀ k : Fin k0_t1_loop.trips, k0_off63 k = gOff (Ring.sl 2 k.val) 1 := by decide +kernel
theorem off3_eq : ∀ k : Fin k0_t1_loop.trips, k0_off3 k = rowOff (Ring.bk 7 k.val) := by decide +kernel
theorem off62_eq : ∀ k : Fin k0_t1_loop.trips, k.val + 2 < 7 → k0_off62 k = rowOff (Ring.bk 7 (k.val + 2)) := by decide +kernel
theorem cond1_of_lt : ∀ k : Fin k0_t1_loop.trips, k.val + 2 < 7 → k0_cond1 k = 1#1 := by decide +kernel
theorem cond1_of_le : ∀ k : Fin k0_t1_loop.trips, 7 ≤ k.val + 2 → ¬ k0_cond1 k = 1#1 := by decide +kernel

theorem off8_eq : ∀ k : Fin k0_t1_loop.trips, k0_off8 k = ![(Ring.sl 2 (k.val + 1)).val, 0, 0] := by decide +kernel
instance closed8 (k : Fin k0_t1_loop.trips) : ClosedOff (k0_off8 k) := ⟨![(Ring.sl 2 (k.val + 1)).val, 0, 0], off8_eq k⟩
theorem off10_eq : ∀ k : Fin k0_t1_loop.trips, k0_off10 k = ![(Ring.sl 2 (k.val + 1)).val, 0, 128] := by decide +kernel
instance closed10 (k : Fin k0_t1_loop.trips) : ClosedOff (k0_off10 k) := ⟨![(Ring.sl 2 (k.val + 1)).val, 0, 128], off10_eq k⟩
theorem off12_eq : ∀ k : Fin k0_t1_loop.trips, k0_off12 k = ![(Ring.sl 2 (k.val + 1)).val, 0, 256] := by decide +kernel
instance closed12 (k : Fin k0_t1_loop.trips) : ClosedOff (k0_off12 k) := ⟨![(Ring.sl 2 (k.val + 1)).val, 0, 256], off12_eq k⟩
theorem off14_eq : ∀ k : Fin k0_t1_loop.trips, k0_off14 k = ![(Ring.sl 2 (k.val + 1)).val, 0, 384] := by decide +kernel
instance closed14 (k : Fin k0_t1_loop.trips) : ClosedOff (k0_off14 k) := ⟨![(Ring.sl 2 (k.val + 1)).val, 0, 384], off14_eq k⟩
theorem off16_eq : ∀ k : Fin k0_t1_loop.trips, k0_off16 k = ![(Ring.sl 2 (k.val + 1)).val, 0, 512] := by decide +kernel
instance closed16 (k : Fin k0_t1_loop.trips) : ClosedOff (k0_off16 k) := ⟨![(Ring.sl 2 (k.val + 1)).val, 0, 512], off16_eq k⟩
theorem off18_eq : ∀ k : Fin k0_t1_loop.trips, k0_off18 k = ![(Ring.sl 2 (k.val + 1)).val, 0, 640] := by decide +kernel
instance closed18 (k : Fin k0_t1_loop.trips) : ClosedOff (k0_off18 k) := ⟨![(Ring.sl 2 (k.val + 1)).val, 0, 640], off18_eq k⟩
theorem off20_eq : ∀ k : Fin k0_t1_loop.trips, k0_off20 k = ![(Ring.sl 2 (k.val + 1)).val, 0, 768] := by decide +kernel
instance closed20 (k : Fin k0_t1_loop.trips) : ClosedOff (k0_off20 k) := ⟨![(Ring.sl 2 (k.val + 1)).val, 0, 768], off20_eq k⟩
theorem off22_eq : ∀ k : Fin k0_t1_loop.trips, k0_off22 k = ![(Ring.sl 2 (k.val + 1)).val, 0, 896] := by decide +kernel
instance closed22 (k : Fin k0_t1_loop.trips) : ClosedOff (k0_off22 k) := ⟨![(Ring.sl 2 (k.val + 1)).val, 0, 896], off22_eq k⟩
theorem off23_eq : ∀ k : Fin k0_t1_loop.trips, k0_off23 k = ![(Ring.sl 2 k.val).val, 0, 0, 0] := by decide +kernel
instance closed23 (k : Fin k0_t1_loop.trips) : ClosedOff (k0_off23 k) := ⟨![(Ring.sl 2 k.val).val, 0, 0, 0], off23_eq k⟩
theorem off26_eq : ∀ k : Fin k0_t1_loop.trips, k0_off26 k = ![(Ring.sl 2 k.val).val, 0, 0] := by decide +kernel
instance closed26 (k : Fin k0_t1_loop.trips) : ClosedOff (k0_off26 k) := ⟨![(Ring.sl 2 k.val).val, 0, 0], off26_eq k⟩
theorem off27_eq : ∀ k : Fin k0_t1_loop.trips, k0_off27 k = ![(Ring.sl 2 k.val).val, 1, 0, 0] := by decide +kernel
instance closed27 (k : Fin k0_t1_loop.trips) : ClosedOff (k0_off27 k) := ⟨![(Ring.sl 2 k.val).val, 1, 0, 0], off27_eq k⟩
theorem off28_eq : ∀ k : Fin k0_t1_loop.trips, k0_off28 k = ![(Ring.sl 2 k.val).val, 0, 0, 256] := by decide +kernel
instance closed28 (k : Fin k0_t1_loop.trips) : ClosedOff (k0_off28 k) := ⟨![(Ring.sl 2 k.val).val, 0, 0, 256], off28_eq k⟩
theorem off31_eq : ∀ k : Fin k0_t1_loop.trips, k0_off31 k = ![(Ring.sl 2 k.val).val, 1, 0, 256] := by decide +kernel
instance closed31 (k : Fin k0_t1_loop.trips) : ClosedOff (k0_off31 k) := ⟨![(Ring.sl 2 k.val).val, 1, 0, 256], off31_eq k⟩
theorem off32_eq : ∀ k : Fin k0_t1_loop.trips, k0_off32 k = ![(Ring.sl 2 k.val).val, 0, 0, 512] := by decide +kernel
instance closed32 (k : Fin k0_t1_loop.trips) : ClosedOff (k0_off32 k) := ⟨![(Ring.sl 2 k.val).val, 0, 0, 512], off32_eq k⟩
theorem off35_eq : ∀ k : Fin k0_t1_loop.trips, k0_off35 k = ![(Ring.sl 2 k.val).val, 1, 0, 512] := by decide +kernel
instance closed35 (k : Fin k0_t1_loop.trips) : ClosedOff (k0_off35 k) := ⟨![(Ring.sl 2 k.val).val, 1, 0, 512], off35_eq k⟩
theorem off36_eq : ∀ k : Fin k0_t1_loop.trips, k0_off36 k = ![(Ring.sl 2 k.val).val, 0, 0, 768] := by decide +kernel
instance closed36 (k : Fin k0_t1_loop.trips) : ClosedOff (k0_off36 k) := ⟨![(Ring.sl 2 k.val).val, 0, 0, 768], off36_eq k⟩
theorem off39_eq : ∀ k : Fin k0_t1_loop.trips, k0_off39 k = ![(Ring.sl 2 k.val).val, 1, 0, 768] := by decide +kernel
instance closed39 (k : Fin k0_t1_loop.trips) : ClosedOff (k0_off39 k) := ⟨![(Ring.sl 2 k.val).val, 1, 0, 768], off39_eq k⟩
theorem off40_eq : ∀ k : Fin k0_t1_loop.trips, k0_off40 k = ![(Ring.sl 2 k.val).val, 0, 0, 1024] := by decide +kernel
instance closed40 (k : Fin k0_t1_loop.trips) : ClosedOff (k0_off40 k) := ⟨![(Ring.sl 2 k.val).val, 0, 0, 1024], off40_eq k⟩
theorem off43_eq : ∀ k : Fin k0_t1_loop.trips, k0_off43 k = ![(Ring.sl 2 k.val).val, 1, 0, 1024] := by decide +kernel
instance closed43 (k : Fin k0_t1_loop.trips) : ClosedOff (k0_off43 k) := ⟨![(Ring.sl 2 k.val).val, 1, 0, 1024], off43_eq k⟩
theorem off44_eq : ∀ k : Fin k0_t1_loop.trips, k0_off44 k = ![(Ring.sl 2 k.val).val, 0, 0, 1280] := by decide +kernel
instance closed44 (k : Fin k0_t1_loop.trips) : ClosedOff (k0_off44 k) := ⟨![(Ring.sl 2 k.val).val, 0, 0, 1280], off44_eq k⟩
theorem off47_eq : ∀ k : Fin k0_t1_loop.trips, k0_off47 k = ![(Ring.sl 2 k.val).val, 1, 0, 1280] := by decide +kernel
instance closed47 (k : Fin k0_t1_loop.trips) : ClosedOff (k0_off47 k) := ⟨![(Ring.sl 2 k.val).val, 1, 0, 1280], off47_eq k⟩
theorem off48_eq : ∀ k : Fin k0_t1_loop.trips, k0_off48 k = ![(Ring.sl 2 k.val).val, 0, 0, 1536] := by decide +kernel
instance closed48 (k : Fin k0_t1_loop.trips) : ClosedOff (k0_off48 k) := ⟨![(Ring.sl 2 k.val).val, 0, 0, 1536], off48_eq k⟩
theorem off51_eq : ∀ k : Fin k0_t1_loop.trips, k0_off51 k = ![(Ring.sl 2 k.val).val, 1, 0, 1536] := by decide +kernel
instance closed51 (k : Fin k0_t1_loop.trips) : ClosedOff (k0_off51 k) := ⟨![(Ring.sl 2 k.val).val, 1, 0, 1536], off51_eq k⟩
theorem off52_eq : ∀ k : Fin k0_t1_loop.trips, k0_off52 k = ![(Ring.sl 2 k.val).val, 0, 0, 1792] := by decide +kernel
instance closed52 (k : Fin k0_t1_loop.trips) : ClosedOff (k0_off52 k) := ⟨![(Ring.sl 2 k.val).val, 0, 0, 1792], off52_eq k⟩
theorem off55_eq : ∀ k : Fin k0_t1_loop.trips, k0_off55 k = ![(Ring.sl 2 k.val).val, 1, 0, 1792] := by decide +kernel
instance closed55 (k : Fin k0_t1_loop.trips) : ClosedOff (k0_off55 k) := ⟨![(Ring.sl 2 k.val).val, 1, 0, 1792], off55_eq k⟩
theorem off56_eq : ∀ k : Fin k0_t1_loop.trips, k0_off56 k = ![(Ring.sl 2 k.val).val, 0, 0, 2048] := by decide +kernel
instance closed56 (k : Fin k0_t1_loop.trips) : ClosedOff (k0_off56 k) := ⟨![(Ring.sl 2 k.val).val, 0, 0, 2048], off56_eq k⟩
theorem off59_eq : ∀ k : Fin k0_t1_loop.trips, k0_off59 k = ![(Ring.sl 2 k.val).val, 1, 0, 2048] := by decide +kernel
instance closed59 (k : Fin k0_t1_loop.trips) : ClosedOff (k0_off59 k) := ⟨![(Ring.sl 2 k.val).val, 1, 0, 2048], off59_eq k⟩

private theorem gsm_congr {off : Fin 1 → Nat} {s : Fin 2} (e : off = semOff s) (hh) :
    (cc0_scratch6.slice (Rect.unit (s := S2) off S1.size hh)).squeeze S_ squeezes_S1_S_ = gsm s :=
  congrArg (fun A : DmaSems sig S1 => A.squeeze S_ squeezes_S1_S_) (SemArray.slice_unit_congr _ e _ _)
private theorem csm_congr {off : Fin 1 → Nat} {s : Fin 2} (e : off = semOff s) (hh) :
    (cc0_scratch7.slice (Rect.unit (s := S2) off S1.size hh)).squeeze S_ squeezes_S1_S_ = csm s :=
  congrArg (fun A : DmaSems sig S1 => A.squeeze S_ squeezes_S1_S_) (SemArray.slice_unit_congr _ e _ _)
private theorem gslot_congr {off : Fin 4 → Nat} {s p : Fin 2} (e : off = gOff s p) (hh hs) :
    (wguM.slice (Rect.unit (s := S2x2x1024x2304) off S1x1x1024x2304.size hh) hs).squeeze S1024x2304 squeezes_S1x1x1024x2304_S1024x2304 = gslot s p :=
  congrArg (fun M : Memref sig .tc .vmem S1x1x1024x2304 .fp8e4m3 => M.squeeze S1024x2304 squeezes_S1x1x1024x2304_S1024x2304) (Memref.slice_unit_congr _ e _ _ _ _)
private theorem wgblk_congr {off : Fin 2 → Nat} {b : Fin 7} (e : off = rowOff b) (hh hs) :
    wgM.slice (Rect.unit (s := S7168x2304) off S1024x2304.size hh) hs = wgblk b := Memref.slice_unit_congr _ e _ _ _ (fun _ => rfl)
private theorem wublk_congr {off : Fin 2 → Nat} {b : Fin 7} (e : off = rowOff b) (hh hs) :
    wuM.slice (Rect.unit (s := S7168x2304) off S1024x2304.size hh) hs = wublk b := Memref.slice_unit_congr _ e _ _ _ (fun _ => rfl)

section Canon
@[sl_canon] theorem gsL0 (hh) : (cc0_scratch6.slice (Rect.unit (s := S2) ![0] S1.size hh)).squeeze S_ squeezes_S1_S_ = gsm 0 := gsm_congr (by decide) _
@[sl_canon] theorem csL0 (hh) : (cc0_scratch7.slice (Rect.unit (s := S2) ![0] S1.size hh)).squeeze S_ squeezes_S1_S_ = csm 0 := csm_congr (by decide) _
@[sl_canon] theorem gsL1 (hh) : (cc0_scratch6.slice (Rect.unit (s := S2) ![1] S1.size hh)).squeeze S_ squeezes_S1_S_ = gsm 1 := gsm_congr (by decide) _
@[sl_canon] theorem csL1 (hh) : (cc0_scratch7.slice (Rect.unit (s := S2) ![1] S1.size hh)).squeeze S_ squeezes_S1_S_ = csm 1 := csm_congr (by decide) _
@[sl_canon] theorem glL00 (hh hs) : (wguM.slice (Rect.unit (s := S2x2x1024x2304) ![0, 0, 0, 0] S1x1x1024x2304.size hh) hs).squeeze S1024x2304 squeezes_S1x1x1024x2304_S1024x2304 = gslot 0 0 := gslot_congr (by decide) _ _
@[sl_canon] theorem glL01 (hh hs) : (wguM.slice (Rect.unit (s := S2x2x1024x2304) ![0, 1, 0, 0] S1x1x1024x2304.size hh) hs).squeeze S1024x2304 squeezes_S1x1x1024x2304_S1024x2304 = gslot 0 1 := gslot_congr (by decide) _ _
@[sl_canon] theorem glL10 (hh hs) : (wguM.slice (Rect.unit (s := S2x2x1024x2304) ![1, 0, 0, 0] S1x1x1024x2304.size hh) hs).squeeze S1024x2304 squeezes_S1x1x1024x2304_S1024x2304 = gslot 1 0 := gslot_congr (by decide) _ _
@[sl_canon] theorem glL11 (hh hs) : (wguM.slice (Rect.unit (s := S2x2x1024x2304) ![1, 1, 0, 0] S1x1x1024x2304.size hh) hs).squeeze S1024x2304 squeezes_S1x1x1024x2304_S1024x2304 = gslot 1 1 := gslot_congr (by decide) _ _
@[sl_canon] theorem wgL0 (hh hs) : wgM.slice (Rect.unit (s := S7168x2304) ![0, 0] S1024x2304.size hh) hs = wgblk 0 := wgblk_congr (by decide) _ _
@[sl_canon] theorem wuL0 (hh hs) : wuM.slice (Rect.unit (s := S7168x2304) ![0, 0] S1024x2304.size hh) hs = wublk 0 := wublk_congr (by decide) _ _
@[sl_canon] theorem wgL1 (hh hs) : wgM.slice (Rect.unit (s := S7168x2304) ![1024, 0] S1024x2304.size hh) hs = wgblk 1 := wgblk_congr (by decide) _ _
@[sl_canon] theorem wuL1 (hh hs) : wuM.slice (Rect.unit (s := S7168x2304) ![1024, 0] S1024x2304.size hh) hs = wublk 1 := wublk_congr (by decide) _ _
@[sl_canon] theorem wgL6 (hh hs) : wgM.slice (Rect.unit (s := S7168x2304) ![6144, 0] S1024x2304.size hh) hs = wgblk 6 := wgblk_congr (by decide) _ _
@[sl_canon] theorem wuL6 (hh hs) : wuM.slice (Rect.unit (s := S7168x2304) ![6144, 0] S1024x2304.size hh) hs = wublk 6 := wublk_congr (by decide) _ _

variable (k : Fin k0_t1_loop.trips)
@[sl_canon] theorem gsK1 (hh) : (cc0_scratch6.slice (Rect.unit (s := S2) (k0_off1 k) S1.size hh)).squeeze S_ squeezes_S1_S_ = gsm (Ring.sl 2 k.val) := gsm_congr (off1_eq k) _
@[sl_canon] theorem gsK60 (hh) : (cc0_scratch6.slice (Rect.unit (s := S2) (k0_off60 k) S1.size hh)).squeeze S_ squeezes_S1_S_ = gsm (Ring.sl 2 k.val) := gsm_congr (off60_eq k) _
@[sl_canon] theorem glK2 (hh hs) : (wguM.slice (Rect.unit (s := S2x2x1024x2304) (k0_off2 k) S1x1x1024x2304.size hh) hs).squeeze S1024x2304 squeezes_S1x1x1024x2304_S1024x2304 = gslot (Ring.sl 2 k.val) 0 := gslot_congr (off2_eq k) _ _
@[sl_canon] theorem glK4 (hh hs) : (wguM.slice (Rect.unit (s := S2x2x1024x2304) (k0_off4 k) S1x1x1024x2304.size hh) hs).squeeze S1024x2304 squeezes_S1x1x1024x2304_S1024x2304 = gslot (Ring.sl 2 k.val) 1 := gslot_congr (off4_eq k) _ _
@[sl_canon] theorem glK61 (hh hs) : (wguM.slice (Rect.unit (s := S2x2x1024x2304) (k0_off61 k) S1x1x1024x2304.size hh) hs).squeeze S1024x2304 squeezes_S1x1x1024x2304_S1024x2304 = gslot (Ring.sl 2 k.val) 0 := gslot_congr (off61_eq k) _ _
@[sl_canon] theorem glK63 (hh hs) : (wguM.slice (Rect.unit (s := S2x2x1024x2304) (k0_off63 k) S1x1x1024x2304.size hh) hs).squeeze S1024x2304 squeezes_S1x1x1024x2304_S1024x2304 = gslot (Ring.sl 2 k.val) 1 := gslot_congr (off63_eq k) _ _
@[sl_canon] theorem wgK3 (hh hs) : wgM.slice (Rect.unit (s := S7168x2304) (k0_off3 k) S1024x2304.size hh) hs = wgblk (Ring.bk 7 k.val) := wgblk_congr (off3_eq k) _ _
@[sl_canon] theorem wgK62 (h2 : k.val + 2 < 7) (hh hs) : wgM.slice (Rect.unit (s := S7168x2304) (k0_off62 k) S1024x2304.size hh) hs = wgblk (Ring.bk 7 (k.val + 2)) := wgblk_congr (off62_eq k h2) _ _
@[sl_canon] theorem wuK3 (hh hs) : wuM.slice (Rect.unit (s := S7168x2304) (k0_off3 k) S1024x2304.size hh) hs = wublk (Ring.bk 7 k.val) := wublk_congr (off3_eq k) _ _
@[sl_canon] theorem wuK62 (h2 : k.val + 2 < 7) (hh hs) : wuM.slice (Rect.unit (s := S7168x2304) (k0_off62 k) S1024x2304.size hh) hs = wublk (Ring.bk 7 (k.val + 2)) := wublk_congr (off62_eq k h2) _ _
end Canon

/-! ## The pieces -/

section Pieces
variable (c : Dev nD) (XG : Buf (Elt F) (wgM.view.loc (c : Thread nD τ))) (XP : Buf (Elt F) (wuM.view.loc (c : Thread nD τ)))

abbrev gcellP (s : Fin 2) : sProp 𝕄 := semVal ((c : Thread nD τ), SemLoc.dma (gsm s).sem) 0
abbrev ccellP (s : Fin 2) : sProp 𝕄 := semVal ((c : Thread nD τ), SemLoc.dma (csm s).sem) 0
abbrev gslotP (s p : Fin 2) (f : Buf (Elt F) ((gslot s p).view.loc (c : Thread nD τ))) : sProp 𝕄 :=
  (gslot s p).view.loc (c : Thread nD τ) ↦[(gslot s p).view.set]{fullShare} f
abbrev aslotP (s : Fin 2) (f : Buf (Elt F) (abfM.view.loc (c : Thread nD τ))) : sProp 𝕄 :=
  (aslot s).view.loc (c : Thread nD τ) ↦[(aslot s).view.set]{fullShare} f
/-- Row block `b` of the gate weight at home, and of the up weight. -/
abbrev homeG (b : Fin 7) : sProp 𝕄 := (wgblk b).view.loc (c : Thread nD τ) ↦[(wgblk b).view.set]{fullShare} XG
abbrev homeU (b : Fin 7) : sProp 𝕄 := (wublk b).view.loc (c : Thread nD τ) ↦[(wublk b).view.set]{fullShare} XP
/-- What block `b`'s copies leave in slot `s` over prior contents `f`. -/
abbrev landedG (s : Fin 2) (b : Fin 7) (f : Buf (Elt F) ((gslot s 0).view.loc (c : Thread nD τ))) : Buf (Elt F) ((gslot s 0).view.loc (c : Thread nD τ)) :=
  (gslot s 0).view.writes (Elt F) f [⟨Rect.whole S1024x2304, ReadAs.same.apply ((wgblk b).view.read (Elt F) XG)⟩]
abbrev landedU (s : Fin 2) (b : Fin 7) (f : Buf (Elt F) ((gslot s 1).view.loc (c : Thread nD τ))) : Buf (Elt F) ((gslot s 1).view.loc (c : Thread nD τ)) :=
  (gslot s 1).view.writes (Elt F) f [⟨Rect.whole S1024x2304, ReadAs.same.apply ((wublk b).view.read (Elt F) XP)⟩]
/-- Slot `s` in flight with block `b` of both weights, issued over `f` and `f'`. -/
abbrev gflightP (s : Fin 2) (b : Fin 7) (f : Buf (Elt F) ((gslot s 0).view.loc (c : Thread nD τ))) (f' : Buf (Elt F) ((gslot s 1).view.loc (c : Thread nD τ))) : sProp 𝕄 :=
  Transfers.Batched countersEmb (c : Thread nD τ) (SemLoc.dma (gsm s).sem) () 73728 2
    [iprop(gslotP c s 0 (landedG c XG s b f) ∗ homeG c XG b), iprop(gslotP c s 1 (landedU c XP s b f') ∗ homeU c XP b)] 0
abbrev accP (A : Buf (Elt F) (accM.view.loc (c : Thread nD τ))) : sProp 𝕄 := accM.view.loc (c : Thread nD τ) ↦[accM.view.set]{fullShare} A
abbrev acodP (A : Buf (Elt F) (acodM.view.loc (c : Thread nD τ))) : sProp 𝕄 := acodM.view.loc (c : Thread nD τ) ↦[acodM.view.set]{fullShare} A
abbrev ascP (A : Buf (Elt F) (ascM.view.loc (c : Thread nD τ))) : sProp 𝕄 := ascM.view.loc (c : Thread nD τ) ↦[ascM.view.set]{fullShare} A
abbrev hcodP (A : Buf (Elt F) (hcodM.view.loc (c : Thread nD τ))) : sProp 𝕄 := hcodM.view.loc (c : Thread nD τ) ↦[hcodM.view.set]{fullShare} A
end Pieces

end Cert.Proof.GateUp
end
-- ==== Proof.GuVals.lean ====
/-
  What the gate and up program computes, piece by piece: the quantiser, a dequantised weight tile, a product. (Same text for both printed programs.)
-/
module

public import proofs.«01_k».proof.Proof.GuNames

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The quantiser, on 256 rows of 128 -/

/-- One lane of the normalised activations. -/
def yv (u : Vec F S1x256x128 .f32) (r : Vec F S256x128 .f32) (g : Vec F S1x128 .f32) : FVec F S256x128 .f32 :=
  mulf (mulf (shapeCast S256x128 u shapeCasts_S1x256x128_S256x128) (shapeCast S256x128 r shapeCasts_S256x128_S256x128))
    (broadcastTo S256x128 (shapeCast S1x128 g shapeCasts_S1x128_S1x128) broadcasts_S1x128_S256x128)

/-- The largest magnitude of each row over 448. -/
def mv (y : FVec F S256x128 .f32) : FVec F S256x1 .f32 :=
  mulf (shapeCast S256x1 (multiReduction .maximumf [1] S256 (absf y) 0xFF800000#32 reduces_S256x128_S256 (.inl rfl) rfl) shapeCasts_S256_S256x1)
    (broadcast S256x1 (Scalar.ofBits .f32 0x3B124925#32))
/-- The exponent of each row's scale, less one. -/
def ev (y : FVec F S256x128 .f32) : FVec F S256x1 .f32 :=
  select (cmpf .oeq (mv y) (broadcast S256x1 (Scalar.ofBits .f32 0x00000000#32))) (broadcast S256x1 (Scalar.ofBits .f32 0xBF800000#32))
    (floor (divf (log (mv y)) (log (broadcast S256x1 (Scalar.ofBits .f32 0x40000000#32)))))
/-- The scales, each across its row; -/
def scv (y : FVec F S256x128 .f32) : FVec F S256x128 .f32 :=
  broadcastTo S256x128 (shapeCast S256x1 (exp2 (addf (ev y) (broadcast S256x1 (Scalar.ofBits .f32 0x3F800000#32)))) shapeCasts_S256x1_S256x1) broadcasts_S256x1_S256x128
/-- the codes; -/
def codv (y : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf y (broadcastTo S256x128 (exp2 (subf (broadcast S256x1 (Scalar.ofBits .f32 0xBF800000#32)) (ev y))) broadcasts_S256x1_S256x128)))) bitsLt_fp8e4m3_f32
/-- and the dequantised values. -/
def deqv (y : FVec F S256x128 .f32) : FVec F S256x128 .bf16 :=
  mulf (extf .bf16 (codv y) bitsLt_fp8e4m3_bf16) (truncf .bf16 (scv y) bitsLt_bf16_f32)
/-- Column numbers, -/
def laneI : IVec S256x128 32 := iota Kind.tc S256x128 32 [1] iota_S256x128_d1_w32
/-- and a column of scales put into its place. -/
def scPut (w : BitVec 32) (s t : FVec F S256x128 .f32) : FVec F S256x128 .f32 := select (cmpi .eq laneI (broadcast S256x128 w)) s t

/-! ## A dequantised weight tile and a product -/

/-- 128 rows of a tile: two 128 x 128 blocks of codes, each times its own scale. -/
def wRow (w : FVec F S1024x256 .fp8e4m3) (o : ℕ) (h0 : S1024x256.Slices ![o, 0] S128x128) (h1 : S1024x256.Slices ![o, 128] S128x128)
    (s0 s1 : Elt F .f32) : FVec F S128x256 .bf16 :=
  concatenate S128x256 1
    [⟨S128x128, mulf (extf .bf16 (extractStridedSlice S128x128 ![o, 0] w h0) bitsLt_fp8e4m3_bf16)
      (truncf .bf16 (broadcast S128x128 s0) bitsLt_bf16_f32)⟩,
     ⟨S128x128, mulf (extf .bf16 (extractStridedSlice S128x128 ![o, 128] w h1) bitsLt_fp8e4m3_bf16)
      (truncf .bf16 (broadcast S128x128 s1) bitsLt_bf16_f32)⟩] concatenates_S128x128_S128x128_S128x256_d1
/-- A tile: eight such rows of blocks, block `(i, r)` under scale `s i r`. -/
def wTile (w : FVec F S1024x256 .fp8e4m3) (s : Fin 8 → Fin 2 → Elt F .f32) : FVec F S1024x256 .bf16 :=
  concatenate S1024x256 0 [
⟨S128x256, wRow w 0 slices_S1024x256_o0_0_S128x128 slices_S1024x256_o0_128_S128x128 (s 0 0) (s 0 1)⟩,
    ⟨S128x256, wRow w 128 slices_S1024x256_o128_0_S128x128 slices_S1024x256_o128_128_S128x128 (s 1 0) (s 1 1)⟩,
    ⟨S128x256, wRow w 256 slices_S1024x256_o256_0_S128x128 slices_S1024x256_o256_128_S128x128 (s 2 0) (s 2 1)⟩,
    ⟨S128x256, wRow w 384 slices_S1024x256_o384_0_S128x128 slices_S1024x256_o384_128_S128x128 (s 3 0) (s 3 1)⟩,
    ⟨S128x256, wRow w 512 slices_S1024x256_o512_0_S128x128 slices_S1024x256_o512_128_S128x128 (s 4 0) (s 4 1)⟩,
    ⟨S128x256, wRow w 640 slices_S1024x256_o640_0_S128x128 slices_S1024x256_o640_128_S128x128 (s 5 0) (s 5 1)⟩,
    ⟨S128x256, wRow w 768 slices_S1024x256_o768_0_S128x128 slices_S1024x256_o768_128_S128x128 (s 6 0) (s 6 1)⟩,
    ⟨S128x256, wRow w 896 slices_S1024x256_o896_0_S128x128 slices_S1024x256_o896_128_S128x128 (s 7 0) (s 7 1)⟩]
    concatenates_S128x256_S128x256_S128x256_S128x256_S128x256_S128x256_S128x256_S128x256_S1024x256_d0

/-- 1024 dequantised columns of the rows times a dequantised tile. -/
def gTile (a : Vec F S1x256x1024 .bf16) (w : Vec F S1x1x1024x256 .fp8e4m3) (s : Fin 8 → Fin 2 → Elt F .f32) : FVec F S256x256 .f32 :=
  matmul dot_S256x1024_S1024x256_S256x256_1_0_0_1_n_n none (shapeCast S256x1024 a shapeCasts_S1x256x1024_S256x1024)
    (wTile (shapeCast S1024x256 w shapeCasts_S1x1x1024x256_S1024x256) s) (constant S256x256 .f32 0x00000000#32)
/-- An accumulator tile, read and added to. -/
def accAdd (old : Vec F S1x1x256x256 .f32) (a : Vec F S1x256x1024 .bf16) (w : Vec F S1x1x1024x256 .fp8e4m3) (s : Fin 8 → Fin 2 → Elt F .f32) : FVec F S256x256 .f32 :=
  addf (shapeCast S256x256 old shapeCasts_S1x1x256x256_S256x256) (gTile a w s)
def accSt (old : Vec F S1x1x256x256 .f32) (a : Vec F S1x256x1024 .bf16) (w : Vec F S1x1x1024x256 .fp8e4m3) (s : Fin 8 → Fin 2 → Elt F .f32) : FVec F S1x1x256x256 .f32 :=
  shapeCast S1x1x256x256 (accAdd old a w s) shapeCasts_S256x256_S1x1x256x256

/-! ## What a trip loads -/

def wOff (k : Fin k0_t1_loop.trips) (n : Fin 9) (p : Fin 2) : Fin 4 → ℕ :=
  match n.val, p.val with
  | 0, 0 => k0_off23 k
  | 0, 1 => k0_off27 k
  | 1, 0 => k0_off28 k
  | 1, 1 => k0_off31 k
  | 2, 0 => k0_off32 k
  | 2, 1 => k0_off35 k
  | 3, 0 => k0_off36 k
  | 3, 1 => k0_off39 k
  | 4, 0 => k0_off40 k
  | 4, 1 => k0_off43 k
  | 5, 0 => k0_off44 k
  | 5, 1 => k0_off47 k
  | 6, 0 => k0_off48 k
  | 6, 1 => k0_off51 k
  | 7, 0 => k0_off52 k
  | 7, 1 => k0_off55 k
  | 8, 0 => k0_off56 k
  | 8, 1 => k0_off59 k
  | _, _ => k0_off23 k

theorem wOff_eq (k : Fin k0_t1_loop.trips) (n : Fin 9) (p : Fin 2) : wOff k n p = ![(Ring.sl 2 k.val).val, p.val, 0, 256 * n.val] := by
  fin_cases n <;> fin_cases p
  · exact off23_eq k
  · exact off27_eq k
  · exact off28_eq k
  · exact off31_eq k
  · exact off32_eq k
  · exact off35_eq k
  · exact off36_eq k
  · exact off39_eq k
  · exact off40_eq k
  · exact off43_eq k
  · exact off44_eq k
  · exact off47_eq k
  · exact off48_eq k
  · exact off51_eq k
  · exact off52_eq k
  · exact off55_eq k
  · exact off56_eq k
  · exact off59_eq k

theorem wOff_inb (k : Fin k0_t1_loop.trips) (n : Fin 9) (p : Fin 2) : ∀ a, wOff k n p a + S1x1x1024x256.size a ≤ S2x2x1024x2304.size a := by
  rw [wOff_eq]; have := (Ring.sl 2 k.val).isLt; have := n.isLt; have := p.isLt; intro a; fin_cases a
  · show (Ring.sl 2 k.val).val + 1 ≤ 2; omega
  · show p.val + 1 ≤ 2; omega
  · show 0 + 1024 ≤ 1024; omega
  · show 256 * n.val + 256 ≤ 2304; omega

def scOff (k : Fin k0_t1_loop.trips) (n : Fin 9) (h : Fin 2) (i : BitVec 32) : Fin 2 → ℕ :=
  match n.val, h.val with
  | 0, 0 => k0_off24 k i
  | 0, 1 => k0_off25 k i
  | 1, 0 => k0_off29 k i
  | 1, 1 => k0_off30 k i
  | 2, 0 => k0_off33 k i
  | 2, 1 => k0_off34 k i
  | 3, 0 => k0_off37 k i
  | 3, 1 => k0_off38 k i
  | 4, 0 => k0_off41 k i
  | 4, 1 => k0_off42 k i
  | 5, 0 => k0_off45 k i
  | 5, 1 => k0_off46 k i
  | 6, 0 => k0_off49 k i
  | 6, 1 => k0_off50 k i
  | 7, 0 => k0_off53 k i
  | 7, 1 => k0_off54 k i
  | 8, 0 => k0_off57 k i
  | 8, 1 => k0_off58 k i
  | _, _ => k0_off24 k i

theorem scOff_eq (k : Fin k0_t1_loop.trips) (n : Fin 9) (h : Fin 2) (i : Fin 8) : scOff k n h (BitVec.ofNat 32 i.val) = ![2 * n.val + h.val, 8 * k.val + i.val] := by
  fin_cases n <;> fin_cases h
  · exact k0_off24_eq k i
  · exact k0_off25_eq k i
  · exact k0_off29_eq k i
  · exact k0_off30_eq k i
  · exact k0_off33_eq k i
  · exact k0_off34_eq k i
  · exact k0_off37_eq k i
  · exact k0_off38_eq k i
  · exact k0_off41_eq k i
  · exact k0_off42_eq k i
  · exact k0_off45_eq k i
  · exact k0_off46_eq k i
  · exact k0_off49_eq k i
  · exact k0_off50_eq k i
  · exact k0_off53_eq k i
  · exact k0_off54_eq k i
  · exact k0_off57_eq k i
  · exact k0_off58_eq k i

theorem scOff_inb (k : Fin k0_t1_loop.trips) (n : Fin 9) (h : Fin 2) (i : Fin 8) : ∀ a, scOff k n h (BitVec.ofNat 32 i.val) a + S1x1.size a ≤ S18x56.size a := by
  rw [scOff_eq]; have := n.isLt; have := h.isLt; have := i.isLt; have := Nat.lt_of_lt_of_eq k.isLt trips_eq; intro a; fin_cases a
  · show 2 * n.val + h.val + 1 ≤ 18; omega
  · show 8 * k.val + i.val + 1 ≤ 56; omega
theorem uOff_inb (k : Fin k0_t1_loop.trips) (l : Fin 8) : ∀ a, k0_off5 k (BitVec.ofNat 32 l.val) a + S1x256x128.size a ≤ S56x256x128.size a := by
  rw [k0_off5_eq k l]; have := l.isLt; have := Nat.lt_of_lt_of_eq k.isLt trips_eq; intro a; fin_cases a
  · show 8 * k.val + l.val + 8 + 1 ≤ 56; omega
  · show 0 + 256 ≤ 256; omega
  · show 0 + 128 ≤ 128; omega
theorem mOff_inb (k : Fin k0_t1_loop.trips) (l : Fin 8) : ∀ a, k0_off6 k (BitVec.ofNat 32 l.val) a + S1x128.size a ≤ S56x128.size a := by
  rw [k0_off6_eq k l]; have := l.isLt; have := Nat.lt_of_lt_of_eq k.isLt trips_eq; intro a; fin_cases a
  · show 8 * k.val + l.val + 8 + 1 ≤ 56; omega
  · show 0 + 128 ≤ 128; omega

section Loads
variable (c : Dev nD) (XG : Buf (Elt F) (wgM.view.loc (c : Thread nD τ))) (XP : Buf (Elt F) (wuM.view.loc (c : Thread nD τ)))
  (arg0 : Memref sig .tc .vmem S56x256x128 .f32) (harg0 : arg0.IsWhole) (arg1 : Memref sig .tc .vmem S256x128 .f32) (harg1 : arg1.IsWhole)
  (arg2 : Memref sig .tc .vmem S56x128 .f32) (harg2 : arg2.IsWhole) (arg4 : Memref sig .tc .smem S18x56 .f32) (harg4 : arg4.IsWhole)
  (arg6 : Memref sig .tc .smem S18x56 .f32) (harg6 : arg6.IsWhole) (arg8 : Memref sig .tc .vmem S2x56x128 .f32) (harg8 : arg8.IsWhole)
  (arg10 : Memref sig .tc .vmem S18x2x128 .f32) (harg10 : arg10.IsWhole) (arg11 : Memref sig .tc .vmem S256x2304 .bf16) (harg11 : arg11.IsWhole)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (fa : Buf (Elt F) (abfM.view.loc (c : Thread nD τ))) (A : Buf (Elt F) (accM.view.loc (c : Thread nD τ)))

def uld (k : Fin k0_t1_loop.trips) (l : Fin 8) : Vec F S1x256x128 .f32 :=
  View.readAt (Elt F) arg0.view (Rect.unit (s := S56x256x128) (k0_off5 k (BitVec.ofNat 32 l.val)) S1x256x128.size (uOff_inb k l)).toLoadRect XU
def rld : Vec F S256x128 .f32 :=
  View.readAt (Elt F) arg1.view (Rect.unit (s := S256x128) ![0, 0] S256x128.size inb_S256x128_S256x128_0_0).toLoadRect XR
def gld (k : Fin k0_t1_loop.trips) (l : Fin 8) : Vec F S1x128 .f32 :=
  View.readAt (Elt F) arg2.view (Rect.unit (s := S56x128) (k0_off6 k (BitVec.ofNat 32 l.val)) S1x128.size (mOff_inb k l)).toLoadRect XM
/-- Lane `l` of chunk `k + 1`. -/
def qy (k : Fin k0_t1_loop.trips) (l : Fin 8) : FVec F S256x128 .f32 := yv (uld c arg0 XU k l) (rld c arg1 XR) (gld c arg2 XM k l)
/-- The number of lane `l` of chunk `k + 1`, as a word. -/
def laneW (k : Fin k0_t1_loop.trips) (l : Fin 8) : BitVec 32 :=
  Scalar.addi (Scalar.muli (Scalar.addi (Scalar.addi 0#32 (Scalar.muli (Scf.iv 0#32 1#32 k.val) 1#32)) 1#32) 8#32) (BitVec.ofNat 32 l.val)
/-- The scales after the lanes of chunk `k + 1`. -/
def scTrip (k : Fin k0_t1_loop.trips) (B : FVec F S256x128 .f32) : FVec F S256x128 .f32 :=
  scPut (laneW k 7) (scv (qy c arg0 arg1 arg2 XU XR XM k 7)) (scPut (laneW k 6) (scv (qy c arg0 arg1 arg2 XU XR XM k 6)) (scPut (laneW k 5) (scv (qy c arg0 arg1 arg2 XU XR XM k 5)) (scPut (laneW k 4) (scv (qy c arg0 arg1 arg2 XU XR XM k 4)) (scPut (laneW k 3) (scv (qy c arg0 arg1 arg2 XU XR XM k 3)) (scPut (laneW k 2) (scv (qy c arg0 arg1 arg2 XU XR XM k 2)) (scPut (laneW k 1) (scv (qy c arg0 arg1 arg2 XU XR XM k 1)) (scPut (laneW k 0) (scv (qy c arg0 arg1 arg2 XU XR XM k 0)) (B))))))))
/-- Tile `n` of the weight blocks held by slot `k` mod 2, gate (0) or up (1), -/
def wldG (k : Fin k0_t1_loop.trips) (n : Fin 9) : Vec F S1x1x1024x256 .fp8e4m3 :=
  View.readAt (Elt F) wguM.view (Rect.unit (s := S2x2x1024x2304) (wOff k n 0) S1x1x1024x256.size (wOff_inb k n 0)).toLoadRect
    ((gslot (Ring.sl 2 k.val) 0).view.writes (Elt F) (gslot (Ring.sl 2 k.val) 0).view.junk
      [⟨Rect.whole S1024x2304, ReadAs.same.apply ((wgblk (Ring.bk 7 k.val)).view.read (Elt F) XG)⟩])
def wldU (k : Fin k0_t1_loop.trips) (n : Fin 9) : Vec F S1x1x1024x256 .fp8e4m3 :=
  View.readAt (Elt F) wguM.view (Rect.unit (s := S2x2x1024x2304) (wOff k n 1) S1x1x1024x256.size (wOff_inb k n 1)).toLoadRect
    ((gslot (Ring.sl 2 k.val) 1).view.writes (Elt F) (gslot (Ring.sl 2 k.val) 1).view.junk
      [⟨Rect.whole S1024x2304, ReadAs.same.apply ((wublk (Ring.bk 7 k.val)).view.read (Elt F) XP)⟩])
/-- and the scales of its blocks. -/
def sldG (k : Fin k0_t1_loop.trips) (n : Fin 9) (i : Fin 8) (h : Fin 2) : Elt F .f32 :=
  View.readAt (Elt F) arg4.view (Rect.unit (s := S18x56) (scOff k n h (BitVec.ofNat 32 i.val)) S1x1.size (scOff_inb k n h i)).toLoadRect XS (Shape.Idx.first (show 0 < S1x1.numel by decide))
def sldU (k : Fin k0_t1_loop.trips) (n : Fin 9) (i : Fin 8) (h : Fin 2) : Elt F .f32 :=
  View.readAt (Elt F) arg6.view (Rect.unit (s := S18x56) (scOff k n h (BitVec.ofNat 32 i.val)) S1x1.size (scOff_inb k n h i)).toLoadRect XT (Shape.Idx.first (show 0 < S1x1.numel by decide))
theorem aOff_inb (k : Fin k0_t1_loop.trips) : ∀ a, k0_off26 k a + S1x256x1024.size a ≤ S2x256x1024.size a := by
  rw [off26_eq k]; exact aslot_inb _
/-- Chunk `k` of the dequantised rows. -/
def ald (k : Fin k0_t1_loop.trips) : Vec F S1x256x1024 .bf16 :=
  View.readAt (Elt F) abfM.view (Rect.unit (s := S2x256x1024) (k0_off26 k) S1x256x1024.size (aOff_inb k)).toLoadRect fa
/-- An accumulator tile. -/
theorem cOff_inb (w : Fin 2) (n : Fin 9) : ∀ a, (![w.val, n.val, 0, 0] : Fin 4 → ℕ) a + S1x1x256x256.size a ≤ S2x9x256x256.size a := by
  have := w.isLt; have := n.isLt; intro a; fin_cases a
  · show w.val + 1 ≤ 2; omega
  · show n.val + 1 ≤ 9; omega
  · show 0 + 256 ≤ 256; omega
  · show 0 + 256 ≤ 256; omega
def cld (w : Fin 2) (n : Fin 9) : Vec F S1x1x256x256 .f32 :=
  View.readAt (Elt F) accM.view (Rect.unit (s := S2x9x256x256) ![w.val, n.val, 0, 0] S1x1x256x256.size (cOff_inb w n)).toLoadRect A

/-- What the trip stores into tile `(w, n)` of the accumulators, -/
def tileG (k : Fin k0_t1_loop.trips) (n : Fin 9) : FVec F S1x1x256x256 .f32 :=
  accSt (cld c A 0 n) (ald c fa k) (wldG c XG k n) (sldG c arg4 XS k n)
def tileU (k : Fin k0_t1_loop.trips) (n : Fin 9) : FVec F S1x1x256x256 .f32 :=
  accSt (cld c A 1 n) (ald c fa k) (wldU c XP k n) (sldU c arg6 XT k n)
/-- into the accumulators, -/
def accL (k : Fin k0_t1_loop.trips) : List (View.Piece (Elt F) S2x9x256x256 .f32) :=
  [⟨Rect.unit (s := S2x9x256x256) ![1, 8, 0, 0] S1x1x256x256.size inb_S2x9x256x256_S1x1x256x256_1_8_0_0, tileU c XP arg6 XT fa A k 8⟩,
    ⟨Rect.unit (s := S2x9x256x256) ![0, 8, 0, 0] S1x1x256x256.size inb_S2x9x256x256_S1x1x256x256_0_8_0_0, tileG c XG arg4 XS fa A k 8⟩,
    ⟨Rect.unit (s := S2x9x256x256) ![1, 7, 0, 0] S1x1x256x256.size inb_S2x9x256x256_S1x1x256x256_1_7_0_0, tileU c XP arg6 XT fa A k 7⟩,
    ⟨Rect.unit (s := S2x9x256x256) ![0, 7, 0, 0] S1x1x256x256.size inb_S2x9x256x256_S1x1x256x256_0_7_0_0, tileG c XG arg4 XS fa A k 7⟩,
    ⟨Rect.unit (s := S2x9x256x256) ![1, 6, 0, 0] S1x1x256x256.size inb_S2x9x256x256_S1x1x256x256_1_6_0_0, tileU c XP arg6 XT fa A k 6⟩,
    ⟨Rect.unit (s := S2x9x256x256) ![0, 6, 0, 0] S1x1x256x256.size inb_S2x9x256x256_S1x1x256x256_0_6_0_0, tileG c XG arg4 XS fa A k 6⟩,
    ⟨Rect.unit (s := S2x9x256x256) ![1, 5, 0, 0] S1x1x256x256.size inb_S2x9x256x256_S1x1x256x256_1_5_0_0, tileU c XP arg6 XT fa A k 5⟩,
    ⟨Rect.unit (s := S2x9x256x256) ![0, 5, 0, 0] S1x1x256x256.size inb_S2x9x256x256_S1x1x256x256_0_5_0_0, tileG c XG arg4 XS fa A k 5⟩,
    ⟨Rect.unit (s := S2x9x256x256) ![1, 4, 0, 0] S1x1x256x256.size inb_S2x9x256x256_S1x1x256x256_1_4_0_0, tileU c XP arg6 XT fa A k 4⟩,
    ⟨Rect.unit (s := S2x9x256x256) ![0, 4, 0, 0] S1x1x256x256.size inb_S2x9x256x256_S1x1x256x256_0_4_0_0, tileG c XG arg4 XS fa A k 4⟩,
    ⟨Rect.unit (s := S2x9x256x256) ![1, 3, 0, 0] S1x1x256x256.size inb_S2x9x256x256_S1x1x256x256_1_3_0_0, tileU c XP arg6 XT fa A k 3⟩,
    ⟨Rect.unit (s := S2x9x256x256) ![0, 3, 0, 0] S1x1x256x256.size inb_S2x9x256x256_S1x1x256x256_0_3_0_0, tileG c XG arg4 XS fa A k 3⟩,
    ⟨Rect.unit (s := S2x9x256x256) ![1, 2, 0, 0] S1x1x256x256.size inb_S2x9x256x256_S1x1x256x256_1_2_0_0, tileU c XP arg6 XT fa A k 2⟩,
    ⟨Rect.unit (s := S2x9x256x256) ![0, 2, 0, 0] S1x1x256x256.size inb_S2x9x256x256_S1x1x256x256_0_2_0_0, tileG c XG arg4 XS fa A k 2⟩,
    ⟨Rect.unit (s := S2x9x256x256) ![1, 1, 0, 0] S1x1x256x256.size inb_S2x9x256x256_S1x1x256x256_1_1_0_0, tileU c XP arg6 XT fa A k 1⟩,
    ⟨Rect.unit (s := S2x9x256x256) ![0, 1, 0, 0] S1x1x256x256.size inb_S2x9x256x256_S1x1x256x256_0_1_0_0, tileG c XG arg4 XS fa A k 1⟩,
    ⟨Rect.unit (s := S2x9x256x256) ![1, 0, 0, 0] S1x1x256x256.size inb_S2x9x256x256_S1x1x256x256_1_0_0_0, tileU c XP arg6 XT fa A k 0⟩,
    ⟨Rect.unit (s := S2x9x256x256) ![0, 0, 0, 0] S1x1x256x256.size inb_S2x9x256x256_S1x1x256x256_0_0_0_0, tileG c XG arg4 XS fa A k 0⟩]

theorem off7_eq : ∀ k : Fin k0_t1_loop.trips, k0_off7 k = ![k.val + 1, 0, 0] := by decide +kernel
theorem coff7_inb (k : Fin k0_t1_loop.trips) : ∀ a, k0_off7 k a + S1x256x128.size a ≤ S7x256x1024.size a := by
  rw [off7_eq k]; have := Nat.lt_of_lt_of_eq k.isLt trips_eq; intro a; fin_cases a
  · show k.val + 1 + 1 ≤ 7; omega
  · show 0 + 256 ≤ 256; omega
  · show 0 + 128 ≤ 1024; omega
theorem aoff8_inb (k : Fin k0_t1_loop.trips) : ∀ a, k0_off8 k a + S1x256x128.size a ≤ S2x256x1024.size a := by
  rw [off8_eq k]; have := (Ring.sl 2 (k.val + 1)).isLt; intro a; fin_cases a
  · show (Ring.sl 2 (k.val + 1)).val + 1 ≤ 2; omega
  · show 0 + 256 ≤ 256; omega
  · show 0 + 128 ≤ 1024; omega

theorem off9_eq : ∀ k : Fin k0_t1_loop.trips, k0_off9 k = ![k.val + 1, 0, 128] := by decide +kernel
theorem coff9_inb (k : Fin k0_t1_loop.trips) : ∀ a, k0_off9 k a + S1x256x128.size a ≤ S7x256x1024.size a := by
  rw [off9_eq k]; have := Nat.lt_of_lt_of_eq k.isLt trips_eq; intro a; fin_cases a
  · show k.val + 1 + 1 ≤ 7; omega
  · show 0 + 256 ≤ 256; omega
  · show 128 + 128 ≤ 1024; omega
theorem aoff10_inb (k : Fin k0_t1_loop.trips) : ∀ a, k0_off10 k a + S1x256x128.size a ≤ S2x256x1024.size a := by
  rw [off10_eq k]; have := (Ring.sl 2 (k.val + 1)).isLt; intro a; fin_cases a
  · show (Ring.sl 2 (k.val + 1)).val + 1 ≤ 2; omega
  · show 0 + 256 ≤ 256; omega
  · show 128 + 128 ≤ 1024; omega

theorem off11_eq : ∀ k : Fin k0_t1_loop.trips, k0_off11 k = ![k.val + 1, 0, 256] := by decide +kernel
theorem coff11_inb (k : Fin k0_t1_loop.trips) : ∀ a, k0_off11 k a + S1x256x128.size a ≤ S7x256x1024.size a := by
  rw [off11_eq k]; have := Nat.lt_of_lt_of_eq k.isLt trips_eq; intro a; fin_cases a
  · show k.val + 1 + 1 ≤ 7; omega
  · show 0 + 256 ≤ 256; omega
  · show 256 + 128 ≤ 1024; omega
theorem aoff12_inb (k : Fin k0_t1_loop.trips) : ∀ a, k0_off12 k a + S1x256x128.size a ≤ S2x256x1024.size a := by
  rw [off12_eq k]; have := (Ring.sl 2 (k.val + 1)).isLt; intro a; fin_cases a
  · show (Ring.sl 2 (k.val + 1)).val + 1 ≤ 2; omega
  · show 0 + 256 ≤ 256; omega
  · show 256 + 128 ≤ 1024; omega

theorem off13_eq : ∀ k : Fin k0_t1_loop.trips, k0_off13 k = ![k.val + 1, 0, 384] := by decide +kernel
theorem coff13_inb (k : Fin k0_t1_loop.trips) : ∀ a, k0_off13 k a + S1x256x128.size a ≤ S7x256x1024.size a := by
  rw [off13_eq k]; have := Nat.lt_of_lt_of_eq k.isLt trips_eq; intro a; fin_cases a
  · show k.val + 1 + 1 ≤ 7; omega
  · show 0 + 256 ≤ 256; omega
  · show 384 + 128 ≤ 1024; omega
theorem aoff14_inb (k : Fin k0_t1_loop.trips) : ∀ a, k0_off14 k a + S1x256x128.size a ≤ S2x256x1024.size a := by
  rw [off14_eq k]; have := (Ring.sl 2 (k.val + 1)).isLt; intro a; fin_cases a
  · show (Ring.sl 2 (k.val + 1)).val + 1 ≤ 2; omega
  · show 0 + 256 ≤ 256; omega
  · show 384 + 128 ≤ 1024; omega

theorem off15_eq : ∀ k : Fin k0_t1_loop.trips, k0_off15 k = ![k.val + 1, 0, 512] := by decide +kernel
theorem coff15_inb (k : Fin k0_t1_loop.trips) : ∀ a, k0_off15 k a + S1x256x128.size a ≤ S7x256x1024.size a := by
  rw [off15_eq k]; have := Nat.lt_of_lt_of_eq k.isLt trips_eq; intro a; fin_cases a
  · show k.val + 1 + 1 ≤ 7; omega
  · show 0 + 256 ≤ 256; omega
  · show 512 + 128 ≤ 1024; omega
theorem aoff16_inb (k : Fin k0_t1_loop.trips) : ∀ a, k0_off16 k a + S1x256x128.size a ≤ S2x256x1024.size a := by
  rw [off16_eq k]; have := (Ring.sl 2 (k.val + 1)).isLt; intro a; fin_cases a
  · show (Ring.sl 2 (k.val + 1)).val + 1 ≤ 2; omega
  · show 0 + 256 ≤ 256; omega
  · show 512 + 128 ≤ 1024; omega

theorem off17_eq : ∀ k : Fin k0_t1_loop.trips, k0_off17 k = ![k.val + 1, 0, 640] := by decide +kernel
theorem coff17_inb (k : Fin k0_t1_loop.trips) : ∀ a, k0_off17 k a + S1x256x128.size a ≤ S7x256x1024.size a := by
  rw [off17_eq k]; have := Nat.lt_of_lt_of_eq k.isLt trips_eq; intro a; fin_cases a
  · show k.val + 1 + 1 ≤ 7; omega
  · show 0 + 256 ≤ 256; omega
  · show 640 + 128 ≤ 1024; omega
theorem aoff18_inb (k : Fin k0_t1_loop.trips) : ∀ a, k0_off18 k a + S1x256x128.size a ≤ S2x256x1024.size a := by
  rw [off18_eq k]; have := (Ring.sl 2 (k.val + 1)).isLt; intro a; fin_cases a
  · show (Ring.sl 2 (k.val + 1)).val + 1 ≤ 2; omega
  · show 0 + 256 ≤ 256; omega
  · show 640 + 128 ≤ 1024; omega

theorem off19_eq : ∀ k : Fin k0_t1_loop.trips, k0_off19 k = ![k.val + 1, 0, 768] := by decide +kernel
theorem coff19_inb (k : Fin k0_t1_loop.trips) : ∀ a, k0_off19 k a + S1x256x128.size a ≤ S7x256x1024.size a := by
  rw [off19_eq k]; have := Nat.lt_of_lt_of_eq k.isLt trips_eq; intro a; fin_cases a
  · show k.val + 1 + 1 ≤ 7; omega
  · show 0 + 256 ≤ 256; omega
  · show 768 + 128 ≤ 1024; omega
theorem aoff20_inb (k : Fin k0_t1_loop.trips) : ∀ a, k0_off20 k a + S1x256x128.size a ≤ S2x256x1024.size a := by
  rw [off20_eq k]; have := (Ring.sl 2 (k.val + 1)).isLt; intro a; fin_cases a
  · show (Ring.sl 2 (k.val + 1)).val + 1 ≤ 2; omega
  · show 0 + 256 ≤ 256; omega
  · show 768 + 128 ≤ 1024; omega

theorem off21_eq : ∀ k : Fin k0_t1_loop.trips, k0_off21 k = ![k.val + 1, 0, 896] := by decide +kernel
theorem coff21_inb (k : Fin k0_t1_loop.trips) : ∀ a, k0_off21 k a + S1x256x128.size a ≤ S7x256x1024.size a := by
  rw [off21_eq k]; have := Nat.lt_of_lt_of_eq k.isLt trips_eq; intro a; fin_cases a
  · show k.val + 1 + 1 ≤ 7; omega
  · show 0 + 256 ≤ 256; omega
  · show 896 + 128 ≤ 1024; omega
theorem aoff22_inb (k : Fin k0_t1_loop.trips) : ∀ a, k0_off22 k a + S1x256x128.size a ≤ S2x256x1024.size a := by
  rw [off22_eq k]; have := (Ring.sl 2 (k.val + 1)).isLt; intro a; fin_cases a
  · show (Ring.sl 2 (k.val + 1)).val + 1 ≤ 2; omega
  · show 0 + 256 ≤ 256; omega
  · show 896 + 128 ≤ 1024; omega

/-- into the codes, -/
def codL (k : Fin k0_t1_loop.trips) : List (View.Piece (Elt F) S7x256x1024 .fp8e4m3) :=
  [⟨Rect.unit (s := S7x256x1024) (k0_off21 k) S1x256x128.size (coff21_inb k), shapeCast S1x256x128 (codv (qy c arg0 arg1 arg2 XU XR XM k 7)) shapeCasts_S256x128_S1x256x128⟩,
    ⟨Rect.unit (s := S7x256x1024) (k0_off19 k) S1x256x128.size (coff19_inb k), shapeCast S1x256x128 (codv (qy c arg0 arg1 arg2 XU XR XM k 6)) shapeCasts_S256x128_S1x256x128⟩,
    ⟨Rect.unit (s := S7x256x1024) (k0_off17 k) S1x256x128.size (coff17_inb k), shapeCast S1x256x128 (codv (qy c arg0 arg1 arg2 XU XR XM k 5)) shapeCasts_S256x128_S1x256x128⟩,
    ⟨Rect.unit (s := S7x256x1024) (k0_off15 k) S1x256x128.size (coff15_inb k), shapeCast S1x256x128 (codv (qy c arg0 arg1 arg2 XU XR XM k 4)) shapeCasts_S256x128_S1x256x128⟩,
    ⟨Rect.unit (s := S7x256x1024) (k0_off13 k) S1x256x128.size (coff13_inb k), shapeCast S1x256x128 (codv (qy c arg0 arg1 arg2 XU XR XM k 3)) shapeCasts_S256x128_S1x256x128⟩,
    ⟨Rect.unit (s := S7x256x1024) (k0_off11 k) S1x256x128.size (coff11_inb k), shapeCast S1x256x128 (codv (qy c arg0 arg1 arg2 XU XR XM k 2)) shapeCasts_S256x128_S1x256x128⟩,
    ⟨Rect.unit (s := S7x256x1024) (k0_off9 k) S1x256x128.size (coff9_inb k), shapeCast S1x256x128 (codv (qy c arg0 arg1 arg2 XU XR XM k 1)) shapeCasts_S256x128_S1x256x128⟩,
    ⟨Rect.unit (s := S7x256x1024) (k0_off7 k) S1x256x128.size (coff7_inb k), shapeCast S1x256x128 (codv (qy c arg0 arg1 arg2 XU XR XM k 0)) shapeCasts_S256x128_S1x256x128⟩]

/-- into the dequantised rows, -/
def deqS (k : Fin k0_t1_loop.trips) (fb : Buf (Elt F) (abfM.view.loc (c : Thread nD τ))) : Buf (Elt F) (abfM.view.loc (c : Thread nD τ)) :=
  View.write (Elt F) (abfM.access (Rect.unit (s := S2x256x1024) (k0_off22 k) S1x256x128.size (aoff22_inb k)))
    (View.write (Elt F) (abfM.access (Rect.unit (s := S2x256x1024) (k0_off20 k) S1x256x128.size (aoff20_inb k)))
    (View.write (Elt F) (abfM.access (Rect.unit (s := S2x256x1024) (k0_off18 k) S1x256x128.size (aoff18_inb k)))
    (View.write (Elt F) (abfM.access (Rect.unit (s := S2x256x1024) (k0_off16 k) S1x256x128.size (aoff16_inb k)))
    (View.write (Elt F) (abfM.access (Rect.unit (s := S2x256x1024) (k0_off14 k) S1x256x128.size (aoff14_inb k)))
    (View.write (Elt F) (abfM.access (Rect.unit (s := S2x256x1024) (k0_off12 k) S1x256x128.size (aoff12_inb k)))
    (View.write (Elt F) (abfM.access (Rect.unit (s := S2x256x1024) (k0_off10 k) S1x256x128.size (aoff10_inb k)))
    (View.write (Elt F) (abfM.access (Rect.unit (s := S2x256x1024) (k0_off8 k) S1x256x128.size (aoff8_inb k)))
    (fb) (shapeCast S1x256x128 (deqv (qy c arg0 arg1 arg2 XU XR XM k 0)) shapeCasts_S256x128_S1x256x128) Finset.univ) (shapeCast S1x256x128 (deqv (qy c arg0 arg1 arg2 XU XR XM k 1)) shapeCasts_S256x128_S1x256x128) Finset.univ) (shapeCast S1x256x128 (deqv (qy c arg0 arg1 arg2 XU XR XM k 2)) shapeCasts_S256x128_S1x256x128) Finset.univ) (shapeCast S1x256x128 (deqv (qy c arg0 arg1 arg2 XU XR XM k 3)) shapeCasts_S256x128_S1x256x128) Finset.univ) (shapeCast S1x256x128 (deqv (qy c arg0 arg1 arg2 XU XR XM k 4)) shapeCasts_S256x128_S1x256x128) Finset.univ) (shapeCast S1x256x128 (deqv (qy c arg0 arg1 arg2 XU XR XM k 5)) shapeCasts_S256x128_S1x256x128) Finset.univ) (shapeCast S1x256x128 (deqv (qy c arg0 arg1 arg2 XU XR XM k 6)) shapeCasts_S256x128_S1x256x128) Finset.univ) (shapeCast S1x256x128 (deqv (qy c arg0 arg1 arg2 XU XR XM k 7)) shapeCasts_S256x128_S1x256x128) Finset.univ

/-- and into the scales. -/
def scaL (k : Fin k0_t1_loop.trips) (B : Buf (Elt F) (ascM.view.loc (c : Thread nD τ))) : List (View.Piece (Elt F) S256x128 .f32) :=
  [⟨Rect.unit (s := S256x128) ![0, 0] S256x128.size inb_S256x128_S256x128_0_0,
    shapeCast S256x128 (scTrip c arg0 arg1 arg2 XU XR XM k
      (View.readAt (Elt F) ascM.view (Rect.unit (s := S256x128) ![0, 0] S256x128.size inb_S256x128_S256x128_0_0).toLoadRect B)) shapeCasts_S256x128_S256x128⟩]
end Loads

end Cert.Proof.GateUp
end
-- ==== Proof.GuTrip.lean ====
/-
  One trip of the gate and up projections' loop: its run. (Same text for both printed programs.)
-/
module

public import proofs.«01_k».proof.Proof.GuVals

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (XG : Buf (Elt F) (wgM.view.loc (c : Thread nD τ))) (XP : Buf (Elt F) (wuM.view.loc (c : Thread nD τ)))
  (arg0 : Memref sig .tc .vmem S56x256x128 .f32) (harg0 : arg0.IsWhole) (arg1 : Memref sig .tc .vmem S256x128 .f32) (harg1 : arg1.IsWhole)
  (arg2 : Memref sig .tc .vmem S56x128 .f32) (harg2 : arg2.IsWhole) (arg4 : Memref sig .tc .smem S18x56 .f32) (harg4 : arg4.IsWhole)
  (arg6 : Memref sig .tc .smem S18x56 .f32) (harg6 : arg6.IsWhole) (arg8 : Memref sig .tc .vmem S2x56x128 .f32) (harg8 : arg8.IsWhole)
  (arg10 : Memref sig .tc .vmem S18x2x128 .f32) (harg10 : arg10.IsWhole) (arg11 : Memref sig .tc .vmem S256x2304 .bf16) (harg11 : arg11.IsWhole)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (w28 : IVec S256x128 32) (w379 w410 : FVec F S256x128 .f32) (w417 : FVec F S256x128 .fp8e4m3) (w420 : FVec F S256x128 .bf16) (w421 : Vec F S1x256x128 .fp8e4m3)

abbrev uP : sProp 𝕄 := arg0.view.loc (c : Thread nD τ) ↦[arg0.view.set]{fullShare} XU
abbrev rP : sProp 𝕄 := arg1.view.loc (c : Thread nD τ) ↦[arg1.view.set]{fullShare} XR
abbrev mP : sProp 𝕄 := arg2.view.loc (c : Thread nD τ) ↦[arg2.view.set]{fullShare} XM
abbrev sgP : sProp 𝕄 := arg4.view.loc (c : Thread nD τ) ↦[arg4.view.set]{fullShare} XS
abbrev suP : sProp 𝕄 := arg6.view.loc (c : Thread nD τ) ↦[arg6.view.set]{fullShare} XT
abbrev insP : sProp 𝕄 := iprop(uP c arg0 XU ∗ rP c arg1 XR ∗ mP c arg2 XM ∗ sgP c arg4 XS ∗ suP c arg6 XT)

abbrev tripG (k : Fin k0_t1_loop.trips) : Prog (TpuEff nD τ sig (Elt F) Λ₀ .tc) Unit :=
  k0_t1_body (F := F) arg0 harg0 arg1 harg1 arg2 harg2 wgM (Memref.isWhole_whole _) arg4 harg4 wuM (Memref.isWhole_whole _) arg6 harg6 acM (Memref.isWhole_whole _) arg8 harg8 hcM (Memref.isWhole_whole _) arg10 harg10 arg11 harg11 accM (Memref.isWhole_whole _) wguM (Memref.isWhole_whole _) abfM (Memref.isWhole_whole _) acodM (Memref.isWhole_whole _) ascM (Memref.isWhole_whole _) hcodM (Memref.isWhole_whole _) cc0_scratch6 cc0_scratch7 w28 w379 w410 w417 w420 w421 k ()

/-- What a trip leaves in the scratch buffers. -/
abbrev leftP (k : Fin k0_t1_loop.trips) (fa fb : Buf (Elt F) (abfM.view.loc (c : Thread nD τ))) (C : Buf (Elt F) (acodM.view.loc (c : Thread nD τ)))
    (A : Buf (Elt F) (accM.view.loc (c : Thread nD τ))) (B : Buf (Elt F) (ascM.view.loc (c : Thread nD τ))) : sProp 𝕄 :=
  iprop(aslotP c (Ring.sl 2 k.val) fa ∗ aslotP c (Ring.sl 2 (k.val + 1)) (deqS c arg0 arg1 arg2 XU XR XM k fb)
    ∗ acodP c (acodM.view.writes (Elt F) C (codL c arg0 arg1 arg2 XU XR XM k)) ∗ accP c (accM.view.writes (Elt F) A (accL c XG XP arg4 arg6 XS XT fa A k))
    ∗ ascP c (ascM.view.writes (Elt F) B (scaL c arg0 arg1 arg2 XU XR XM k B)))

/-- Trips 0 to 4: block `k + 2` of the weights goes out. -/
theorem tripA (k : Fin k0_t1_loop.trips) (h2 : k.val + 2 < 7) (f f' W) (fa fb : Buf (Elt F) (abfM.view.loc (c : Thread nD τ))) (C A B) :
    iprop(insP c arg0 arg1 arg2 arg4 arg6 XU XR XM XS XT ∗ owes (c : Thread nD τ) 0 W ∗ homeG c XG (Ring.bk 7 (k.val + 2)) ∗ homeU c XP (Ring.bk 7 (k.val + 2))
      ∗ gflightP c XG XP (Ring.sl 2 k.val) (Ring.bk 7 k.val) f f' ∗ aslotP c (Ring.sl 2 k.val) fa ∗ aslotP c (Ring.sl 2 (k.val + 1)) fb
      ∗ acodP c C ∗ accP c A ∗ ascP c B)
      ⊢ wp frame (wpE (defs₀ (F := F)) 𝒱₀ (c : Thread nD τ) none) Set.univ
        (tripG arg0 harg0 arg1 harg1 arg2 harg2 arg4 harg4 arg6 harg6 arg8 harg8 arg10 harg10 arg11 harg11 w28 w379 w410 w417 w420 w421 k) (fun _ => iprop(
          insP c arg0 arg1 arg2 arg4 arg6 XU XR XM XS XT ∗ (∃ W, owes (c : Thread nD τ) 0 W) ∗ homeG c XG (Ring.bk 7 k.val) ∗ homeU c XP (Ring.bk 7 k.val)
          ∗ (∃ f f', gflightP c XG XP (Ring.sl 2 k.val) (Ring.bk 7 (k.val + 2)) f f')
          ∗ leftP c XG XP arg0 arg1 arg2 arg4 arg6 XU XR XM XS XT k fa fb C A B)) := by
  have c1 := cond1_of_lt k h2
  have plan : Transfers.BatchOf (c : Thread nD τ) (SemLoc.dma (gsm (Ring.sl 2 k.val)).sem) 2 := trivial
  iintro ⟨⟨Hu, Hr, Hm, Hsg, Hsu⟩, HW, HG, HP, HF, Ha, Hb, HC, HA, HB⟩
  dsimp only [tripG]
  sl_unfold [k0_t1_body]
  sl_exec_parts
  sl_step
  have e1 : tripA.sl.Hb_w8 c arg0 arg1 arg2 XU XR XM k fb = deqS c arg0 arg1 arg2 XU XR XM k fb := rfl
  have e2 : tripA.sl.HC_8 c arg0 arg1 arg2 XU XR XM k = codL c arg0 arg1 arg2 XU XR XM k := rfl
  have e3 : (⟨Rect.unit (s := S2x9x256x256) ![1, 8, 0, 0] S1x1x256x256.size inb_S2x9x256x256_S1x1x256x256_1_8_0_0, tripA.sl.r_525 c XP arg6 XT k fa A⟩ :: tripA.sl.HA_17 c XG XP arg4 arg6 XS XT k fa A : List (View.Piece (Elt F) S2x9x256x256 .f32))
      = accL c XG XP arg4 arg6 XS XT fa A k := rfl
  have e4 : tripA.sl.HB_1 c arg0 arg1 arg2 XU XR XM k B = scaL c arg0 arg1 arg2 XU XR XM k B := rfl
  isplitl [Hu Hr Hm Hsg Hsu]
  · isplitl [Hu]; · iexact Hu
    isplitl [Hr]; · iexact Hr
    isplitl [Hm]; · iexact Hm
    isplitl [Hsg]; · iexact Hsg
    iexact Hsu
  isplitl [HW]; · iexists _; iexact HW
  isplitl [HF_src0]; · iexact HF_src0
  isplitl [HF_src1]; · iexact HF_src1
  isplitl [HF]; · iexists _; iexists _; iexact HF
  isplitl [Ha]; · iexact Ha
  isplitl [Hb]; · rw [← e1]; iexact Hb
  isplitl [HC]; · rw [← e2]; iexact HC
  isplitl [HA]; · rw [← e3]; iexact HA
  rw [← e4]; iexact HB

/-- Trip 5: the weight slot stays free. -/
theorem tripB (k : Fin k0_t1_loop.trips) (h2 : 7 ≤ k.val + 2) (f f' W) (fa fb : Buf (Elt F) (abfM.view.loc (c : Thread nD τ))) (C A B) :
    iprop(insP c arg0 arg1 arg2 arg4 arg6 XU XR XM XS XT ∗ owes (c : Thread nD τ) 0 W
      ∗ gflightP c XG XP (Ring.sl 2 k.val) (Ring.bk 7 k.val) f f' ∗ aslotP c (Ring.sl 2 k.val) fa ∗ aslotP c (Ring.sl 2 (k.val + 1)) fb
      ∗ acodP c C ∗ accP c A ∗ ascP c B)
      ⊢ wp frame (wpE (defs₀ (F := F)) 𝒱₀ (c : Thread nD τ) none) Set.univ
        (tripG arg0 harg0 arg1 harg1 arg2 harg2 arg4 harg4 arg6 harg6 arg8 harg8 arg10 harg10 arg11 harg11 w28 w379 w410 w417 w420 w421 k) (fun _ => iprop(
          insP c arg0 arg1 arg2 arg4 arg6 XU XR XM XS XT ∗ (∃ W, owes (c : Thread nD τ) 0 W) ∗ homeG c XG (Ring.bk 7 k.val) ∗ homeU c XP (Ring.bk 7 k.val)
          ∗ (gcellP c (Ring.sl 2 k.val) ∗ (∃ f, gslotP c (Ring.sl 2 k.val) 0 f) ∗ ∃ f, gslotP c (Ring.sl 2 k.val) 1 f)
          ∗ leftP c XG XP arg0 arg1 arg2 arg4 arg6 XU XR XM XS XT k fa fb C A B)) := by
  have c1 := cond1_of_le k h2
  iintro ⟨⟨Hu, Hr, Hm, Hsg, Hsu⟩, HW, HF, Ha, Hb, HC, HA, HB⟩
  dsimp only [tripG]
  sl_unfold [k0_t1_body]
  sl_exec_parts
  sl_step
  have e1 : tripB.sl.Hb_w8 c arg0 arg1 arg2 XU XR XM k fb = deqS c arg0 arg1 arg2 XU XR XM k fb := rfl
  have e2 : tripB.sl.HC_8 c arg0 arg1 arg2 XU XR XM k = codL c arg0 arg1 arg2 XU XR XM k := rfl
  have e3 : (⟨Rect.unit (s := S2x9x256x256) ![1, 8, 0, 0] S1x1x256x256.size inb_S2x9x256x256_S1x1x256x256_1_8_0_0, tripB.sl.r_525 c XP arg6 XT k fa A⟩ :: tripB.sl.HA_17 c XG XP arg4 arg6 XS XT k fa A : List (View.Piece (Elt F) S2x9x256x256 .f32))
      = accL c XG XP arg4 arg6 XS XT fa A k := rfl
  have e4 : tripB.sl.HB_1 c arg0 arg1 arg2 XU XR XM k B = scaL c arg0 arg1 arg2 XU XR XM k B := rfl
  isplitl [Hu Hr Hm Hsg Hsu]
  · isplitl [Hu]; · iexact Hu
    isplitl [Hr]; · iexact Hr
    isplitl [Hm]; · iexact Hm
    isplitl [Hsg]; · iexact Hsg
    iexact Hsu
  isplitl [HW]; · iexists _; iexact HW
  isplitl [HF_src0]; · iexact HF_src0
  isplitl [HF_src1]; · iexact HF_src1
  isplitl [HF HF_dst0 HF_dst1]
  · isplitl [HF]; · iexact HF
    isplitl [HF_dst0]; · iexists _; iexact HF_dst0
    iexists _; iexact HF_dst1
  isplitl [Ha]; · iexact Ha
  isplitl [Hb]; · rw [← e1]; iexact Hb
  isplitl [HC]; · rw [← e2]; iexact HC
  isplitl [HA]; · rw [← e3]; iexact HA
  rw [← e4]; iexact HB

end Trip
end Cert.Proof.GateUp
end
-- ==== Proof.GuEpi.lean ====
/-
  The windows of the code copies, and their pieces. (Same text for both printed programs.)
-/
module

public import proofs.«01_k».proof.Proof.GuTrip

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev colOff (b : Fin 7) : Fin 2 → Nat := ![0, 1024 * b.val]
theorem ocol_inb (b : Fin 7) : ∀ a, colOff b a + S256x1024.size a ≤ S256x7168.size a := by
  have := b.isLt; intro a; fin_cases a
  · show 0 + 256 ≤ 256; omega
  · show 1024 * b.val + 1024 ≤ 7168; omega
abbrev codOff (b : Fin 7) : Fin 3 → Nat := ![b.val, 0, 0]
theorem cslot_inb (b : Fin 7) : ∀ a, codOff b a + S1x256x1024.size a ≤ S7x256x1024.size a := by
  have := b.isLt; intro a; fin_cases a
  · show b.val + 1 ≤ 7; omega
  · show 0 + 256 ≤ 256; omega
  · show 0 + 1024 ≤ 1024; omega
/-- Column block `b` of the codes' array, -/
def oblk (b : Fin 7) : Memref sig .tc .hbm S256x1024 .fp8e4m3 :=
  acM.slice (Rect.unit (s := S256x7168) (colOff b) S256x1024.size (ocol_inb b)) (fun _ => rfl)
/-- and the slot of the codes' buffer it is copied from. -/
def cslot (b : Fin 7) : Memref sig .tc .vmem S256x1024 .fp8e4m3 :=
  (acodM.slice (Rect.unit (s := S7x256x1024) (codOff b) S1x256x1024.size (cslot_inb b)) (fun _ => rfl)).squeeze S256x1024 squeezes_S1x256x1024_S256x1024
private theorem cslot_congr {off : Fin 3 → Nat} {b : Fin 7} (e : off = codOff b) (hh hs) :
    (acodM.slice (Rect.unit (s := S7x256x1024) off S1x256x1024.size hh) hs).squeeze S256x1024 squeezes_S1x256x1024_S256x1024 = cslot b :=
  congrArg (fun M : Memref sig .tc .vmem S1x256x1024 .fp8e4m3 => M.squeeze S256x1024 squeezes_S1x256x1024_S256x1024) (Memref.slice_unit_congr _ e _ _ _ _)
private theorem oblk_congr {off : Fin 2 → Nat} {b : Fin 7} (e : off = colOff b) (hh hs) :
    acM.slice (Rect.unit (s := S256x7168) off S256x1024.size hh) hs = oblk b := Memref.slice_unit_congr _ e _ _ _ (fun _ => rfl)
@[sl_canon] theorem clL0 (hh hs) : (acodM.slice (Rect.unit (s := S7x256x1024) ![0, 0, 0] S1x256x1024.size hh) hs).squeeze S256x1024 squeezes_S1x256x1024_S256x1024 = cslot 0 := cslot_congr (by decide) _ _
@[sl_canon] theorem obL0 (hh hs) : acM.slice (Rect.unit (s := S256x7168) ![0, 0] S256x1024.size hh) hs = oblk 0 := oblk_congr (by decide) _ _
@[sl_canon] theorem clL1 (hh hs) : (acodM.slice (Rect.unit (s := S7x256x1024) ![1, 0, 0] S1x256x1024.size hh) hs).squeeze S256x1024 squeezes_S1x256x1024_S256x1024 = cslot 1 := cslot_congr (by decide) _ _
@[sl_canon] theorem obL1 (hh hs) : acM.slice (Rect.unit (s := S256x7168) ![0, 1024] S256x1024.size hh) hs = oblk 1 := oblk_congr (by decide) _ _
@[sl_canon] theorem clL2 (hh hs) : (acodM.slice (Rect.unit (s := S7x256x1024) ![2, 0, 0] S1x256x1024.size hh) hs).squeeze S256x1024 squeezes_S1x256x1024_S256x1024 = cslot 2 := cslot_congr (by decide) _ _
@[sl_canon] theorem obL2 (hh hs) : acM.slice (Rect.unit (s := S256x7168) ![0, 2048] S256x1024.size hh) hs = oblk 2 := oblk_congr (by decide) _ _
@[sl_canon] theorem clL3 (hh hs) : (acodM.slice (Rect.unit (s := S7x256x1024) ![3, 0, 0] S1x256x1024.size hh) hs).squeeze S256x1024 squeezes_S1x256x1024_S256x1024 = cslot 3 := cslot_congr (by decide) _ _
@[sl_canon] theorem obL3 (hh hs) : acM.slice (Rect.unit (s := S256x7168) ![0, 3072] S256x1024.size hh) hs = oblk 3 := oblk_congr (by decide) _ _
@[sl_canon] theorem clL4 (hh hs) : (acodM.slice (Rect.unit (s := S7x256x1024) ![4, 0, 0] S1x256x1024.size hh) hs).squeeze S256x1024 squeezes_S1x256x1024_S256x1024 = cslot 4 := cslot_congr (by decide) _ _
@[sl_canon] theorem obL4 (hh hs) : acM.slice (Rect.unit (s := S256x7168) ![0, 4096] S256x1024.size hh) hs = oblk 4 := oblk_congr (by decide) _ _
@[sl_canon] theorem clL5 (hh hs) : (acodM.slice (Rect.unit (s := S7x256x1024) ![5, 0, 0] S1x256x1024.size hh) hs).squeeze S256x1024 squeezes_S1x256x1024_S256x1024 = cslot 5 := cslot_congr (by decide) _ _
@[sl_canon] theorem obL5 (hh hs) : acM.slice (Rect.unit (s := S256x7168) ![0, 5120] S256x1024.size hh) hs = oblk 5 := oblk_congr (by decide) _ _
@[sl_canon] theorem clL6 (hh hs) : (acodM.slice (Rect.unit (s := S7x256x1024) ![6, 0, 0] S1x256x1024.size hh) hs).squeeze S256x1024 squeezes_S1x256x1024_S256x1024 = cslot 6 := cslot_congr (by decide) _ _
@[sl_canon] theorem obL6 (hh hs) : acM.slice (Rect.unit (s := S256x7168) ![0, 6144] S256x1024.size hh) hs = oblk 6 := oblk_congr (by decide) _ _

section Pieces
variable (c : Dev nD)
abbrev oblkP (b : Fin 7) (f : Buf (Elt F) (acM.view.loc (c : Thread nD τ))) : sProp 𝕄 :=
  (oblk b).view.loc (c : Thread nD τ) ↦[(oblk b).view.set]{fullShare} f
abbrev cslotP (b : Fin 7) (f : Buf (Elt F) (acodM.view.loc (c : Thread nD τ))) : sProp 𝕄 :=
  (cslot b).view.loc (c : Thread nD τ) ↦[(cslot b).view.set]{fullShare} f
abbrev hcP (f : Buf (Elt F) (hcM.view.loc (c : Thread nD τ))) : sProp 𝕄 := hcM.view.loc (c : Thread nD τ) ↦[hcM.view.set]{fullShare} f
end Pieces

end Cert.Proof.GateUp
end
-- ==== Proof.GuSpec.lean ====
/-
  What the buffers hold, as a function of the arguments: the quantised rows, their scales, the accumulators, the hidden rows. (Same text for both printed programs.)
-/
module

public import proofs.«01_k».proof.Proof.GuEpi
public import Idealize.ShloMosaic.Lib.Pipeline.ValueKit
public import Idealize.ShloMosaic.Lib.Pipeline.Value
public import Idealize.ShloMosaic.Lib.Pointwise
public import Idealize.ShloMosaic.Lib.WritesUnit

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## Lists of writes -/

section Writes
variable {κ : Kind} {sp : Space} {s : Shape} {e : EltTy} (v : View sig κ sp s e) (f : v.ty.Contents (Elt F))
  {ι : Type} (off size : ι → Fin s.rank → ℕ) (inb : ∀ l, ∀ a, off l a + size l a ≤ s.size a)
  (w : ∀ l, (Rect.unit (off l) (size l) (inb l)).shape.Idx → Elt F e)

theorem writes_miss (y : s.Idx) : ∀ Ls : List ι, (∀ l ∈ Ls, ∃ a, (y a).val < off l a ∨ off l a + size l a ≤ (y a).val) →
    v.read (Elt F) (v.writes (Elt F) f (Ls.map fun l => (⟨Rect.unit (off l) (size l) (inb l), w l⟩ : View.Piece (Elt F) s e))) y = v.read (Elt F) f y
  | [], _ => rfl
  | l :: Ls, h => by
    obtain ⟨a, ha⟩ := h l List.mem_cons_self
    exact (View.read_writes_cons_unit_of_not_mem v f (inb l) (w l) _ y rfl a ha).trans (writes_miss y Ls fun l' h' => h l' (List.mem_cons_of_mem _ h'))

theorem writes_hit [DecidableEq ι] (y : s.Idx) (l : ι) (x : (Rect.unit (off l) (size l) (inb l)).shape.Idx) (off' : Fin s.rank → ℕ) (he : off l = off') (hx : ∀ a, (y a).val = off' a + (x a).val) :
    ∀ Ls : List ι, l ∈ Ls → (∀ l' ∈ Ls, l' ≠ l → ∃ a, (y a).val < off l' a ∨ off l' a + size l' a ≤ (y a).val) →
    v.read (Elt F) (v.writes (Elt F) f (Ls.map fun l => (⟨Rect.unit (off l) (size l) (inb l), w l⟩ : View.Piece (Elt F) s e))) y = w l x
  | [], h, _ => absurd h List.not_mem_nil
  | l' :: Ls, h, hu => by
    by_cases e : l' = l
    · subst e
      exact View.read_writes_cons_unit_of_mem v f (inb l') (w l') _ y x he hx
    · obtain ⟨a, ha⟩ := hu l' List.mem_cons_self e
      refine (View.read_writes_cons_unit_of_not_mem v f (inb l') (w l') _ y rfl a ha).trans
        (writes_hit y l x off' he hx Ls ((List.mem_cons.mp h).resolve_left (Ne.symm e)) fun l'' h'' => hu l'' (List.mem_cons_of_mem _ h''))
end Writes

abbrev down8 : List (Fin 8) := [7, 6, 5, 4, 3, 2, 1, 0]
theorem mem_down8 (l : Fin 8) : l ∈ down8 := by revert l; decide
abbrev down18 : List (Fin 18) := [17, 16, 15, 14, 13, 12, 11, 10, 9, 8, 7, 6, 5, 4, 3, 2, 1, 0]
theorem mem_down18 (l : Fin 18) : l ∈ down18 := by revert l; decide
abbrev tiles18 : List (Fin 2 × Fin 9) := [(1, 8), (0, 8), (1, 7), (0, 7), (1, 6), (0, 6), (1, 5), (0, 5), (1, 4), (0, 4), (1, 3), (0, 3), (1, 2), (0, 2), (1, 1), (0, 1), (1, 0), (0, 0)]
theorem mem_tiles18 (l : Fin 2 × Fin 9) : l ∈ tiles18 := by revert l; decide

/-! ## Columns of scales put in place one after another -/

theorem scPut_apply (w : BitVec 32) (s t : FVec F S256x128 .f32) (x : S256x128.Idx) :
    scPut w s t x = if BitVec.ofNat 32 (x 1).val = w then s x else t x := by
  unfold scPut
  have el : laneI x = BitVec.ofNat 32 (x 1).val := iota_single_apply _ _ _ _ _ x
  show Scalar.select (IntOp.cmpi .eq (laneI x) w) (s x) (t x) = _
  rw [el]
  by_cases h : BitVec.ofNat 32 (x 1).val = w
  · rw [if_pos h, h]; simp [IntOp.cmpi, Scalar.select]
  · rw [if_neg h]; refine if_neg fun h1 => h ?_; change BitVec.ofBool (BitVec.ofNat 32 (x 1).val == w) = 1#1 at h1; rw [beq_eq_false_iff_ne.mpr h] at h1; exact absurd h1 (by decide)

theorem puts_miss {ι : Type} (W : ι → BitVec 32) (s : ι → FVec F S256x128 .f32) (t : FVec F S256x128 .f32) (x : S256x128.Idx) :
    ∀ Ls : List ι, (∀ l ∈ Ls, BitVec.ofNat 32 (x 1).val ≠ W l) → Ls.foldr (fun l t => scPut (W l) (s l) t) t x = t x
  | [], _ => rfl
  | l :: Ls, h => by
    rw [List.foldr_cons, scPut_apply, if_neg (h l List.mem_cons_self)]
    exact puts_miss W s t x Ls fun l' h' => h l' (List.mem_cons_of_mem _ h')
theorem puts_hit {ι : Type} [DecidableEq ι] (W : ι → BitVec 32) (s : ι → FVec F S256x128 .f32) (t : FVec F S256x128 .f32) (x : S256x128.Idx) (l : ι)
    (hl : BitVec.ofNat 32 (x 1).val = W l) : ∀ Ls : List ι, l ∈ Ls → (∀ l' ∈ Ls, l' ≠ l → W l' ≠ W l) → Ls.foldr (fun l t => scPut (W l) (s l) t) t x = s l x
  | [], h, _ => absurd h List.not_mem_nil
  | l' :: Ls, h, hu => by
    rw [List.foldr_cons, scPut_apply]
    by_cases e : l' = l
    · subst e; rw [if_pos hl]
    · rw [if_neg (fun h' => hu l' List.mem_cons_self e (h'.symm.trans hl))]
      exact puts_hit W s t x l hl Ls ((List.mem_cons.mp h).resolve_left (Ne.symm e)) fun l'' h'' => hu l'' (List.mem_cons_of_mem _ h'')

/-! ## The values -/

section Spec
variable (U : Vec F S56x256x128 .f32) (R : Vec F S256x128 .f32) (M : Vec F S56x128 .f32)
  (WG WU : Vec F S7168x2304 .fp8e4m3) (SG SU : Vec F S18x56 .f32)

/-- Lane `li` (columns `128 li` to `128 li + 127`) of the normalised rows. -/
def laneY (li : Fin 56) : FVec F S256x128 .f32 :=
  yv (fun y => U (ix3 li (y 1 : Fin 256) (y 2 : Fin 128))) R (fun y => M (ix2 li (y 1 : Fin 128)))
/-- Lane `l` of chunk `b`. -/
def laneOf (b : Fin 7) (l : Fin 8) : Fin 56 := ⟨8 * b.val + l.val, by have := b.isLt; have := l.isLt; omega⟩
/-- Which lane of its chunk a column is in, and its place in the lane. -/
def hi8 (j : Fin 1024) : Fin 8 := ⟨j.val / 128, by have := j.isLt; omega⟩
def lo8 (j : Fin 1024) : Fin 128 := ⟨j.val % 128, Nat.mod_lt _ (by decide)⟩
/-- The codes, chunk by chunk; -/
def codS : S7x256x1024.Idx → Elt F .fp8e4m3 := fun x => codv (laneY U R M (laneOf (x 0 : Fin 7) (hi8 (x 2 : Fin 1024)))) (ix2 (x 1 : Fin 256) (lo8 (x 2 : Fin 1024)))
/-- the dequantised rows of chunk `b`; -/
def deqC (b : Fin 7) : Vec F S1x256x1024 .bf16 := fun x => deqv (laneY U R M (laneOf b (hi8 (x 2 : Fin 1024)))) (ix2 (x 1 : Fin 256) (lo8 (x 2 : Fin 1024)))
/-- tile `n` of row block `b` of a weight, and its scales; -/
def wBlk (W : Vec F S7168x2304 .fp8e4m3) (b : Fin 7) (n : Fin 9) : Vec F S1x1x1024x256 .fp8e4m3 := fun y =>
  W (ix2 (⟨1024 * b.val + (y 2 : Fin 1024).val, by have := b.isLt; have : (y 2).val < 1024 := (y 2).isLt; show 1024 * b.val + (y 2).val < 7168; omega⟩ : Fin 7168)
    (⟨256 * n.val + (y 3 : Fin 256).val, by have := n.isLt; have : (y 3).val < 256 := (y 3).isLt; show 256 * n.val + (y 3).val < 2304; omega⟩ : Fin 2304))
def sBlk (S : Vec F S18x56 .f32) (b : Fin 7) (n : Fin 9) (i : Fin 8) (h : Fin 2) : Elt F .f32 :=
  S (ix2 (⟨2 * n.val + h.val, by have := n.isLt; have := h.isLt; omega⟩ : Fin 18) (laneOf b i))
/-- an accumulator tile before trip `b`; -/
def accV (W : Vec F S7168x2304 .fp8e4m3) (S : Vec F S18x56 .f32) (n : Fin 9) : ℕ → FVec F S256x256 .f32
  | 0 => broadcast S256x256 (Scalar.ofBits .f32 0x00000000#32)
  | b + 1 => addf (accV W S n b) (gTile (deqC U R M (Ring.bk 7 b)) (wBlk W (Ring.bk 7 b) n) (sBlk S (Ring.bk 7 b) n))
/-- the hidden rows, tile `n`: gate times its logistic times up; -/
def hmOf (g p : FVec F S256x256 .f32) : FVec F S256x256 .f32 := mulf (mulf g (logistic g)) p
def hmV (n : Fin 9) : FVec F S256x256 .f32 := hmOf (accV U R M WG SG n 7) (accV U R M WU SU n 7)
/-- and a lane of a tile of hidden rows. -/
def halfOf (h : Fin 2) (v : FVec F S256x256 .f32) : FVec F S256x128 .f32 :=
  ![extractStridedSlice S256x128 ![0, 0] v slices_S256x256_o0_0_S256x128, extractStridedSlice S256x128 ![0, 128] v slices_S256x256_o0_128_S256x128] h
def tileOf (j : Fin 18) : Fin 9 := ⟨j.val / 2, by have := j.isLt; omega⟩
def partOf (j : Fin 18) : Fin 2 := ⟨j.val % 2, Nat.mod_lt _ (by decide)⟩
def hlV (j : Fin 18) : FVec F S256x128 .f32 := halfOf (partOf j) (hmV U R M WG WU SG SU (tileOf j))
/-- Which hidden lane a column is in, and its place in the lane. -/
def hi18 (j : Fin 2304) : Fin 18 := ⟨j.val / 128, by have := j.isLt; omega⟩
def lo18 (j : Fin 2304) : Fin 128 := ⟨j.val % 128, Nat.mod_lt _ (by decide)⟩

/-! ## What is claimed of the buffers -/

/-- The codes of chunks 0 to `k` are in place; -/
def codOK (k : ℕ) (C : S7x256x1024.Idx → Elt F .fp8e4m3) : Prop := ∀ x, (x 0).val ≤ k → C x = codS U R M x
/-- slot `s` holds chunk `b` of the dequantised rows; -/
def absOK (s : ℕ) (b : Fin 7) (fa : S2x256x1024.Idx → Elt F .bf16) : Prop := ∀ x, (x 0).val = s → fa x = deqC U R M b (ix3 (0 : Fin 1) (x 1 : Fin 256) (x 2 : Fin 1024))
/-- the scales of chunks 0 to `k` are in place; -/
def ascOK (k : ℕ) (B : S256x128.Idx → Elt F .f32) : Prop := ∀ (x : S256x128.Idx) (n : Fin 56), (x 1).val = n.val → n.val < 8 * (k + 1) → B x = scv (laneY U R M n) x
/-- the accumulators hold the sums over chunks 0 to `k - 1`. -/
def accOK (k : ℕ) (A : S2x9x256x256.Idx → Elt F .f32) : Prop :=
  ∀ x, A x = ![accV U R M WG SG (x 1 : Fin 9) k, accV U R M WU SU (x 1 : Fin 9) k] (x 0 : Fin 2) (ix2 (x 2 : Fin 256) (x 3 : Fin 256))
end Spec

/-! ## A chunk's stores -/

theorem same_apply {e : Type} (v : S256x128.Idx → e) (x : S256x128.Idx) : shapeCast S256x128 v shapeCasts_S256x128_S256x128 x = v x := shapeCast_apply _ _ x x rfl
theorem same_eq {e : Type} (v : S256x128.Idx → e) : shapeCast S256x128 v shapeCasts_S256x128_S256x128 = v := funext fun x => same_apply v x
theorem lift_apply {e : Type} (v : S256x128.Idx → e) (i : Fin 256) (j : Fin 128) : shapeCast S1x256x128 v shapeCasts_S256x128_S1x256x128 (ix3 (0 : Fin 1) i j) = v (ix2 i j) :=
  shapeCast_apply _ _ (ix3 (0 : Fin 1) i j) (ix2 i j) (by rw [Shape.rowMajor_val_two, Shape.rowMajor_val_three]; show i.val * 128 + j.val = (0 * 256 + i.val) * 128 + j.val; omega)

theorem cod_stores {c : Dev nD} (b : Fin 7) (off : Fin 8 → Fin 3 → ℕ) (inb : ∀ l, ∀ a, off l a + S1x256x128.size a ≤ S7x256x1024.size a) (e : ∀ l, off l = ![b.val, 0, 128 * l.val])
    (y : Fin 8 → FVec F S256x128 .f32) (C : Buf (Elt F) (acodM.view.loc (c : Thread nD τ))) (x : S7x256x1024.Idx) :
    ((x 0).val ≠ b.val → acodM.view.read (Elt F) (acodM.view.writes (Elt F) C (down8.map fun l => (⟨Rect.unit (s := S7x256x1024) (off l) S1x256x128.size (inb l), shapeCast S1x256x128 (codv (y l)) shapeCasts_S256x128_S1x256x128⟩ : View.Piece (Elt F) S7x256x1024 .fp8e4m3))) x = acodM.view.read (Elt F) C x)
    ∧ ((x 0).val = b.val → acodM.view.read (Elt F) (acodM.view.writes (Elt F) C (down8.map fun l => (⟨Rect.unit (s := S7x256x1024) (off l) S1x256x128.size (inb l), shapeCast S1x256x128 (codv (y l)) shapeCasts_S256x128_S1x256x128⟩ : View.Piece (Elt F) S7x256x1024 .fp8e4m3))) x
      = codv (y (hi8 (x 2 : Fin 1024))) (ix2 (x 1 : Fin 256) (lo8 (x 2 : Fin 1024)))) := by
  have hx2 : (x 2).val < 1024 := (x 2).isLt
  constructor
  · intro h
    refine writes_miss acodM.view C off (fun _ => S1x256x128.size) inb (fun l => shapeCast S1x256x128 (codv (y l)) shapeCasts_S256x128_S1x256x128) x down8 fun l _ => ⟨0, ?_⟩
    rw [e]; show (x 0).val < b.val ∨ b.val + 1 ≤ (x 0).val; omega
  · intro h
    refine (writes_hit acodM.view C off (fun _ => S1x256x128.size) inb (fun l => shapeCast S1x256x128 (codv (y l)) shapeCasts_S256x128_S1x256x128) x (hi8 (x 2 : Fin 1024)) (ix3 (0 : Fin 1) (x 1 : Fin 256) (lo8 (x 2 : Fin 1024))) _ (e _) ?_ down8 (mem_down8 _) ?_).trans (lift_apply _ _ _)
    · intro a; fin_cases a
      · show (x 0).val = b.val + 0; omega
      · show (x 1).val = 0 + (x 1).val; omega
      · show (x 2).val = 128 * ((x 2).val / 128) + (x 2).val % 128; omega
    · intro l _ hl
      refine ⟨2, ?_⟩
      have : l.val ≠ (x 2).val / 128 := fun h' => hl (Fin.ext h')
      rw [e]; show (x 2).val < 128 * l.val ∨ 128 * l.val + 128 ≤ (x 2).val; omega

theorem deq_stores {c : Dev nD} (s : ℕ) (off : Fin 8 → Fin 3 → ℕ) (inb : ∀ l, ∀ a, off l a + S1x256x128.size a ≤ S2x256x1024.size a) (e : ∀ l, off l = ![s, 0, 128 * l.val])
    (y : Fin 8 → FVec F S256x128 .f32) (C : Buf (Elt F) (abfM.view.loc (c : Thread nD τ))) (x : S2x256x1024.Idx) (h : (x 0).val = s) :
    abfM.view.read (Elt F) (abfM.view.writes (Elt F) C (down8.map fun l => (⟨Rect.unit (s := S2x256x1024) (off l) S1x256x128.size (inb l), shapeCast S1x256x128 (deqv (y l)) shapeCasts_S256x128_S1x256x128⟩ : View.Piece (Elt F) S2x256x1024 .bf16))) x
      = deqv (y (hi8 (x 2 : Fin 1024))) (ix2 (x 1 : Fin 256) (lo8 (x 2 : Fin 1024))) := by
  have hx2 : (x 2).val < 1024 := (x 2).isLt
  refine (writes_hit abfM.view C off (fun _ => S1x256x128.size) inb (fun l => shapeCast S1x256x128 (deqv (y l)) shapeCasts_S256x128_S1x256x128) x (hi8 (x 2 : Fin 1024)) (ix3 (0 : Fin 1) (x 1 : Fin 256) (lo8 (x 2 : Fin 1024))) _ (e _) ?_ down8 (mem_down8 _) ?_).trans (lift_apply _ _ _)
  · intro a; fin_cases a
    · show (x 0).val = s + 0; omega
    · show (x 1).val = 0 + (x 1).val; omega
    · show (x 2).val = 128 * ((x 2).val / 128) + (x 2).val % 128; omega
  · intro l _ hl
    refine ⟨2, ?_⟩
    have : l.val ≠ (x 2).val / 128 := fun h' => hl (Fin.ext h')
    rw [e]; show (x 2).val < 128 * l.val ∨ 128 * l.val + 128 ≤ (x 2).val; omega

/-- A whole store over a buffer. -/
theorem whole256_store {c : Dev nD} (v : S256x128.Idx → Elt F .f32) (B : Buf (Elt F) (ascM.view.loc (c : Thread nD τ))) (L) (x : S256x128.Idx) :
    ascM.view.read (Elt F) (ascM.view.writes (Elt F) B ((⟨Rect.unit (s := S256x128) ![0, 0] S256x128.size inb_S256x128_S256x128_0_0, v⟩ : View.Piece (Elt F) S256x128 .f32) :: L)) x = v x :=
  View.read_writes_cons_unit_of_mem ascM.view B inb_S256x128_S256x128_0_0 v L x x rfl (fun a => by fin_cases a <;> exact (Nat.zero_add _).symm)

end Cert.Proof.GateUp
end
-- ==== Proof.GuFacts.lean ====
/-
  A trip's loads are the arguments' blocks, and its stores keep the claims. (Same text for both printed programs.)
-/
module

public import proofs.«01_k».proof.Proof.GuSpec

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Facts
variable (c : Dev nD) (XG : Buf (Elt F) (wgM.view.loc (c : Thread nD τ))) (XP : Buf (Elt F) (wuM.view.loc (c : Thread nD τ)))
  (arg0 : Memref sig .tc .vmem S56x256x128 .f32) (arg1 : Memref sig .tc .vmem S256x128 .f32)
  (arg2 : Memref sig .tc .vmem S56x128 .f32) (arg4 : Memref sig .tc .smem S18x56 .f32) (arg6 : Memref sig .tc .smem S18x56 .f32)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (U : Vec F S56x256x128 .f32) (R : Vec F S256x128 .f32) (M : Vec F S56x128 .f32)
  (WG WU : Vec F S7168x2304 .fp8e4m3) (SG SU : Vec F S18x56 .f32)
  (hU : arg0.view.read (Elt F) XU = U) (hR : arg1.view.read (Elt F) XR = R) (hM : arg2.view.read (Elt F) XM = M)
  (hS : arg4.view.read (Elt F) XS = SG) (hT : arg6.view.read (Elt F) XT = SU)
  (hG : wgM.view.read (Elt F) XG = WG) (hP : wuM.view.read (Elt F) XP = WU)

/-! ## Loads -/

include hU hR hM in
/-- The lane a chunk's loads make. -/
theorem lane_loads (li : Fin 56) (o0 : Fin 3 → ℕ) (o2 : Fin 2 → ℕ) (i0 : ∀ a, o0 a + S1x256x128.size a ≤ S56x256x128.size a) (i2 : ∀ a, o2 a + S1x128.size a ≤ S56x128.size a)
    (e0 : o0 = ![li.val, 0, 0]) (e2 : o2 = ![li.val, 0]) :
    yv (View.readAt (Elt F) arg0.view (Rect.unit (s := S56x256x128) o0 S1x256x128.size i0).toLoadRect XU)
      (View.readAt (Elt F) arg1.view (Rect.unit (s := S256x128) ![0, 0] S256x128.size inb_S256x128_S256x128_0_0).toLoadRect XR)
      (View.readAt (Elt F) arg2.view (Rect.unit (s := S56x128) o2 S1x128.size i2).toLoadRect XM) = laneY U R M li := by
  subst e0 e2
  have eu : View.readAt (Elt F) arg0.view (Rect.unit (s := S56x256x128) ![li.val, 0, 0] S1x256x128.size i0).toLoadRect XU = fun y => U (ix3 li (y 1 : Fin 256) (y 2 : Fin 128)) := by
    funext y
    have h0 : (y 0).val < 1 := (y 0).isLt
    rw [View.readAt_apply, hU]
    refine congrArg U (funext fun a => Fin.ext ?_)
    fin_cases a
    · show li.val + 1 * (y 0).val = li.val; omega
    · show 0 + 1 * (y 1).val = (y 1).val; omega
    · show 0 + 1 * (y 2).val = (y 2).val; omega
  have er : View.readAt (Elt F) arg1.view (Rect.unit (s := S256x128) ![0, 0] S256x128.size inb_S256x128_S256x128_0_0).toLoadRect XR = R := by
    funext y
    rw [View.readAt_apply, hR]
    refine congrArg R (funext fun a => Fin.ext ?_)
    fin_cases a
    · show 0 + 1 * (y 0).val = (y 0).val; omega
    · show 0 + 1 * (y 1).val = (y 1).val; omega
  have em : View.readAt (Elt F) arg2.view (Rect.unit (s := S56x128) ![li.val, 0] S1x128.size i2).toLoadRect XM = fun y => M (ix2 li (y 1 : Fin 128)) := by
    funext y
    have h0 : (y 0).val < 1 := (y 0).isLt
    rw [View.readAt_apply, hM]
    refine congrArg M (funext fun a => Fin.ext ?_)
    fin_cases a
    · show li.val + 1 * (y 0).val = li.val; omega
    · show 0 + 1 * (y 1).val = (y 1).val; omega
  rw [eu, er, em]; rfl

include hU hR hM in
theorem qy_eq (k : Fin k0_t1_loop.trips) (l : Fin 8) : qy c arg0 arg1 arg2 XU XR XM k l = laneY U R M (laneOf (Ring.bk 7 (k.val + 1)) l) := by
  have hk := Nat.lt_of_lt_of_eq k.isLt trips_eq
  have hb : (Ring.bk 7 (k.val + 1)).val = k.val + 1 := Ring.bk_val (NB := 7) (by omega)
  have hl : (laneOf (Ring.bk 7 (k.val + 1)) l).val = 8 * k.val + l.val + 8 := by show 8 * (Ring.bk 7 (k.val + 1)).val + l.val = _; rw [hb]; omega
  refine lane_loads c arg0 arg1 arg2 XU XR XM U R M hU hR hM (laneOf (Ring.bk 7 (k.val + 1)) l) _ _ (uOff_inb k l) (mOff_inb k l) ?_ ?_
  · rw [hl]; exact k0_off5_eq k l
  · rw [hl]; exact k0_off6_eq k l

theorem s_load (q : Memref sig .tc .smem S18x56 .f32) (X : Buf (Elt F) (q.view.loc (c : Thread nD τ))) (S : Vec F S18x56 .f32) (h : q.view.read (Elt F) X = S)
    (b : Fin 7) (n : Fin 9) (i : Fin 8) (r : Fin 2) (o : Fin 2 → ℕ) (inb : ∀ a, o a + S1x1.size a ≤ S18x56.size a) (e : o = ![2 * n.val + r.val, 8 * b.val + i.val]) :
    View.readAt (Elt F) q.view (Rect.unit (s := S18x56) o S1x1.size inb).toLoadRect X (Shape.Idx.first (show 0 < S1x1.numel by decide)) = sBlk S b n i r := by
  subst e
  rw [View.readAt_apply, h]
  refine congrArg S (funext fun a => Fin.ext ?_)
  fin_cases a
  · show 2 * n.val + r.val + 1 * 0 = 2 * n.val + r.val; omega
  · show 8 * b.val + i.val + 1 * 0 = 8 * b.val + i.val; omega

/-- A weight slot read at an element: the buffer at the slot's numbers and the element's coordinates. -/
theorem gslot_read (s p : Fin 2) (f : Buf (Elt F) (wguM.view.loc (c : Thread nD τ))) (y : S1024x2304.Idx) :
    (gslot s p).view.read (Elt F) f y = wguM.view.read (Elt F) f (ix4 s p (y 0 : Fin 1024) (y 1 : Fin 2304)) := by
  have hc : S1x1x1024x2304.ShapeCasts S1024x2304 := by decide
  have e := congrFun (Memref.read_squeeze_slice (Val := Elt F) wguM (Rect.unit (s := S2x2x1024x2304) (gOff s p) S1x1x1024x2304.size (gslot_inb s p)) (fun _ => rfl)
    squeezes_S1x1x1024x2304_S1024x2304 hc f) y
  refine e.trans ((shapeCast_apply _ hc y (ix4 (0 : Fin 1) (0 : Fin 1) (y 0 : Fin 1024) (y 1 : Fin 2304)) ?_).trans ?_)
  · rw [Shape.rowMajor_val_two, Shape.rowMajor_val_four]
    show ((0 * 1 + 0) * 1024 + (y 0).val) * 2304 + (y 1).val = (y 0).val * 2304 + (y 1).val
    omega
  · refine congrArg (f : S2x2x1024x2304.Idx → Elt F .fp8e4m3) (funext fun a => Fin.ext ?_)
    refine (ValueKit.view_emb_slice_whole_unit_val cc0_scratch1 (gOff s p) S1x1x1024x2304.size (gslot_inb s p) (ix4 (0 : Fin 1) (0 : Fin 1) (y 0 : Fin 1024) (y 1 : Fin 2304)) a).trans ?_
    fin_cases a
    · show s.val + 0 = s.val; omega
    · show p.val + 0 = p.val; omega
    · show 0 + (y 0).val = (y 0).val; omega
    · show 0 + (y 1).val = (y 1).val; omega

/-- A tile loaded from a weight slot after a block has landed there. -/
theorem w_load (s p : Fin 2) (n : Fin 9) (o : Fin 4 → ℕ) (inb : ∀ a, o a + S1x1x1024x256.size a ≤ S2x2x1024x2304.size a) (e : o = ![s.val, p.val, 0, 256 * n.val])
    (W : Vec F S7168x2304 .fp8e4m3) (b : Fin 7) (x : S1024x2304.Idx → Elt F .fp8e4m3)
    (hx : ∀ i j, x (ix2 i j) = W (ix2 (⟨1024 * b.val + i.val, by have := b.isLt; have := i.isLt; omega⟩ : Fin 7168) j)) (g : Buf (Elt F) (wguM.view.loc (c : Thread nD τ))) :
    View.readAt (Elt F) wguM.view (Rect.unit (s := S2x2x1024x2304) o S1x1x1024x256.size inb).toLoadRect
      ((gslot s p).view.writes (Elt F) g [⟨Rect.whole S1024x2304, x⟩]) = wBlk W b n := by
  subst e
  funext y
  have h0 : (y 0).val < 1 := (y 0).isLt
  have h1 : (y 1).val < 1 := (y 1).isLt
  have h2 : (y 2).val < 1024 := (y 2).isLt
  have h3 : (y 3).val < 256 := (y 3).isLt
  have hn := n.isLt
  have er := congrFun (View.read_writes_whole (gslot s p).view g x) (ix2 (⟨(y 2).val, h2⟩ : Fin 1024) (⟨256 * n.val + (y 3).val, by omega⟩ : Fin 2304))
  refine Eq.trans ?_ ((gslot_read c s p ((gslot s p).view.writes (Elt F) g [⟨Rect.whole S1024x2304, x⟩]) (ix2 (⟨(y 2).val, h2⟩ : Fin 1024) (⟨256 * n.val + (y 3).val, by omega⟩ : Fin 2304))).symm.trans (er.trans (hx _ _)))
  refine congrArg (wguM.view.read (Elt F) ((gslot s p).view.writes (Elt F) g [⟨Rect.whole S1024x2304, x⟩])) (funext fun a => Fin.ext ?_)
  fin_cases a
  · show s.val + 1 * (y 0).val = s.val; omega
  · show p.val + 1 * (y 1).val = p.val; omega
  · show 0 + 1 * (y 2).val = (y 2).val; omega
  · show 256 * n.val + 1 * (y 3).val = 256 * n.val + (y 3).val; omega

include hG in
theorem wg_block (b : Fin 7) (i : Fin 1024) (j : Fin 2304) : (ReadAs.same.apply ((wgblk b).view.read (Elt F) XG) : S1024x2304.Idx → Elt F .fp8e4m3) (ix2 i j)
    = WG (ix2 (⟨1024 * b.val + i.val, by have := b.isLt; have := i.isLt; omega⟩ : Fin 7168) j) := by
  rw [← hG]
  refine congrArg (XG : S7168x2304.Idx → Elt F .fp8e4m3) (funext fun a => Fin.ext ?_)
  refine (ValueKit.view_emb_slice_whole_unit_val main_arg3 (rowOff b) S1024x2304.size (wrow_inb b) (ix2 i j) a).trans ?_
  fin_cases a
  · rfl
  · show 0 + j.val = j.val; omega
include hP in
theorem wu_block (b : Fin 7) (i : Fin 1024) (j : Fin 2304) : (ReadAs.same.apply ((wublk b).view.read (Elt F) XP) : S1024x2304.Idx → Elt F .fp8e4m3) (ix2 i j)
    = WU (ix2 (⟨1024 * b.val + i.val, by have := b.isLt; have := i.isLt; omega⟩ : Fin 7168) j) := by
  rw [← hP]
  refine congrArg (XP : S7168x2304.Idx → Elt F .fp8e4m3) (funext fun a => Fin.ext ?_)
  refine (ValueKit.view_emb_slice_whole_unit_val main_arg5 (rowOff b) S1024x2304.size (wrow_inb b) (ix2 i j) a).trans ?_
  fin_cases a
  · rfl
  · show 0 + j.val = j.val; omega

theorem a_load (s : Fin 2) (b : Fin 7) (fa : Buf (Elt F) (abfM.view.loc (c : Thread nD τ))) (h : absOK U R M s.val b (abfM.view.read (Elt F) fa))
    (o : Fin 3 → ℕ) (inb : ∀ a, o a + S1x256x1024.size a ≤ S2x256x1024.size a) (e : o = ![s.val, 0, 0]) :
    View.readAt (Elt F) abfM.view (Rect.unit (s := S2x256x1024) o S1x256x1024.size inb).toLoadRect fa = deqC U R M b := by
  subst e
  funext y
  have h0 : (y 0).val < 1 := (y 0).isLt
  rw [View.readAt_apply]
  refine Eq.trans (congrArg (abfM.view.read (Elt F) fa) (?_ : _ = (ix3 s (y 1 : Fin 256) (y 2 : Fin 1024) : S2x256x1024.Idx))) ((h _ rfl).trans rfl)
  refine funext fun a => Fin.ext ?_
  fin_cases a
  · show s.val + 1 * (y 0).val = s.val; omega
  · show 0 + 1 * (y 1).val = (y 1).val; omega
  · show 0 + 1 * (y 2).val = (y 2).val; omega

theorem c_load (k : ℕ) (A : Buf (Elt F) (accM.view.loc (c : Thread nD τ))) (h : accOK U R M WG WU SG SU k (accM.view.read (Elt F) A)) (w : Fin 2) (n : Fin 9) :
    shapeCast S256x256 (cld c A w n) shapeCasts_S1x1x256x256_S256x256 = ![accV U R M WG SG n k, accV U R M WU SU n k] w := by
  funext y
  refine (shapeCast_apply _ _ y (ix4 (0 : Fin 1) (0 : Fin 1) (y 0 : Fin 256) (y 1 : Fin 256)) ?_).trans ?_
  · rw [Shape.rowMajor_val_two, Shape.rowMajor_val_four]
    show ((0 * 1 + 0) * 256 + (y 0).val) * 256 + (y 1).val = (y 0).val * 256 + (y 1).val
    omega
  refine (View.readAt_apply _ _ _).trans ?_
  refine Eq.trans (congrArg (accM.view.read (Elt F) A) (?_ : _ = (ix4 w n (y 0 : Fin 256) (y 1 : Fin 256) : S2x9x256x256.Idx))) ((h _).trans ?_)
  · refine funext fun a => Fin.ext ?_
    fin_cases a
    · show w.val + 1 * 0 = w.val; omega
    · show n.val + 1 * 0 = n.val; omega
    · show 0 + 1 * (y 0).val = (y 0).val; omega
    · show 0 + 1 * (y 1).val = (y 1).val; omega
  refine congrArg (![accV U R M WG SG n k, accV U R M WU SU n k] w) (funext fun a => ?_)
  fin_cases a <;> rfl

/-! ## The claims after a trip -/

theorem bk_succ (k : Fin k0_t1_loop.trips) : (Ring.bk 7 (k.val + 1)).val = k.val + 1 := by
  have hk := Nat.lt_of_lt_of_eq k.isLt trips_eq
  exact Ring.bk_val (NB := 7) (by omega)

abbrev codOffs (k : Fin k0_t1_loop.trips) : Fin 8 → Fin 3 → ℕ := ![k0_off7 k, k0_off9 k, k0_off11 k, k0_off13 k, k0_off15 k, k0_off17 k, k0_off19 k, k0_off21 k]
theorem codOffs_eq (k : Fin k0_t1_loop.trips) (l : Fin 8) : codOffs k l = ![k.val + 1, 0, 128 * l.val] := by
  fin_cases l
  · exact off7_eq k
  · exact off9_eq k
  · exact off11_eq k
  · exact off13_eq k
  · exact off15_eq k
  · exact off17_eq k
  · exact off19_eq k
  · exact off21_eq k
theorem codOffs_inb (k : Fin k0_t1_loop.trips) (l : Fin 8) : ∀ a, codOffs k l a + S1x256x128.size a ≤ S7x256x1024.size a := by
  fin_cases l
  · exact coff7_inb k
  · exact coff9_inb k
  · exact coff11_inb k
  · exact coff13_inb k
  · exact coff15_inb k
  · exact coff17_inb k
  · exact coff19_inb k
  · exact coff21_inb k
abbrev deqOffs (k : Fin k0_t1_loop.trips) : Fin 8 → Fin 3 → ℕ := ![k0_off8 k, k0_off10 k, k0_off12 k, k0_off14 k, k0_off16 k, k0_off18 k, k0_off20 k, k0_off22 k]
theorem deqOffs_eq (k : Fin k0_t1_loop.trips) (l : Fin 8) : deqOffs k l = ![(Ring.sl 2 (k.val + 1)).val, 0, 128 * l.val] := by
  fin_cases l
  · exact off8_eq k
  · exact off10_eq k
  · exact off12_eq k
  · exact off14_eq k
  · exact off16_eq k
  · exact off18_eq k
  · exact off20_eq k
  · exact off22_eq k
theorem deqOffs_inb (k : Fin k0_t1_loop.trips) (l : Fin 8) : ∀ a, deqOffs k l a + S1x256x128.size a ≤ S2x256x1024.size a := by
  fin_cases l
  · exact aoff8_inb k
  · exact aoff10_inb k
  · exact aoff12_inb k
  · exact aoff14_inb k
  · exact aoff16_inb k
  · exact aoff18_inb k
  · exact aoff20_inb k
  · exact aoff22_inb k

include hU hR hM in
theorem cod_trip (k : Fin k0_t1_loop.trips) (C : Buf (Elt F) (acodM.view.loc (c : Thread nD τ))) (h : codOK U R M k.val (acodM.view.read (Elt F) C)) :
    codOK U R M (k.val + 1) (acodM.view.read (Elt F) (acodM.view.writes (Elt F) C (codL c arg0 arg1 arg2 XU XR XM k))) := by
  intro x hx
  have e : codL c arg0 arg1 arg2 XU XR XM k = down8.map fun l => (⟨Rect.unit (s := S7x256x1024) (codOffs k l) S1x256x128.size (codOffs_inb k l), shapeCast S1x256x128 (codv (qy c arg0 arg1 arg2 XU XR XM k l)) shapeCasts_S256x128_S1x256x128⟩ : View.Piece (Elt F) S7x256x1024 .fp8e4m3) := rfl
  have hb := bk_succ k
  have st := cod_stores (c := c) (Ring.bk 7 (k.val + 1)) (codOffs k) (codOffs_inb k) (fun l => (codOffs_eq k l).trans (by rw [hb])) (fun l => qy c arg0 arg1 arg2 XU XR XM k l) C x
  rw [e]
  by_cases hx0 : (x 0).val = k.val + 1
  · refine (st.2 (hx0.trans hb.symm)).trans ?_
    have e0 : (x 0 : Fin 7) = Ring.bk 7 (k.val + 1) := Fin.ext (hx0.trans hb.symm)
    rw [qy_eq c arg0 arg1 arg2 XU XR XM U R M hU hR hM]
    unfold codS
    rw [e0]
  · exact (st.1 (fun h' => hx0 (h'.trans hb))).trans (h x (by omega))

include hU hR hM in
theorem deq_trip (k : Fin k0_t1_loop.trips) (fb : Buf (Elt F) (abfM.view.loc (c : Thread nD τ))) :
    absOK U R M (Ring.sl 2 (k.val + 1)).val (Ring.bk 7 (k.val + 1)) (abfM.view.read (Elt F) (deqS c arg0 arg1 arg2 XU XR XM k fb)) := by
  intro x hx
  have e : deqS c arg0 arg1 arg2 XU XR XM k fb = abfM.view.writes (Elt F) fb (down8.map fun l => (⟨Rect.unit (s := S2x256x1024) (deqOffs k l) S1x256x128.size (deqOffs_inb k l), shapeCast S1x256x128 (deqv (qy c arg0 arg1 arg2 XU XR XM k l)) shapeCasts_S256x128_S1x256x128⟩ : View.Piece (Elt F) S2x256x1024 .bf16)) := rfl
  rw [e]
  refine (deq_stores (c := c) _ (deqOffs k) (deqOffs_inb k) (deqOffs_eq k) (fun l => qy c arg0 arg1 arg2 XU XR XM k l) fb x hx).trans ?_
  rw [qy_eq c arg0 arg1 arg2 XU XR XM U R M hU hR hM]
  rfl

theorem laneW_eq : ∀ (k : Fin k0_t1_loop.trips) (l : Fin 8), laneW k l = BitVec.ofNat 32 (8 * (k.val + 1) + l.val) := by decide +kernel
theorem word_inj {a b : ℕ} (ha : a < 128) (hb : b < 128) (h : BitVec.ofNat 32 a = BitVec.ofNat 32 b) : a = b := by
  have := congrArg BitVec.toNat h
  simp only [BitVec.toNat_ofNat] at this
  omega

include hU hR hM in
theorem asc_trip (k : Fin k0_t1_loop.trips) (B : Buf (Elt F) (ascM.view.loc (c : Thread nD τ))) (h : ascOK U R M k.val (ascM.view.read (Elt F) B)) :
    ascOK U R M (k.val + 1) (ascM.view.read (Elt F) (ascM.view.writes (Elt F) B (scaL c arg0 arg1 arg2 XU XR XM k B))) := by
  intro x n hx hn
  have hk := Nat.lt_of_lt_of_eq k.isLt trips_eq
  have hb := bk_succ k
  have hn' := n.isLt
  refine (whole256_store (c := c) _ B [] x).trans ((same_apply _ x).trans ?_)
  have e : ∀ t, scTrip c arg0 arg1 arg2 XU XR XM k t = down8.foldr (fun l t => scPut (laneW k l) (scv (qy c arg0 arg1 arg2 XU XR XM k l)) t) t := fun _ => rfl
  rw [e]
  by_cases h8 : n.val < 8 * (k.val + 1)
  · rw [puts_miss (laneW k) (fun l => scv (qy c arg0 arg1 arg2 XU XR XM k l)) _ x down8 (fun l _ h' => by
      rw [laneW_eq, hx] at h'; have := l.isLt; have := word_inj (by omega) (by omega) h'; omega)]
    rw [View.readAt_apply]
    refine Eq.trans (congrArg (ascM.view.read (Elt F) B) (funext fun a => Fin.ext ?_)) (h x n hx h8)
    fin_cases a
    · show 0 + 1 * (x 0).val = (x 0).val; omega
    · show 0 + 1 * (x 1).val = (x 1).val; omega
  · have hl : n.val - 8 * (k.val + 1) < 8 := by omega
    rw [puts_hit (laneW k) (fun l => scv (qy c arg0 arg1 arg2 XU XR XM k l)) _ x ⟨n.val - 8 * (k.val + 1), hl⟩ (by
      rw [laneW_eq, hx]; exact congrArg _ (by show n.val = 8 * (k.val + 1) + (n.val - 8 * (k.val + 1)); omega)) down8 (mem_down8 _) (fun l _ hne h' => by
      rw [laneW_eq, laneW_eq] at h'; have := l.isLt; have h'' := word_inj (by omega) (by show 8 * (k.val + 1) + (n.val - 8 * (k.val + 1)) < 128; omega) h'
      exact hne (Fin.ext (by show l.val = n.val - 8 * (k.val + 1); have : 8 * (k.val + 1) + l.val = 8 * (k.val + 1) + (n.val - 8 * (k.val + 1)) := h''; omega)))]
    show scv (qy c arg0 arg1 arg2 XU XR XM k _) x = _
    rw [qy_eq c arg0 arg1 arg2 XU XR XM U R M hU hR hM]
    refine congrArg (fun q => scv (laneY U R M q) x) (Fin.ext ?_)
    show 8 * (Ring.bk 7 (k.val + 1)).val + (n.val - 8 * (k.val + 1)) = n.val
    rw [hb]; omega

include hG hS in
theorem tileG_eq (k : Fin k0_t1_loop.trips) (n : Fin 9) (fa : Buf (Elt F) (abfM.view.loc (c : Thread nD τ))) (A : Buf (Elt F) (accM.view.loc (c : Thread nD τ)))
    (hf : absOK U R M (Ring.sl 2 k.val).val (Ring.bk 7 k.val) (abfM.view.read (Elt F) fa)) (h : accOK U R M WG WU SG SU k.val (accM.view.read (Elt F) A)) :
    tileG c XG arg4 XS fa A k n = shapeCast S1x1x256x256 (accV U R M WG SG n (k.val + 1)) shapeCasts_S256x256_S1x1x256x256 := by
  have hk := Nat.lt_of_lt_of_eq k.isLt trips_eq
  have hb : (Ring.bk 7 k.val).val = k.val := Ring.bk_val (NB := 7) (by omega)
  have ea : ald c fa k = deqC U R M (Ring.bk 7 k.val) := a_load c U R M (Ring.sl 2 k.val) _ fa hf _ _ (off26_eq k)
  have ew : wldG c XG k n = wBlk WG (Ring.bk 7 k.val) n := w_load c (Ring.sl 2 k.val) 0 n _ _ (wOff_eq k n 0) WG _ _ (wg_block c XG WG hG _) _
  have es : sldG c arg4 XS k n = sBlk SG (Ring.bk 7 k.val) n := funext fun i => funext fun r => s_load c arg4 XS SG hS _ n i r _ _ ((scOff_eq k n r i).trans (by rw [hb]))
  unfold tileG accSt accAdd
  rw [ea, ew, es, c_load c U R M WG WU SG SU k.val A h 0 n]
  rfl
include hP hT in
theorem tileU_eq (k : Fin k0_t1_loop.trips) (n : Fin 9) (fa : Buf (Elt F) (abfM.view.loc (c : Thread nD τ))) (A : Buf (Elt F) (accM.view.loc (c : Thread nD τ)))
    (hf : absOK U R M (Ring.sl 2 k.val).val (Ring.bk 7 k.val) (abfM.view.read (Elt F) fa)) (h : accOK U R M WG WU SG SU k.val (accM.view.read (Elt F) A)) :
    tileU c XP arg6 XT fa A k n = shapeCast S1x1x256x256 (accV U R M WU SU n (k.val + 1)) shapeCasts_S256x256_S1x1x256x256 := by
  have hk := Nat.lt_of_lt_of_eq k.isLt trips_eq
  have hb : (Ring.bk 7 k.val).val = k.val := Ring.bk_val (NB := 7) (by omega)
  have ea : ald c fa k = deqC U R M (Ring.bk 7 k.val) := a_load c U R M (Ring.sl 2 k.val) _ fa hf _ _ (off26_eq k)
  have ew : wldU c XP k n = wBlk WU (Ring.bk 7 k.val) n := w_load c (Ring.sl 2 k.val) 1 n _ _ (wOff_eq k n 1) WU _ _ (wu_block c XP WU hP _) _
  have es : sldU c arg6 XT k n = sBlk SU (Ring.bk 7 k.val) n := funext fun i => funext fun r => s_load c arg6 XT SU hT _ n i r _ _ ((scOff_eq k n r i).trans (by rw [hb]))
  unfold tileU accSt accAdd
  rw [ea, ew, es, c_load c U R M WG WU SG SU k.val A h 1 n]
  rfl

include hG hS hP hT in
theorem acc_trip (k : Fin k0_t1_loop.trips) (fa : Buf (Elt F) (abfM.view.loc (c : Thread nD τ))) (A : Buf (Elt F) (accM.view.loc (c : Thread nD τ)))
    (hf : absOK U R M (Ring.sl 2 k.val).val (Ring.bk 7 k.val) (abfM.view.read (Elt F) fa)) (h : accOK U R M WG WU SG SU k.val (accM.view.read (Elt F) A)) :
    accOK U R M WG WU SG SU (k.val + 1) (accM.view.read (Elt F) (accM.view.writes (Elt F) A (accL c XG XP arg4 arg6 XS XT fa A k))) := by
  intro x
  have e : accL c XG XP arg4 arg6 XS XT fa A k = tiles18.map fun q => (⟨Rect.unit (s := S2x9x256x256) ![q.1.val, q.2.val, 0, 0] S1x1x256x256.size (cOff_inb q.1 q.2),
      ![tileG c XG arg4 XS fa A k q.2, tileU c XP arg6 XT fa A k q.2] q.1⟩ : View.Piece (Elt F) S2x9x256x256 .f32) := rfl
  rw [e]
  refine (writes_hit accM.view A (fun q : Fin 2 × Fin 9 => ![q.1.val, q.2.val, 0, 0]) (fun _ => S1x1x256x256.size) (fun q => cOff_inb q.1 q.2)
    (fun q => ![tileG c XG arg4 XS fa A k q.2, tileU c XP arg6 XT fa A k q.2] q.1) x ((x 0 : Fin 2), (x 1 : Fin 9)) (ix4 (0 : Fin 1) (0 : Fin 1) (x 2 : Fin 256) (x 3 : Fin 256)) _ rfl ?_ tiles18 (mem_tiles18 _) ?_).trans ?_
  · intro a; fin_cases a
    · show (x 0).val = (x 0).val + 0; omega
    · show (x 1).val = (x 1).val + 0; omega
    · show (x 2).val = 0 + (x 2).val; omega
    · show (x 3).val = 0 + (x 3).val; omega
  · intro q _ hq
    by_cases h0 : q.1.val = (x 0).val
    · refine ⟨1, ?_⟩
      have : q.2.val ≠ (x 1).val := fun h1 => hq (Prod.ext (Fin.ext h0) (Fin.ext h1))
      show (x 1).val < q.2.val ∨ q.2.val + 1 ≤ (x 1).val; omega
    · refine ⟨0, ?_⟩
      show (x 0).val < q.1.val ∨ q.1.val + 1 ≤ (x 0).val; omega
  · have hs : ∀ (v : FVec F S256x256 .f32) (i j : Fin 256), shapeCast S1x1x256x256 v shapeCasts_S256x256_S1x1x256x256 (ix4 (0 : Fin 1) (0 : Fin 1) i j) = v (ix2 i j) := fun v i j =>
      shapeCast_apply _ _ _ _ (by rw [Shape.rowMajor_val_two, Shape.rowMajor_val_four]; show i.val * 256 + j.val = ((0 * 1 + 0) * 256 + i.val) * 256 + j.val; omega)
    have hw : ∀ (w : Fin 2) (n : Fin 9) (i j : Fin 256), ![tileG c XG arg4 XS fa A k n, tileU c XP arg6 XT fa A k n] w (ix4 (0 : Fin 1) (0 : Fin 1) i j)
        = ![accV U R M WG SG n (k.val + 1), accV U R M WU SU n (k.val + 1)] w (ix2 i j) := by
      intro w n i j
      rw [tileG_eq c XG arg4 XS U R M WG WU SG SU hS hG k n fa A hf h, tileU_eq c XP arg6 XT U R M WG WU SG SU hT hP k n fa A hf h]
      match w with
      | 0 => exact hs (accV U R M WG SG n (k.val + 1)) i j
      | 1 => exact hs (accV U R M WU SU n (k.val + 1)) i j
    exact hw (x 0) (x 1) (x 2) (x 3)
end Facts
end Cert.Proof.GateUp
end
-- ==== Proof.GuLoop.lean ====
/-
  The gate and up projections' loop: the resources before a trip, and that a trip carries them on. (Same text for both printed programs.)
-/
module

public import proofs.«01_k».proof.Proof.GuFacts

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Loop
variable (c : Dev nD) (XG : Buf (Elt F) (wgM.view.loc (c : Thread nD τ))) (XP : Buf (Elt F) (wuM.view.loc (c : Thread nD τ)))
  (arg0 : Memref sig .tc .vmem S56x256x128 .f32) (harg0 : arg0.IsWhole) (arg1 : Memref sig .tc .vmem S256x128 .f32) (harg1 : arg1.IsWhole)
  (arg2 : Memref sig .tc .vmem S56x128 .f32) (harg2 : arg2.IsWhole) (arg4 : Memref sig .tc .smem S18x56 .f32) (harg4 : arg4.IsWhole)
  (arg6 : Memref sig .tc .smem S18x56 .f32) (harg6 : arg6.IsWhole) (arg8 : Memref sig .tc .vmem S2x56x128 .f32) (harg8 : arg8.IsWhole)
  (arg10 : Memref sig .tc .vmem S18x2x128 .f32) (harg10 : arg10.IsWhole) (arg11 : Memref sig .tc .vmem S256x2304 .bf16) (harg11 : arg11.IsWhole)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (U : Vec F S56x256x128 .f32) (R : Vec F S256x128 .f32) (M : Vec F S56x128 .f32)
  (WG WU : Vec F S7168x2304 .fp8e4m3) (SG SU : Vec F S18x56 .f32)
  (hU : arg0.view.read (Elt F) XU = U) (hR : arg1.view.read (Elt F) XR = R) (hM : arg2.view.read (Elt F) XM = M)
  (hS : arg4.view.read (Elt F) XS = SG) (hT : arg6.view.read (Elt F) XT = SU)
  (hG : wgM.view.read (Elt F) XG = WG) (hP : wuM.view.read (Elt F) XP = WU)

/-- Block `b` of both weights at home. -/
def homeP (b : Fin 7) : sProp 𝕄 := iprop(homeG c XG b ∗ homeU c XP b)
/-- Slot `p` mod 2 of the weights: block `p` in flight, or free past the last block. -/
def roleG (p : ℕ) : sProp 𝕄 :=
  if p < 7 then iprop(∃ f f', gflightP c XG XP (Ring.sl 2 p) (Ring.bk 7 p) f f')
  else iprop(gcellP c (Ring.sl 2 p) ∗ (∃ f, gslotP c (Ring.sl 2 p) 0 f) ∗ ∃ f, gslotP c (Ring.sl 2 p) 1 f)
theorem roleG_lt {p : ℕ} (h : p < 7) : roleG c XG XP p = iprop(∃ f f', gflightP c XG XP (Ring.sl 2 p) (Ring.bk 7 p) f f') := if_pos h
theorem roleG_ge {p : ℕ} (h : 7 ≤ p) : roleG c XG XP p = iprop(gcellP c (Ring.sl 2 p) ∗ (∃ f, gslotP c (Ring.sl 2 p) 0 f) ∗ ∃ f, gslotP c (Ring.sl 2 p) 1 f) := if_neg (by omega)

/-- The two slots of dequantised rows before trip `k`, and the buffers the trips fill. -/
def slotsP (s s' : Fin 2) (b : Fin 7) (k : ℕ) : sProp 𝕄 :=
  iprop((∃ fa, aslotP c s fa ∗ ⌜absOK U R M s.val b (abfM.view.read (Elt F) fa)⌝) ∗ (∃ fb, aslotP c s' fb)
    ∗ (∃ C, acodP c C ∗ ⌜codOK U R M k (acodM.view.read (Elt F) C)⌝)
    ∗ (∃ A, accP c A ∗ ⌜accOK U R M WG WU SG SU k (accM.view.read (Elt F) A)⌝)
    ∗ (∃ B, ascP c B ∗ ⌜ascOK U R M k (ascM.view.read (Elt F) B)⌝))
/-- The resources before trip `k`. -/
def resAt (k : ℕ) : sProp 𝕄 :=
  iprop(insP c arg0 arg1 arg2 arg4 arg6 XU XR XM XS XT ∗ (∃ W, owes (c : Thread nD τ) 0 W) ∗ bigSep (Ring.homeSet 2 k) (homeP c XG XP)
    ∗ roleG c XG XP k ∗ roleG c XG XP (k + 1) ∗ slotsP c U R M WG WU SG SU (Ring.sl 2 k) (Ring.sl 2 (k + 1)) (Ring.bk 7 k) k)

theorem homes_here (k : ℕ) (h : k + 2 < 7) : bigSep (Ring.homeSet 2 k) (homeP c XG XP)
    = iprop((homeG c XG (Ring.bk 7 (k + 2)) ∗ homeU c XP (Ring.bk 7 (k + 2))) ∗ bigSep ((Ring.homeSet 2 k).erase (Ring.bk 7 (k + 2))) (homeP c XG XP)) := by
  conv_lhs => rw [Ring.homeSet_out 2 k h, bigSep_insert (Ring.bkL_not_mem_erase 2 k)]
  rfl
theorem homes_next (k : ℕ) (h : k + 2 < 7) : bigSep (Ring.homeSet 2 (k + 1)) (homeP c XG XP)
    = iprop((homeG c XG (Ring.bk 7 k) ∗ homeU c XP (Ring.bk 7 k)) ∗ bigSep ((Ring.homeSet 2 k).erase (Ring.bk 7 (k + 2))) (homeP c XG XP)) := by
  conv_lhs => rw [Ring.homeSet_succ 2 k h, bigSep_insert (Ring.bk_not_mem_erase 2 k (by omega) (by decide))]
  rfl
theorem homes_tail (k : ℕ) (h : 7 ≤ k + 2) (hk : k < 7) : bigSep (Ring.homeSet 2 (k + 1)) (homeP c XG XP)
    = iprop((homeG c XG (Ring.bk 7 k) ∗ homeU c XP (Ring.bk 7 k)) ∗ bigSep (Ring.homeSet 2 k) (homeP c XG XP)) := by
  conv_lhs => rw [Ring.homeSet_succ_tail 2 k h hk, bigSep_insert (Ring.bk_not_mem_homeSet 2 k hk (by decide))]
  rfl

section Step
variable (w28 : IVec S256x128 32) (w379 w410 : FVec F S256x128 .f32) (w417 : FVec F S256x128 .fp8e4m3) (w420 : FVec F S256x128 .bf16) (w421 : Vec F S1x256x128 .fp8e4m3)
include hU hR hM hS hT hG hP in
set_option maxHeartbeats 800000 in
/-- ONE TRIP: the resources before trip `k` give those before trip `k + 1`. -/
theorem trip (k : Fin k0_t1_loop.trips) :
    resAt c XG XP arg0 arg1 arg2 arg4 arg6 XU XR XM XS XT U R M WG WU SG SU k.val
      ⊢ wp frame (wpE (defs₀ (F := F)) 𝒱₀ (c : Thread nD τ) none) Set.univ
        (tripG arg0 harg0 arg1 harg1 arg2 harg2 arg4 harg4 arg6 harg6 arg8 harg8 arg10 harg10 arg11 harg11 w28 w379 w410 w417 w420 w421 k)
        (fun _ => resAt c XG XP arg0 arg1 arg2 arg4 arg6 XU XR XM XS XT U R M WG WU SG SU (k.val + 1)) := by
  have hk : k.val < 6 := Nat.lt_of_lt_of_eq k.isLt trips_eq
  have s2 : Ring.sl 2 (k.val + 1 + 1) = Ring.sl 2 k.val := Ring.sl_add 2 k.val
  rcases Nat.lt_or_ge (k.val + 2) 7 with h2 | h2
  · skip
    unfold resAt slotsP
    rw [homes_here c XG XP k.val h2, homes_next c XG XP k.val h2, roleG_lt c XG XP (show k.val < 7 by omega), roleG_lt c XG XP (show k.val + 1 + 1 < 7 by omega), s2]
    iintro ⟨Hu, ⟨%W, HW⟩, ⟨⟨Hh0, Hh1⟩, Hrest⟩, ⟨%f, %f', HF⟩, HF1, ⟨%fa, Ha, %hfa⟩, ⟨%fb, Hb⟩, ⟨%C, HC, %hC⟩, ⟨%A, HA, %hA⟩, ⟨%B, HB, %hB⟩⟩
    iapply (wp_wand_r Idealize.ShloMosaic.frame (wpE (defs₀ (F := F)) 𝒱₀ (c : Thread nD τ) none) Set.univ)
    isplitl [Hu HW Hh0 Hh1 HF Ha Hb HC HA HB]
    · iapply (tripA c XG XP arg0 harg0 arg1 harg1 arg2 harg2 arg4 harg4 arg6 harg6 arg8 harg8 arg10 harg10 arg11 harg11 XU XR XM XS XT w28 w379 w410 w417 w420 w421 k h2 f f' W fa fb C A B)
      isplitl [Hu]; · iexact Hu
      isplitl [HW]; · iexact HW
      isplitl [Hh0]; · iexact Hh0
      isplitl [Hh1]; · iexact Hh1
      isplitl [HF]; · iexact HF
      isplitl [Ha]; · iexact Ha
      isplitl [Hb]; · iexact Hb
      isplitl [HC]; · iexact HC
      isplitl [HA]; · iexact HA
      iexact HB
    iintro %_ ⟨Hu, HW, Hg, Hp, HF, Ha, Hb, HC, HA, HB⟩
    isplitl [Hu]; · iexact Hu
    isplitl [HW]; · iexact HW
    isplitl [Hg Hp Hrest]
    · isplitl [Hg Hp]
      · isplitl [Hg]; · iexact Hg
        iexact Hp
      iexact Hrest
    isplitl [HF1]; · iexact HF1
    isplitl [HF]; · iexact HF
    isplitl [Hb]
    · iexists _
      isplitl [Hb]; · iexact Hb
      ipureintro; exact deq_trip c arg0 arg1 arg2 XU XR XM U R M hU hR hM k fb
    isplitl [Ha]; · iexists _; iexact Ha
    isplitl [HC]
    · iexists _
      isplitl [HC]; · iexact HC
      ipureintro; exact cod_trip c arg0 arg1 arg2 XU XR XM U R M hU hR hM k C hC
    isplitl [HA]
    · iexists _
      isplitl [HA]; · iexact HA
      ipureintro; exact acc_trip c XG XP arg4 arg6 XS XT U R M WG WU SG SU hS hT hG hP k fa A hfa hA
    iexists _
    isplitl [HB]; · iexact HB
    ipureintro; exact asc_trip c arg0 arg1 arg2 XU XR XM U R M hU hR hM k B hB
  · skip
    unfold resAt slotsP
    rw [homes_tail c XG XP k.val h2 (by omega), roleG_lt c XG XP (show k.val < 7 by omega), roleG_ge c XG XP (show 7 ≤ k.val + 1 + 1 by omega), s2]
    iintro ⟨Hu, ⟨%W, HW⟩, Hrest, ⟨%f, %f', HF⟩, HF1, ⟨%fa, Ha, %hfa⟩, ⟨%fb, Hb⟩, ⟨%C, HC, %hC⟩, ⟨%A, HA, %hA⟩, ⟨%B, HB, %hB⟩⟩
    iapply (wp_wand_r Idealize.ShloMosaic.frame (wpE (defs₀ (F := F)) 𝒱₀ (c : Thread nD τ) none) Set.univ)
    isplitl [Hu HW HF Ha Hb HC HA HB]
    · iapply (tripB c XG XP arg0 harg0 arg1 harg1 arg2 harg2 arg4 harg4 arg6 harg6 arg8 harg8 arg10 harg10 arg11 harg11 XU XR XM XS XT w28 w379 w410 w417 w420 w421 k h2 f f' W fa fb C A B)
      isplitl [Hu]; · iexact Hu
      isplitl [HW]; · iexact HW
      isplitl [HF]; · iexact HF
      isplitl [Ha]; · iexact Ha
      isplitl [Hb]; · iexact Hb
      isplitl [HC]; · iexact HC
      isplitl [HA]; · iexact HA
      iexact HB
    iintro %_ ⟨Hu, HW, Hg, Hp, HF, Ha, Hb, HC, HA, HB⟩
    isplitl [Hu]; · iexact Hu
    isplitl [HW]; · iexact HW
    isplitl [Hg Hp Hrest]
    · isplitl [Hg Hp]
      · isplitl [Hg]; · iexact Hg
        iexact Hp
      iexact Hrest
    isplitl [HF1]; · iexact HF1
    isplitl [HF]; · iexact HF
    isplitl [Hb]
    · iexists _
      isplitl [Hb]; · iexact Hb
      ipureintro; exact deq_trip c arg0 arg1 arg2 XU XR XM U R M hU hR hM k fb
    isplitl [Ha]; · iexists _; iexact Ha
    isplitl [HC]
    · iexists _
      isplitl [HC]; · iexact HC
      ipureintro; exact cod_trip c arg0 arg1 arg2 XU XR XM U R M hU hR hM k C hC
    isplitl [HA]
    · iexists _
      isplitl [HA]; · iexact HA
      ipureintro; exact acc_trip c XG XP arg4 arg6 XS XT U R M WG WU SG SU hS hT hG hP k fa A hfa hA
    iexists _
    isplitl [HB]; · iexact HB
    ipureintro; exact asc_trip c arg0 arg1 arg2 XU XR XM U R M hU hR hM k B hB
end Step

/-- At the loop's entry, as the part before it leaves it. -/
abbrev entryP : sProp 𝕄 :=
  iprop(insP c arg0 arg1 arg2 arg4 arg6 XU XR XM XS XT ∗ (∃ W, owes (c : Thread nD τ) 0 W) ∗ bigSep (Ring.homeSet 2 0) (homeP c XG XP)
    ∗ (∃ f f', gflightP c XG XP 0 0 f f') ∗ (∃ f f', gflightP c XG XP 1 1 f f') ∗ slotsP c U R M WG WU SG SU 0 1 0 0)
theorem entry_res : entryP c XG XP arg0 arg1 arg2 arg4 arg6 XU XR XM XS XT U R M WG WU SG SU ⊢ resAt c XG XP arg0 arg1 arg2 arg4 arg6 XU XR XM XS XT U R M WG WU SG SU 0 := by
  unfold resAt
  rw [roleG_lt c XG XP (show 0 < 7 by decide), roleG_lt c XG XP (show 0 + 1 < 7 by decide)]
  iintro ⟨Hu, HW, Hg, H0, H1, Hs⟩
  isplitl [Hu]; · iexact Hu
  isplitl [HW]; · iexact HW
  isplitl [Hg]; · iexact Hg
  isplitl [H0]; · iexact H0
  isplitl [H1]; · iexact H1
  iexact Hs

/-- The loop's invariant: the state at the entry, then the resources before trip `k`. -/
def invAt (k : ℕ) : sProp 𝕄 :=
  match k with
  | 0 => entryP c XG XP arg0 arg1 arg2 arg4 arg6 XU XR XM XS XT U R M WG WU SG SU
  | k + 1 => resAt c XG XP arg0 arg1 arg2 arg4 arg6 XU XR XM XS XT U R M WG WU SG SU (k + 1)
theorem inv_res (k : ℕ) : invAt c XG XP arg0 arg1 arg2 arg4 arg6 XU XR XM XS XT U R M WG WU SG SU k ⊢ resAt c XG XP arg0 arg1 arg2 arg4 arg6 XU XR XM XS XT U R M WG WU SG SU k := by
  cases k with
  | zero => exact entry_res c XG XP arg0 arg1 arg2 arg4 arg6 XU XR XM XS XT U R M WG WU SG SU
  | succ k => exact .rfl

/-- After the loop: blocks 0 to 5 at home, block 6 in flight in slot 0, slot 1 free. -/
abbrev exitP : sProp 𝕄 :=
  iprop(insP c arg0 arg1 arg2 arg4 arg6 XU XR XM XS XT ∗ (∃ W, owes (c : Thread nD τ) 0 W) ∗ bigSep (Ring.homeSet 2 6) (homeP c XG XP)
    ∗ (∃ f f', gflightP c XG XP 0 6 f f') ∗ (gcellP c 1 ∗ (∃ f, gslotP c 1 0 f) ∗ ∃ f, gslotP c 1 1 f) ∗ slotsP c U R M WG WU SG SU 0 1 6 6)
theorem res_exit : resAt c XG XP arg0 arg1 arg2 arg4 arg6 XU XR XM XS XT U R M WG WU SG SU 6 ⊢ exitP c XG XP arg0 arg1 arg2 arg4 arg6 XU XR XM XS XT U R M WG WU SG SU := by
  unfold resAt
  rw [roleG_lt c XG XP (show 6 < 7 by decide), roleG_ge c XG XP (show 7 ≤ 6 + 1 by decide)]
  have s6 : Ring.sl 2 6 = 0 := by decide
  have s7 : Ring.sl 2 (6 + 1) = 1 := by decide
  have b6 : (Ring.bk 7 6 : Fin 7) = 6 := by decide
  rw [s6, s7, b6]
  try exact .rfl
end Loop
end Cert.Proof.GateUp
end
-- ==== Proof.GuEnd.lean ====
/-
  What the body leaves before the loop and after it. (Same text for both printed programs.)
-/
module

public import proofs.«01_k».proof.Proof.GuFacts
public import proofs.«01_k».proof.Proof.GuEpi

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section End
variable (c : Dev nD) (XG : Buf (Elt F) (wgM.view.loc (c : Thread nD τ))) (XP : Buf (Elt F) (wuM.view.loc (c : Thread nD τ)))
  (arg0 : Memref sig .tc .vmem S56x256x128 .f32) (arg1 : Memref sig .tc .vmem S256x128 .f32)
  (arg2 : Memref sig .tc .vmem S56x128 .f32) (arg4 : Memref sig .tc .smem S18x56 .f32) (arg6 : Memref sig .tc .smem S18x56 .f32)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (U : Vec F S56x256x128 .f32) (R : Vec F S256x128 .f32) (M : Vec F S56x128 .f32)
  (WG WU : Vec F S7168x2304 .fp8e4m3) (SG SU : Vec F S18x56 .f32)
  (hU : arg0.view.read (Elt F) XU = U) (hR : arg1.view.read (Elt F) XR = R) (hM : arg2.view.read (Elt F) XM = M)
  (hS : arg4.view.read (Elt F) XS = SG) (hT : arg6.view.read (Elt F) XT = SU)
  (hG : wgM.view.read (Elt F) XG = WG) (hP : wuM.view.read (Elt F) XP = WU)

/-! ## Before the loop: chunk 0 -/

theorem uInb (l : Fin 8) : ∀ a, (![l.val, 0, 0] : Fin 3 → ℕ) a + S1x256x128.size a ≤ S56x256x128.size a := by
  have := l.isLt; intro a; fin_cases a
  · show l.val + 1 ≤ 56; omega
  · show 0 + 256 ≤ 256; omega
  · show 0 + 128 ≤ 128; omega
theorem mInb (l : Fin 8) : ∀ a, (![l.val, 0] : Fin 2 → ℕ) a + S1x128.size a ≤ S56x128.size a := by
  have := l.isLt; intro a; fin_cases a
  · show l.val + 1 ≤ 56; omega
  · show 0 + 128 ≤ 128; omega
/-- Lane `l` of chunk 0. -/
def qp (l : Fin 8) : FVec F S256x128 .f32 :=
  yv (View.readAt (Elt F) arg0.view (Rect.unit (s := S56x256x128) ![l.val, 0, 0] S1x256x128.size (uInb l)).toLoadRect XU)
    (View.readAt (Elt F) arg1.view (Rect.unit (s := S256x128) ![0, 0] S256x128.size inb_S256x128_S256x128_0_0).toLoadRect XR)
    (View.readAt (Elt F) arg2.view (Rect.unit (s := S56x128) ![l.val, 0] S1x128.size (mInb l)).toLoadRect XM)
include hU hR hM in
theorem qp_eq (l : Fin 8) : qp c arg0 arg1 arg2 XU XR XM l = laneY U R M (laneOf 0 l) := by
  have e : (laneOf 0 l).val = l.val := by show 8 * 0 + l.val = l.val; omega
  exact lane_loads c arg0 arg1 arg2 XU XR XM U R M hU hR hM (laneOf 0 l) _ _ (uInb l) (mInb l) (by rw [e]) (by rw [e])

def proCod : List (View.Piece (Elt F) S7x256x1024 .fp8e4m3) :=
  [⟨Rect.unit (s := S7x256x1024) ![0, 0, 896] S1x256x128.size inb_S7x256x1024_S1x256x128_0_0_896, shapeCast S1x256x128 (codv (qp c arg0 arg1 arg2 XU XR XM 7)) shapeCasts_S256x128_S1x256x128⟩,
    ⟨Rect.unit (s := S7x256x1024) ![0, 0, 768] S1x256x128.size inb_S7x256x1024_S1x256x128_0_0_768, shapeCast S1x256x128 (codv (qp c arg0 arg1 arg2 XU XR XM 6)) shapeCasts_S256x128_S1x256x128⟩,
    ⟨Rect.unit (s := S7x256x1024) ![0, 0, 640] S1x256x128.size inb_S7x256x1024_S1x256x128_0_0_640, shapeCast S1x256x128 (codv (qp c arg0 arg1 arg2 XU XR XM 5)) shapeCasts_S256x128_S1x256x128⟩,
    ⟨Rect.unit (s := S7x256x1024) ![0, 0, 512] S1x256x128.size inb_S7x256x1024_S1x256x128_0_0_512, shapeCast S1x256x128 (codv (qp c arg0 arg1 arg2 XU XR XM 4)) shapeCasts_S256x128_S1x256x128⟩,
    ⟨Rect.unit (s := S7x256x1024) ![0, 0, 384] S1x256x128.size inb_S7x256x1024_S1x256x128_0_0_384, shapeCast S1x256x128 (codv (qp c arg0 arg1 arg2 XU XR XM 3)) shapeCasts_S256x128_S1x256x128⟩,
    ⟨Rect.unit (s := S7x256x1024) ![0, 0, 256] S1x256x128.size inb_S7x256x1024_S1x256x128_0_0_256, shapeCast S1x256x128 (codv (qp c arg0 arg1 arg2 XU XR XM 2)) shapeCasts_S256x128_S1x256x128⟩,
    ⟨Rect.unit (s := S7x256x1024) ![0, 0, 128] S1x256x128.size inb_S7x256x1024_S1x256x128_0_0_128, shapeCast S1x256x128 (codv (qp c arg0 arg1 arg2 XU XR XM 1)) shapeCasts_S256x128_S1x256x128⟩,
    ⟨Rect.unit (s := S7x256x1024) ![0, 0, 0] S1x256x128.size inb_S7x256x1024_S1x256x128_0_0_0, shapeCast S1x256x128 (codv (qp c arg0 arg1 arg2 XU XR XM 0)) shapeCasts_S256x128_S1x256x128⟩]
def proDeq (a0 : Buf (Elt F) (abfM.view.loc (c : Thread nD τ))) : Buf (Elt F) (abfM.view.loc (c : Thread nD τ)) :=
  View.write (Elt F) (abfM.access (Rect.unit (s := S2x256x1024) ![0, 0, 896] S1x256x128.size inb_S2x256x1024_S1x256x128_0_0_896)) (View.write (Elt F) (abfM.access (Rect.unit (s := S2x256x1024) ![0, 0, 768] S1x256x128.size inb_S2x256x1024_S1x256x128_0_0_768)) (View.write (Elt F) (abfM.access (Rect.unit (s := S2x256x1024) ![0, 0, 640] S1x256x128.size inb_S2x256x1024_S1x256x128_0_0_640)) (View.write (Elt F) (abfM.access (Rect.unit (s := S2x256x1024) ![0, 0, 512] S1x256x128.size inb_S2x256x1024_S1x256x128_0_0_512)) (View.write (Elt F) (abfM.access (Rect.unit (s := S2x256x1024) ![0, 0, 384] S1x256x128.size inb_S2x256x1024_S1x256x128_0_0_384)) (View.write (Elt F) (abfM.access (Rect.unit (s := S2x256x1024) ![0, 0, 256] S1x256x128.size inb_S2x256x1024_S1x256x128_0_0_256)) (View.write (Elt F) (abfM.access (Rect.unit (s := S2x256x1024) ![0, 0, 128] S1x256x128.size inb_S2x256x1024_S1x256x128_0_0_128)) (View.write (Elt F) (abfM.access (Rect.unit (s := S2x256x1024) ![0, 0, 0] S1x256x128.size inb_S2x256x1024_S1x256x128_0_0_0)) (a0) (shapeCast S1x256x128 (deqv (qp c arg0 arg1 arg2 XU XR XM 0)) shapeCasts_S256x128_S1x256x128) Finset.univ) (shapeCast S1x256x128 (deqv (qp c arg0 arg1 arg2 XU XR XM 1)) shapeCasts_S256x128_S1x256x128) Finset.univ) (shapeCast S1x256x128 (deqv (qp c arg0 arg1 arg2 XU XR XM 2)) shapeCasts_S256x128_S1x256x128) Finset.univ) (shapeCast S1x256x128 (deqv (qp c arg0 arg1 arg2 XU XR XM 3)) shapeCasts_S256x128_S1x256x128) Finset.univ) (shapeCast S1x256x128 (deqv (qp c arg0 arg1 arg2 XU XR XM 4)) shapeCasts_S256x128_S1x256x128) Finset.univ) (shapeCast S1x256x128 (deqv (qp c arg0 arg1 arg2 XU XR XM 5)) shapeCasts_S256x128_S1x256x128) Finset.univ) (shapeCast S1x256x128 (deqv (qp c arg0 arg1 arg2 XU XR XM 6)) shapeCasts_S256x128_S1x256x128) Finset.univ) (shapeCast S1x256x128 (deqv (qp c arg0 arg1 arg2 XU XR XM 7)) shapeCasts_S256x128_S1x256x128) Finset.univ
def zeroB : List (View.Piece (Elt F) S256x128 .f32) :=
  [⟨Rect.unit (s := S256x128) ![0, 0] S256x128.size inb_S256x128_S256x128_0_0, shapeCast S256x128 (broadcast S256x128 (Scalar.ofBits .f32 0x00000000#32)) shapeCasts_S256x128_S256x128⟩]
def proSca : List (View.Piece (Elt F) S256x128 .f32) :=
  ⟨Rect.unit (s := S256x128) ![0, 0] S256x128.size inb_S256x128_S256x128_0_0,
    shapeCast S256x128 (scPut 7#32 (scv (qp c arg0 arg1 arg2 XU XR XM 7)) (scPut 6#32 (scv (qp c arg0 arg1 arg2 XU XR XM 6)) (scPut 5#32 (scv (qp c arg0 arg1 arg2 XU XR XM 5)) (scPut 4#32 (scv (qp c arg0 arg1 arg2 XU XR XM 4)) (scPut 3#32 (scv (qp c arg0 arg1 arg2 XU XR XM 3)) (scPut 2#32 (scv (qp c arg0 arg1 arg2 XU XR XM 2)) (scPut 1#32 (scv (qp c arg0 arg1 arg2 XU XR XM 1)) (scPut 0#32 (scv (qp c arg0 arg1 arg2 XU XR XM 0)) (ascM.view.readCov (zeroB (F := F)) (Rect.unit (s := S256x128) ![0, 0] S256x128.size inb_S256x128_S256x128_0_0).toLoadRect))))))))) shapeCasts_S256x128_S256x128⟩ :: zeroB (F := F)
def proAcc : List (View.Piece (Elt F) S2x9x256x256 .f32) :=
  [⟨Rect.unit (s := S2x9x256x256) ![0, 0, 0, 0] S2x9x256x256.size inb_S2x9x256x256_S2x9x256x256_0_0_0_0, shapeCast S2x9x256x256 (broadcast S2x9x256x256 (Scalar.ofBits .f32 0x00000000#32)) shapeCasts_S2x9x256x256_S2x9x256x256⟩]

theorem pCodInb (l : Fin 8) : ∀ a, (![0, 0, 128 * l.val] : Fin 3 → ℕ) a + S1x256x128.size a ≤ S7x256x1024.size a := by
  have := l.isLt; intro a; fin_cases a
  · show 0 + 1 ≤ 7; omega
  · show 0 + 256 ≤ 256; omega
  · show 128 * l.val + 128 ≤ 1024; omega
theorem pDeqInb (l : Fin 8) : ∀ a, (![0, 0, 128 * l.val] : Fin 3 → ℕ) a + S1x256x128.size a ≤ S2x256x1024.size a := by
  have := l.isLt; intro a; fin_cases a
  · show 0 + 1 ≤ 2; omega
  · show 0 + 256 ≤ 256; omega
  · show 128 * l.val + 128 ≤ 1024; omega

include hU hR hM in
theorem cod_pro (C : Buf (Elt F) (acodM.view.loc (c : Thread nD τ))) : codOK U R M 0 (acodM.view.read (Elt F) (acodM.view.writes (Elt F) C (proCod c arg0 arg1 arg2 XU XR XM))) := by
  intro x hx
  have e : proCod c arg0 arg1 arg2 XU XR XM = down8.map fun l => (⟨Rect.unit (s := S7x256x1024) ![0, 0, 128 * l.val] S1x256x128.size (pCodInb l), shapeCast S1x256x128 (codv (qp c arg0 arg1 arg2 XU XR XM l)) shapeCasts_S256x128_S1x256x128⟩ : View.Piece (Elt F) S7x256x1024 .fp8e4m3) := rfl
  rw [e]
  have hx0 : (x 0).val = (0 : Fin 7).val := Nat.le_zero.mp hx
  refine ((cod_stores (c := c) 0 (fun l => ![0, 0, 128 * l.val]) pCodInb (fun _ => rfl) (fun l => qp c arg0 arg1 arg2 XU XR XM l) C x).2 hx0).trans ?_
  rw [qp_eq c arg0 arg1 arg2 XU XR XM U R M hU hR hM]
  exact congrArg (fun b : Fin 7 => codv (laneY U R M (laneOf b (hi8 (x 2 : Fin 1024)))) (ix2 (x 1 : Fin 256) (lo8 (x 2 : Fin 1024)))) (Fin.ext hx0.symm)
include hU hR hM in
theorem deq_pro (a0 : Buf (Elt F) (abfM.view.loc (c : Thread nD τ))) : absOK U R M 0 0 (abfM.view.read (Elt F) (proDeq c arg0 arg1 arg2 XU XR XM a0)) := by
  intro x hx
  have e : proDeq c arg0 arg1 arg2 XU XR XM a0 = abfM.view.writes (Elt F) a0 (down8.map fun l => (⟨Rect.unit (s := S2x256x1024) ![0, 0, 128 * l.val] S1x256x128.size (pDeqInb l), shapeCast S1x256x128 (deqv (qp c arg0 arg1 arg2 XU XR XM l)) shapeCasts_S256x128_S1x256x128⟩ : View.Piece (Elt F) S2x256x1024 .bf16)) := rfl
  rw [e]
  refine (deq_stores (c := c) 0 (fun l => ![0, 0, 128 * l.val]) pDeqInb (fun _ => rfl) (fun l => qp c arg0 arg1 arg2 XU XR XM l) a0 x hx).trans ?_
  rw [qp_eq c arg0 arg1 arg2 XU XR XM U R M hU hR hM]
  rfl
include hU hR hM in
theorem asc_pro (B : Buf (Elt F) (ascM.view.loc (c : Thread nD τ))) : ascOK U R M 0 (ascM.view.read (Elt F) (ascM.view.writes (Elt F) B (proSca c arg0 arg1 arg2 XU XR XM))) := by
  intro x n hx hn
  refine (whole256_store (c := c) _ B _ x).trans ((same_apply _ x).trans ?_)
  refine (puts_hit (fun l : Fin 8 => BitVec.ofNat 32 l.val) (fun l => scv (qp c arg0 arg1 arg2 XU XR XM l)) _ x ⟨n.val, by omega⟩ (by rw [hx]) down8 (mem_down8 _) (fun l _ hne h' => by
    have := l.isLt; exact hne (Fin.ext (word_inj (by omega) (by show n.val < 128; omega) h')))).trans ?_
  show scv (qp c arg0 arg1 arg2 XU XR XM _) x = _
  rw [qp_eq c arg0 arg1 arg2 XU XR XM U R M hU hR hM]
  refine congrArg (fun q => scv (laneY U R M q) x) (Fin.ext ?_)
  show 8 * 0 + n.val = n.val; omega
theorem acc_pro (A : Buf (Elt F) (accM.view.loc (c : Thread nD τ))) : accOK U R M WG WU SG SU 0 (accM.view.read (Elt F) (accM.view.writes (Elt F) A (proAcc (F := F)))) := by
  intro x
  refine (View.read_writes_cons_unit_of_mem accM.view A inb_S2x9x256x256_S2x9x256x256_0_0_0_0 _ [] x x rfl (fun a => by fin_cases a <;> exact (Nat.zero_add _).symm)).trans ?_
  refine (shapeCast_apply _ _ x x rfl).trans ?_
  have h : ∀ w : Fin 2, (Scalar.ofBits .f32 0x00000000#32 : F .f32) = ![accV U R M WG SG (x 1 : Fin 9) 0, accV U R M WU SU (x 1 : Fin 9) 0] w (ix2 (x 2 : Fin 256) (x 3 : Fin 256)) := by
    intro w
    match w with
    | 0 => rfl
    | 1 => rfl
  exact h (x 0)

/-! ## After the loop: the last products and the hidden rows -/

theorem eWInb (p : Fin 2) (n : Fin 9) : ∀ a, (![0, p.val, 0, 256 * n.val] : Fin 4 → ℕ) a + S1x1x1024x256.size a ≤ S2x2x1024x2304.size a := by
  have := p.isLt; have := n.isLt; intro a; fin_cases a
  · show 0 + 1 ≤ 2; omega
  · show p.val + 1 ≤ 2; omega
  · show 0 + 1024 ≤ 1024; omega
  · show 256 * n.val + 256 ≤ 2304; omega
theorem eSInb (n : Fin 9) (i : Fin 8) (h : Fin 2) : ∀ a, (![2 * n.val + h.val, 48 + i.val] : Fin 2 → ℕ) a + S1x1.size a ≤ S18x56.size a := by
  have := i.isLt; have := n.isLt; have := h.isLt; intro a; fin_cases a
  · show 2 * n.val + h.val + 1 ≤ 18; omega
  · show 48 + i.val + 1 ≤ 56; omega
def weG (n : Fin 9) : Vec F S1x1x1024x256 .fp8e4m3 :=
  View.readAt (Elt F) wguM.view (Rect.unit (s := S2x2x1024x2304) ![0, 0, 0, 256 * n.val] S1x1x1024x256.size (eWInb 0 n)).toLoadRect
    ((gslot 0 0).view.writes (Elt F) (gslot 0 0).view.junk [⟨Rect.whole S1024x2304, ReadAs.same.apply ((wgblk 6).view.read (Elt F) XG)⟩])
def weU (n : Fin 9) : Vec F S1x1x1024x256 .fp8e4m3 :=
  View.readAt (Elt F) wguM.view (Rect.unit (s := S2x2x1024x2304) ![0, 1, 0, 256 * n.val] S1x1x1024x256.size (eWInb 1 n)).toLoadRect
    ((gslot 0 1).view.writes (Elt F) (gslot 0 1).view.junk [⟨Rect.whole S1024x2304, ReadAs.same.apply ((wublk 6).view.read (Elt F) XP)⟩])
def seG (n : Fin 9) (i : Fin 8) (h : Fin 2) : Elt F .f32 :=
  View.readAt (Elt F) arg4.view (Rect.unit (s := S18x56) ![2 * n.val + h.val, 48 + i.val] S1x1.size (eSInb n i h)).toLoadRect XS (Shape.Idx.first (show 0 < S1x1.numel by decide))
def seU (n : Fin 9) (i : Fin 8) (h : Fin 2) : Elt F .f32 :=
  View.readAt (Elt F) arg6.view (Rect.unit (s := S18x56) ![2 * n.val + h.val, 48 + i.val] S1x1.size (eSInb n i h)).toLoadRect XT (Shape.Idx.first (show 0 < S1x1.numel by decide))
def half0 (v : FVec F S256x256 .f32) : FVec F S256x128 .f32 := extractStridedSlice S256x128 ![0, 0] v slices_S256x256_o0_0_S256x128
def half1 (v : FVec F S256x256 .f32) : FVec F S256x128 .f32 := extractStridedSlice S256x128 ![0, 128] v slices_S256x256_o0_128_S256x128

variable (fa : Buf (Elt F) (abfM.view.loc (c : Thread nD τ))) (A : Buf (Elt F) (accM.view.loc (c : Thread nD τ))) (B : Buf (Elt F) (ascM.view.loc (c : Thread nD τ)))
def ae : Vec F S1x256x1024 .bf16 := View.readAt (Elt F) abfM.view (Rect.unit (s := S2x256x1024) ![0, 0, 0] S1x256x1024.size inb_S2x256x1024_S1x256x1024_0_0_0).toLoadRect fa
/-- Tile `n` of the hidden rows. -/
def hmE (n : Fin 9) : FVec F S256x256 .f32 :=
  hmOf (accAdd (cld c A 0 n) (ae c fa) (weG c XG n) (seG c arg4 XS n)) (accAdd (cld c A 1 n) (ae c fa) (weU c XP n) (seU c arg6 XT n))

/-- The hidden rows' codes, as stored; -/
def endCod : List (View.Piece (Elt F) S256x2304 .fp8e4m3) :=
  [⟨Rect.unit (s := S256x2304) ![0, 2176] S256x128.size inb_S256x2304_S256x128_0_2176, shapeCast S256x128 (codv (half1 (hmE c XG XP arg4 arg6 XS XT fa A 8))) shapeCasts_S256x128_S256x128⟩,
    ⟨Rect.unit (s := S256x2304) ![0, 2048] S256x128.size inb_S256x2304_S256x128_0_2048, shapeCast S256x128 (codv (half0 (hmE c XG XP arg4 arg6 XS XT fa A 8))) shapeCasts_S256x128_S256x128⟩,
    ⟨Rect.unit (s := S256x2304) ![0, 1920] S256x128.size inb_S256x2304_S256x128_0_1920, shapeCast S256x128 (codv (half1 (hmE c XG XP arg4 arg6 XS XT fa A 7))) shapeCasts_S256x128_S256x128⟩,
    ⟨Rect.unit (s := S256x2304) ![0, 1792] S256x128.size inb_S256x2304_S256x128_0_1792, shapeCast S256x128 (codv (half0 (hmE c XG XP arg4 arg6 XS XT fa A 7))) shapeCasts_S256x128_S256x128⟩,
    ⟨Rect.unit (s := S256x2304) ![0, 1664] S256x128.size inb_S256x2304_S256x128_0_1664, shapeCast S256x128 (codv (half1 (hmE c XG XP arg4 arg6 XS XT fa A 6))) shapeCasts_S256x128_S256x128⟩,
    ⟨Rect.unit (s := S256x2304) ![0, 1536] S256x128.size inb_S256x2304_S256x128_0_1536, shapeCast S256x128 (codv (half0 (hmE c XG XP arg4 arg6 XS XT fa A 6))) shapeCasts_S256x128_S256x128⟩,
    ⟨Rect.unit (s := S256x2304) ![0, 1408] S256x128.size inb_S256x2304_S256x128_0_1408, shapeCast S256x128 (codv (half1 (hmE c XG XP arg4 arg6 XS XT fa A 5))) shapeCasts_S256x128_S256x128⟩,
    ⟨Rect.unit (s := S256x2304) ![0, 1280] S256x128.size inb_S256x2304_S256x128_0_1280, shapeCast S256x128 (codv (half0 (hmE c XG XP arg4 arg6 XS XT fa A 5))) shapeCasts_S256x128_S256x128⟩,
    ⟨Rect.unit (s := S256x2304) ![0, 1152] S256x128.size inb_S256x2304_S256x128_0_1152, shapeCast S256x128 (codv (half1 (hmE c XG XP arg4 arg6 XS XT fa A 4))) shapeCasts_S256x128_S256x128⟩,
    ⟨Rect.unit (s := S256x2304) ![0, 1024] S256x128.size inb_S256x2304_S256x128_0_1024, shapeCast S256x128 (codv (half0 (hmE c XG XP arg4 arg6 XS XT fa A 4))) shapeCasts_S256x128_S256x128⟩,
    ⟨Rect.unit (s := S256x2304) ![0, 896] S256x128.size inb_S256x2304_S256x128_0_896, shapeCast S256x128 (codv (half1 (hmE c XG XP arg4 arg6 XS XT fa A 3))) shapeCasts_S256x128_S256x128⟩,
    ⟨Rect.unit (s := S256x2304) ![0, 768] S256x128.size inb_S256x2304_S256x128_0_768, shapeCast S256x128 (codv (half0 (hmE c XG XP arg4 arg6 XS XT fa A 3))) shapeCasts_S256x128_S256x128⟩,
    ⟨Rect.unit (s := S256x2304) ![0, 640] S256x128.size inb_S256x2304_S256x128_0_640, shapeCast S256x128 (codv (half1 (hmE c XG XP arg4 arg6 XS XT fa A 2))) shapeCasts_S256x128_S256x128⟩,
    ⟨Rect.unit (s := S256x2304) ![0, 512] S256x128.size inb_S256x2304_S256x128_0_512, shapeCast S256x128 (codv (half0 (hmE c XG XP arg4 arg6 XS XT fa A 2))) shapeCasts_S256x128_S256x128⟩,
    ⟨Rect.unit (s := S256x2304) ![0, 384] S256x128.size inb_S256x2304_S256x128_0_384, shapeCast S256x128 (codv (half1 (hmE c XG XP arg4 arg6 XS XT fa A 1))) shapeCasts_S256x128_S256x128⟩,
    ⟨Rect.unit (s := S256x2304) ![0, 256] S256x128.size inb_S256x2304_S256x128_0_256, shapeCast S256x128 (codv (half0 (hmE c XG XP arg4 arg6 XS XT fa A 1))) shapeCasts_S256x128_S256x128⟩,
    ⟨Rect.unit (s := S256x2304) ![0, 128] S256x128.size inb_S256x2304_S256x128_0_128, shapeCast S256x128 (codv (half1 (hmE c XG XP arg4 arg6 XS XT fa A 0))) shapeCasts_S256x128_S256x128⟩,
    ⟨Rect.unit (s := S256x2304) ![0, 0] S256x128.size inb_S256x2304_S256x128_0_0, shapeCast S256x128 (codv (half0 (hmE c XG XP arg4 arg6 XS XT fa A 0))) shapeCasts_S256x128_S256x128⟩]
/-- their dequantised values; -/
def endDeq : List (View.Piece (Elt F) S256x2304 .bf16) :=
  [⟨Rect.unit (s := S256x2304) ![0, 2176] S256x128.size inb_S256x2304_S256x128_0_2176, deqv (half1 (hmE c XG XP arg4 arg6 XS XT fa A 8))⟩,
    ⟨Rect.unit (s := S256x2304) ![0, 2048] S256x128.size inb_S256x2304_S256x128_0_2048, deqv (half0 (hmE c XG XP arg4 arg6 XS XT fa A 8))⟩,
    ⟨Rect.unit (s := S256x2304) ![0, 1920] S256x128.size inb_S256x2304_S256x128_0_1920, deqv (half1 (hmE c XG XP arg4 arg6 XS XT fa A 7))⟩,
    ⟨Rect.unit (s := S256x2304) ![0, 1792] S256x128.size inb_S256x2304_S256x128_0_1792, deqv (half0 (hmE c XG XP arg4 arg6 XS XT fa A 7))⟩,
    ⟨Rect.unit (s := S256x2304) ![0, 1664] S256x128.size inb_S256x2304_S256x128_0_1664, deqv (half1 (hmE c XG XP arg4 arg6 XS XT fa A 6))⟩,
    ⟨Rect.unit (s := S256x2304) ![0, 1536] S256x128.size inb_S256x2304_S256x128_0_1536, deqv (half0 (hmE c XG XP arg4 arg6 XS XT fa A 6))⟩,
    ⟨Rect.unit (s := S256x2304) ![0, 1408] S256x128.size inb_S256x2304_S256x128_0_1408, deqv (half1 (hmE c XG XP arg4 arg6 XS XT fa A 5))⟩,
    ⟨Rect.unit (s := S256x2304) ![0, 1280] S256x128.size inb_S256x2304_S256x128_0_1280, deqv (half0 (hmE c XG XP arg4 arg6 XS XT fa A 5))⟩,
    ⟨Rect.unit (s := S256x2304) ![0, 1152] S256x128.size inb_S256x2304_S256x128_0_1152, deqv (half1 (hmE c XG XP arg4 arg6 XS XT fa A 4))⟩,
    ⟨Rect.unit (s := S256x2304) ![0, 1024] S256x128.size inb_S256x2304_S256x128_0_1024, deqv (half0 (hmE c XG XP arg4 arg6 XS XT fa A 4))⟩,
    ⟨Rect.unit (s := S256x2304) ![0, 896] S256x128.size inb_S256x2304_S256x128_0_896, deqv (half1 (hmE c XG XP arg4 arg6 XS XT fa A 3))⟩,
    ⟨Rect.unit (s := S256x2304) ![0, 768] S256x128.size inb_S256x2304_S256x128_0_768, deqv (half0 (hmE c XG XP arg4 arg6 XS XT fa A 3))⟩,
    ⟨Rect.unit (s := S256x2304) ![0, 640] S256x128.size inb_S256x2304_S256x128_0_640, deqv (half1 (hmE c XG XP arg4 arg6 XS XT fa A 2))⟩,
    ⟨Rect.unit (s := S256x2304) ![0, 512] S256x128.size inb_S256x2304_S256x128_0_512, deqv (half0 (hmE c XG XP arg4 arg6 XS XT fa A 2))⟩,
    ⟨Rect.unit (s := S256x2304) ![0, 384] S256x128.size inb_S256x2304_S256x128_0_384, deqv (half1 (hmE c XG XP arg4 arg6 XS XT fa A 1))⟩,
    ⟨Rect.unit (s := S256x2304) ![0, 256] S256x128.size inb_S256x2304_S256x128_0_256, deqv (half0 (hmE c XG XP arg4 arg6 XS XT fa A 1))⟩,
    ⟨Rect.unit (s := S256x2304) ![0, 128] S256x128.size inb_S256x2304_S256x128_0_128, deqv (half1 (hmE c XG XP arg4 arg6 XS XT fa A 0))⟩,
    ⟨Rect.unit (s := S256x2304) ![0, 0] S256x128.size inb_S256x2304_S256x128_0_0, deqv (half0 (hmE c XG XP arg4 arg6 XS XT fa A 0))⟩]
/-- their scales, a column a lane; -/
def endSc : FVec F S256x128 .f32 :=
  scPut 17#32 (scv (half1 (hmE c XG XP arg4 arg6 XS XT fa A 8))) (scPut 16#32 (scv (half0 (hmE c XG XP arg4 arg6 XS XT fa A 8))) (scPut 15#32 (scv (half1 (hmE c XG XP arg4 arg6 XS XT fa A 7))) (scPut 14#32 (scv (half0 (hmE c XG XP arg4 arg6 XS XT fa A 7))) (scPut 13#32 (scv (half1 (hmE c XG XP arg4 arg6 XS XT fa A 6))) (scPut 12#32 (scv (half0 (hmE c XG XP arg4 arg6 XS XT fa A 6))) (scPut 11#32 (scv (half1 (hmE c XG XP arg4 arg6 XS XT fa A 5))) (scPut 10#32 (scv (half0 (hmE c XG XP arg4 arg6 XS XT fa A 5))) (scPut 9#32 (scv (half1 (hmE c XG XP arg4 arg6 XS XT fa A 4))) (scPut 8#32 (scv (half0 (hmE c XG XP arg4 arg6 XS XT fa A 4))) (scPut 7#32 (scv (half1 (hmE c XG XP arg4 arg6 XS XT fa A 3))) (scPut 6#32 (scv (half0 (hmE c XG XP arg4 arg6 XS XT fa A 3))) (scPut 5#32 (scv (half1 (hmE c XG XP arg4 arg6 XS XT fa A 2))) (scPut 4#32 (scv (half0 (hmE c XG XP arg4 arg6 XS XT fa A 2))) (scPut 3#32 (scv (half1 (hmE c XG XP arg4 arg6 XS XT fa A 1))) (scPut 2#32 (scv (half0 (hmE c XG XP arg4 arg6 XS XT fa A 1))) (scPut 1#32 (scv (half1 (hmE c XG XP arg4 arg6 XS XT fa A 0))) (scPut 0#32 (scv (half0 (hmE c XG XP arg4 arg6 XS XT fa A 0))) (broadcast S256x128 (Scalar.ofBits .f32 0x00000000#32)))))))))))))))))))
/-- the scales laid out by rows; -/
def endHs : List (View.Piece (Elt F) S18x2x128 .f32) :=
  [⟨Rect.unit (s := S18x2x128) ![0, 1, 0] S18x1x128.size inb_S18x2x128_S18x1x128_0_1_0, shapeCast S18x1x128 (extractStridedSlice S18x128 ![0, 128] (transpose S128x256 [1, 0] (endSc c XG XP arg4 arg6 XS XT fa A) transposes_S256x128_p1_0_S128x256) slices_S128x256_o0_128_S18x128) shapeCasts_S18x128_S18x1x128⟩,
    ⟨Rect.unit (s := S18x2x128) ![0, 0, 0] S18x1x128.size inb_S18x2x128_S18x1x128_0_0_0, shapeCast S18x1x128 (extractStridedSlice S18x128 ![0, 0] (transpose S128x256 [1, 0] (endSc c XG XP arg4 arg6 XS XT fa A) transposes_S256x128_p1_0_S128x256) slices_S128x256_o0_0_S18x128) shapeCasts_S18x128_S18x1x128⟩]
/-- and the first scales laid out by rows. -/
def endAs : List (View.Piece (Elt F) S2x56x128 .f32) :=
  [⟨Rect.unit (s := S2x56x128) ![1, 0, 0] S1x56x128.size inb_S2x56x128_S1x56x128_1_0_0, shapeCast S1x56x128 (extractStridedSlice S56x128 ![0, 128] (transpose S128x256 [1, 0] (View.readAt (Elt F) ascM.view (Rect.unit (s := S256x128) ![0, 0] S256x128.size inb_S256x128_S256x128_0_0).toLoadRect B) transposes_S256x128_p1_0_S128x256) slices_S128x256_o0_128_S56x128) shapeCasts_S56x128_S1x56x128⟩,
    ⟨Rect.unit (s := S2x56x128) ![0, 0, 0] S1x56x128.size inb_S2x56x128_S1x56x128_0_0_0, shapeCast S1x56x128 (extractStridedSlice S56x128 ![0, 0] (transpose S128x256 [1, 0] (View.readAt (Elt F) ascM.view (Rect.unit (s := S256x128) ![0, 0] S256x128.size inb_S256x128_S256x128_0_0).toLoadRect B) transposes_S256x128_p1_0_S128x256) slices_S128x256_o0_0_S56x128) shapeCasts_S56x128_S1x56x128⟩]

/-! ## The results -/

/-- The codes' array: -/
def acS : S256x7168.Idx → Elt F .fp8e4m3 := fun x =>
  codv (laneY U R M (⟨(x 1).val / 128, by have : (x 1).val < 7168 := (x 1).isLt; omega⟩ : Fin 56)) (ix2 (x 0 : Fin 256) (⟨(x 1).val % 128, Nat.mod_lt _ (by decide)⟩ : Fin 128))
/-- its scales, -/
def asS : S2x56x128.Idx → Elt F .f32 := fun x =>
  scv (laneY U R M (x 1 : Fin 56)) (ix2 (⟨128 * (x 0).val + (x 2).val, by have : (x 0).val < 2 := (x 0).isLt; have : (x 2).val < 128 := (x 2).isLt; omega⟩ : Fin 256)
    (⟨(x 1).val, by have : (x 1).val < 56 := (x 1).isLt; omega⟩ : Fin 128))
/-- the hidden codes, -/
def hcS : S256x2304.Idx → Elt F .fp8e4m3 := fun x => codv (hlV U R M WG WU SG SU (hi18 (x 1 : Fin 2304))) (ix2 (x 0 : Fin 256) (lo18 (x 1 : Fin 2304)))
/-- their scales -/
def hsS : S18x2x128.Idx → Elt F .f32 := fun x =>
  scv (hlV U R M WG WU SG SU (x 0 : Fin 18)) (ix2 (⟨128 * (x 1).val + (x 2).val, by have : (x 1).val < 2 := (x 1).isLt; have : (x 2).val < 128 := (x 2).isLt; omega⟩ : Fin 256)
    (⟨(x 0).val, by have : (x 0).val < 18 := (x 0).isLt; omega⟩ : Fin 128))
/-- and their dequantised values. -/
def hdS : S256x2304.Idx → Elt F .bf16 := fun x => deqv (hlV U R M WG WU SG SU (hi18 (x 1 : Fin 2304))) (ix2 (x 0 : Fin 256) (lo18 (x 1 : Fin 2304)))

section Hidden
variable (hf : absOK U R M 0 6 (abfM.view.read (Elt F) fa)) (h : accOK U R M WG WU SG SU 6 (accM.view.read (Elt F) A))
include hf h hG hS hP hT in
theorem hmE_eq (n : Fin 9) : hmE c XG XP arg4 arg6 XS XT fa A n = hmV U R M WG WU SG SU n := by
  have b6 : (Ring.bk 7 6 : Fin 7) = 6 := by decide
  have ea : ae c fa = deqC U R M 6 := a_load c U R M 0 6 fa hf _ _ rfl
  have eg : weG c XG n = wBlk WG 6 n := w_load c 0 0 n _ _ rfl WG _ _ (wg_block c XG WG hG _) _
  have ep : weU c XP n = wBlk WU 6 n := w_load c 0 1 n _ _ rfl WU _ _ (wu_block c XP WU hP _) _
  have es : seG c arg4 XS n = sBlk SG 6 n := funext fun i => funext fun r => s_load c arg4 XS SG hS 6 n i r _ _ rfl
  have et : seU c arg6 XT n = sBlk SU 6 n := funext fun i => funext fun r => s_load c arg6 XT SU hT 6 n i r _ _ rfl
  unfold hmE accAdd hmV
  rw [ea, eg, ep, es, et, c_load c U R M WG WU SG SU 6 A h 0 n, c_load c U R M WG WU SG SU 6 A h 1 n]
  show hmOf (addf (accV U R M WG SG n 6) _) (addf (accV U R M WU SU n 6) _) = hmOf (addf (accV U R M WG SG n 6) _) (addf (accV U R M WU SU n 6) _)
  rw [b6]

/-- Lane `j` of the hidden rows. -/
def hlE (j : Fin 18) : FVec F S256x128 .f32 := halfOf (partOf j) (hmE c XG XP arg4 arg6 XS XT fa A (tileOf j))
include hf h hG hS hP hT in
theorem hlE_eq (j : Fin 18) : hlE c XG XP arg4 arg6 XS XT fa A j = hlV U R M WG WU SG SU j := by
  unfold hlE hlV
  rw [hmE_eq c XG XP arg4 arg6 XS XT U R M WG WU SG SU hS hT hG hP fa A hf h]

theorem eHInb (j : Fin 18) : ∀ a, (![0, 128 * j.val] : Fin 2 → ℕ) a + S256x128.size a ≤ S256x2304.size a := by
  have := j.isLt; intro a; fin_cases a
  · show 0 + 256 ≤ 256; omega
  · show 128 * j.val + 128 ≤ 2304; omega
theorem endCod_eq : endCod c XG XP arg4 arg6 XS XT fa A = down18.map fun j => (⟨Rect.unit (s := S256x2304) ![0, 128 * j.val] S256x128.size (eHInb j), shapeCast S256x128 (codv (hlE c XG XP arg4 arg6 XS XT fa A j)) shapeCasts_S256x128_S256x128⟩ : View.Piece (Elt F) S256x2304 .fp8e4m3) := rfl
theorem endDeq_eq : endDeq c XG XP arg4 arg6 XS XT fa A = down18.map fun j => (⟨Rect.unit (s := S256x2304) ![0, 128 * j.val] S256x128.size (eHInb j), deqv (hlE c XG XP arg4 arg6 XS XT fa A j)⟩ : View.Piece (Elt F) S256x2304 .bf16) := rfl
theorem endSc_eq : endSc c XG XP arg4 arg6 XS XT fa A = down18.foldr (fun j t => scPut (BitVec.ofNat 32 j.val) (scv (hlE c XG XP arg4 arg6 XS XT fa A j)) t) (broadcast S256x128 (Scalar.ofBits .f32 0x00000000#32)) := rfl

/-- Lane stores read back. -/
theorem lanes_read {sp : Space} {e : EltTy} (v : View sig .tc sp S256x2304 e) (f : v.ty.Contents (Elt F)) (w : Fin 18 → S256x128.Idx → Elt F e) (x : S256x2304.Idx) :
    v.read (Elt F) (v.writes (Elt F) f (down18.map fun j => (⟨Rect.unit (s := S256x2304) ![0, 128 * j.val] S256x128.size (eHInb j), w j⟩ : View.Piece (Elt F) S256x2304 e))) x
      = w (hi18 (x 1 : Fin 2304)) (ix2 (x 0 : Fin 256) (lo18 (x 1 : Fin 2304))) := by
  have hx1 : (x 1).val < 2304 := (x 1).isLt
  refine writes_hit v f (fun j : Fin 18 => ![0, 128 * j.val]) (fun _ => S256x128.size) eHInb w x (hi18 (x 1 : Fin 2304)) (ix2 (x 0 : Fin 256) (lo18 (x 1 : Fin 2304))) _ rfl ?_ down18 (mem_down18 _) ?_
  · intro a; fin_cases a
    · show (x 0).val = 0 + (x 0).val; omega
    · show (x 1).val = 128 * ((x 1).val / 128) + (x 1).val % 128; omega
  · intro l _ hl
    refine ⟨1, ?_⟩
    have : l.val ≠ (x 1).val / 128 := fun h' => hl (Fin.ext h')
    show (x 1).val < 128 * l.val ∨ 128 * l.val + 128 ≤ (x 1).val; omega

include hf h hG hS hP hT in
theorem hcod_read (H0 : Buf (Elt F) (hcodM.view.loc (c : Thread nD τ))) :
    hcodM.view.read (Elt F) (hcodM.view.writes (Elt F) H0 (endCod c XG XP arg4 arg6 XS XT fa A)) = hcS U R M WG WU SG SU := by
  funext x
  rw [endCod_eq]
  refine (lanes_read hcodM.view H0 (fun j => shapeCast S256x128 (codv (hlE c XG XP arg4 arg6 XS XT fa A j)) shapeCasts_S256x128_S256x128) x).trans ((same_apply _ _).trans ?_)
  rw [hlE_eq c XG XP arg4 arg6 XS XT U R M WG WU SG SU hS hT hG hP fa A hf h]
  rfl
include hf h hG hS hP hT in
theorem hd_read (arg11 : Memref sig .tc .vmem S256x2304 .bf16) (H0 : Buf (Elt F) (arg11.view.loc (c : Thread nD τ))) :
    arg11.view.read (Elt F) (arg11.view.writes (Elt F) H0 (endDeq c XG XP arg4 arg6 XS XT fa A)) = hdS U R M WG WU SG SU := by
  funext x
  rw [endDeq_eq]
  refine (lanes_read arg11.view H0 (fun j => deqv (hlE c XG XP arg4 arg6 XS XT fa A j)) x).trans ?_
  rw [hlE_eq c XG XP arg4 arg6 XS XT U R M WG WU SG SU hS hT hG hP fa A hf h]
  rfl
include hf h hG hS hP hT in
theorem endSc_apply (j : Fin 18) (x : S256x128.Idx) (hx : (x 1).val = j.val) : endSc c XG XP arg4 arg6 XS XT fa A x = scv (hlV U R M WG WU SG SU j) x := by
  rw [endSc_eq]
  refine (puts_hit (fun j : Fin 18 => BitVec.ofNat 32 j.val) (fun j => scv (hlE c XG XP arg4 arg6 XS XT fa A j)) _ x j (by rw [hx]) down18 (mem_down18 _) (fun l _ hne h' => by
    have := l.isLt; have := j.isLt; exact hne (Fin.ext (word_inj (by omega) (by omega) h')))).trans ?_
  show scv (hlE c XG XP arg4 arg6 XS XT fa A j) x = _
  rw [hlE_eq c XG XP arg4 arg6 XS XT U R M WG WU SG SU hS hT hG hP fa A hf h]
end Hidden

theorem rows18 (v : FVec F S256x128 .f32) (o : ℕ) (hs : S128x256.Slices ![0, o] S18x128) (n : Fin 18) (r : Fin 128) (q : Fin 256) (p : Fin 128) (hq : q.val = o + r.val) (hp : p.val = n.val) :
    shapeCast S18x1x128 (extractStridedSlice S18x128 ![0, o] (transpose S128x256 [1, 0] v transposes_S256x128_p1_0_S128x256) hs) shapeCasts_S18x128_S18x1x128 (ix3 n (0 : Fin 1) r) = v (ix2 q p) := by
  refine (shapeCast_apply _ _ (ix3 n (0 : Fin 1) r) (ix2 n r) (by rw [Shape.rowMajor_val_two, Shape.rowMajor_val_three]; show n.val * 128 + r.val = (n.val * 1 + 0) * 128 + r.val; omega)).trans ?_
  refine (extractStridedSlice_apply _ _ hs (ix2 n r) (ix2 p q) (fun a => ?_)).trans ?_
  · fin_cases a
    · show p.val = 0 + n.val; omega
    · show q.val = o + r.val; exact hq
  exact transpose_apply _ _ _ (ix2 p q) (ix2 q p) (fun b => by fin_cases b <;> rfl)
theorem rows56 (v : FVec F S256x128 .f32) (o : ℕ) (hs : S128x256.Slices ![0, o] S56x128) (n : Fin 56) (r : Fin 128) (q : Fin 256) (p : Fin 128) (hq : q.val = o + r.val) (hp : p.val = n.val) :
    shapeCast S1x56x128 (extractStridedSlice S56x128 ![0, o] (transpose S128x256 [1, 0] v transposes_S256x128_p1_0_S128x256) hs) shapeCasts_S56x128_S1x56x128 (ix3 (0 : Fin 1) n r) = v (ix2 q p) := by
  refine (shapeCast_apply _ _ (ix3 (0 : Fin 1) n r) (ix2 n r) (by rw [Shape.rowMajor_val_two, Shape.rowMajor_val_three]; show n.val * 128 + r.val = (0 * 56 + n.val) * 128 + r.val; omega)).trans ?_
  refine (extractStridedSlice_apply _ _ hs (ix2 n r) (ix2 p q) (fun a => ?_)).trans ?_
  · fin_cases a
    · show p.val = 0 + n.val; omega
    · show q.val = o + r.val; exact hq
  exact transpose_apply _ _ _ (ix2 p q) (ix2 q p) (fun b => by fin_cases b <;> rfl)

theorem hs_read (hf : absOK U R M 0 6 (abfM.view.read (Elt F) fa)) (h : accOK U R M WG WU SG SU 6 (accM.view.read (Elt F) A))
    (hS : arg4.view.read (Elt F) XS = SG) (hT : arg6.view.read (Elt F) XT = SU) (hG : wgM.view.read (Elt F) XG = WG) (hP : wuM.view.read (Elt F) XP = WU)
    (arg10 : Memref sig .tc .vmem S18x2x128 .f32) (H0 : Buf (Elt F) (arg10.view.loc (c : Thread nD τ))) :
    arg10.view.read (Elt F) (arg10.view.writes (Elt F) H0 (endHs c XG XP arg4 arg6 XS XT fa A)) = hsS U R M WG WU SG SU := by
  funext x
  have h1 : (x 1).val < 2 := (x 1).isLt
  have h2 : (x 2).val < 128 := (x 2).isLt
  have h0 : (x 0).val < 18 := (x 0).isLt
  unfold endHs
  rcases (by omega : (x 1).val = 1 ∨ (x 1).val = 0) with e | e
  · refine (View.read_writes_cons_unit_of_mem arg10.view H0 inb_S18x2x128_S18x1x128_0_1_0 _ _ x (ix3 (x 0 : Fin 18) (0 : Fin 1) (x 2 : Fin 128)) rfl (fun a => ?_)).trans ?_
    · fin_cases a
      · show (x 0).val = 0 + (x 0).val; omega
      · show (x 1).val = 1 + 0; omega
      · show (x 2).val = 0 + (x 2).val; omega
    refine (rows18 (endSc c XG XP arg4 arg6 XS XT fa A) 128 _ (x 0 : Fin 18) (x 2 : Fin 128) ⟨128 * (x 1).val + (x 2).val, by omega⟩ ⟨(x 0).val, by omega⟩ (by show 128 * (x 1).val + (x 2).val = 128 + (x 2).val; omega) rfl).trans ?_
    exact endSc_apply c XG XP arg4 arg6 XS XT U R M WG WU SG SU hS hT hG hP fa A hf h (x 0 : Fin 18) _ rfl
  · refine (View.read_writes_cons_unit_of_not_mem arg10.view H0 inb_S18x2x128_S18x1x128_0_1_0 _ _ x rfl 1 (by show (x 1).val < 1 ∨ 1 + 1 ≤ (x 1).val; omega)).trans ?_
    refine (View.read_writes_cons_unit_of_mem arg10.view H0 inb_S18x2x128_S18x1x128_0_0_0 _ _ x (ix3 (x 0 : Fin 18) (0 : Fin 1) (x 2 : Fin 128)) rfl (fun a => ?_)).trans ?_
    · fin_cases a
      · show (x 0).val = 0 + (x 0).val; omega
      · show (x 1).val = 0 + 0; omega
      · show (x 2).val = 0 + (x 2).val; omega
    refine (rows18 (endSc c XG XP arg4 arg6 XS XT fa A) 0 _ (x 0 : Fin 18) (x 2 : Fin 128) ⟨128 * (x 1).val + (x 2).val, by omega⟩ ⟨(x 0).val, by omega⟩ (by show 128 * (x 1).val + (x 2).val = 0 + (x 2).val; omega) rfl).trans ?_
    exact endSc_apply c XG XP arg4 arg6 XS XT U R M WG WU SG SU hS hT hG hP fa A hf h (x 0 : Fin 18) _ rfl

theorem as_read (hB : ascOK U R M 6 (ascM.view.read (Elt F) B)) (arg8 : Memref sig .tc .vmem S2x56x128 .f32) (H0 : Buf (Elt F) (arg8.view.loc (c : Thread nD τ))) :
    arg8.view.read (Elt F) (arg8.view.writes (Elt F) H0 (endAs c B)) = asS U R M := by
  have eb : ∀ (q : Fin 256) (p : Fin 128) (n : Fin 56), p.val = n.val → View.readAt (Elt F) ascM.view (Rect.unit (s := S256x128) ![0, 0] S256x128.size inb_S256x128_S256x128_0_0).toLoadRect B (ix2 q p) = scv (laneY U R M n) (ix2 q p) := by
    intro q p n hp
    refine Eq.trans (congrArg (ascM.view.read (Elt F) B) (?_ : _ = (ix2 q p : S256x128.Idx))) (hB (ix2 q p) n hp (by have := n.isLt; omega))
    refine funext fun a => Fin.ext ?_
    fin_cases a
    · show 0 + 1 * q.val = q.val; omega
    · show 0 + 1 * p.val = p.val; omega
  funext x
  have h0 : (x 0).val < 2 := (x 0).isLt
  have h2 : (x 2).val < 128 := (x 2).isLt
  have h1 : (x 1).val < 56 := (x 1).isLt
  unfold endAs
  rcases (by omega : (x 0).val = 1 ∨ (x 0).val = 0) with e | e
  · refine (View.read_writes_cons_unit_of_mem arg8.view H0 inb_S2x56x128_S1x56x128_1_0_0 _ _ x (ix3 (0 : Fin 1) (x 1 : Fin 56) (x 2 : Fin 128)) rfl (fun a => ?_)).trans ?_
    · fin_cases a
      · show (x 0).val = 1 + 0; omega
      · show (x 1).val = 0 + (x 1).val; omega
      · show (x 2).val = 0 + (x 2).val; omega
    refine (rows56 _ 128 _ (x 1 : Fin 56) (x 2 : Fin 128) ⟨128 * (x 0).val + (x 2).val, by omega⟩ ⟨(x 1).val, by omega⟩ (by show 128 * (x 0).val + (x 2).val = 128 + (x 2).val; omega) rfl).trans ?_
    exact eb _ _ (x 1 : Fin 56) rfl
  · refine (View.read_writes_cons_unit_of_not_mem arg8.view H0 inb_S2x56x128_S1x56x128_1_0_0 _ _ x rfl 0 (by show (x 0).val < 1 ∨ 1 + 1 ≤ (x 0).val; omega)).trans ?_
    refine (View.read_writes_cons_unit_of_mem arg8.view H0 inb_S2x56x128_S1x56x128_0_0_0 _ _ x (ix3 (0 : Fin 1) (x 1 : Fin 56) (x 2 : Fin 128)) rfl (fun a => ?_)).trans ?_
    · fin_cases a
      · show (x 0).val = 0 + 0; omega
      · show (x 1).val = 0 + (x 1).val; omega
      · show (x 2).val = 0 + (x 2).val; omega
    refine (rows56 _ 0 _ (x 1 : Fin 56) (x 2 : Fin 128) ⟨128 * (x 0).val + (x 2).val, by omega⟩ ⟨(x 1).val, by omega⟩ (by show 128 * (x 0).val + (x 2).val = 0 + (x 2).val; omega) rfl).trans ?_
    exact eb _ _ (x 1 : Fin 56) rfl

/-- A slot of the codes' buffer read at an element. -/
theorem cslot_read (b : Fin 7) (f : Buf (Elt F) (acodM.view.loc (c : Thread nD τ))) (y : S256x1024.Idx) :
    (cslot b).view.read (Elt F) f y = acodM.view.read (Elt F) f (ix3 b (y 0 : Fin 256) (y 1 : Fin 1024)) := by
  have hc : S1x256x1024.ShapeCasts S256x1024 := by decide
  have e := congrFun (Memref.read_squeeze_slice (Val := Elt F) acodM (Rect.unit (s := S7x256x1024) (codOff b) S1x256x1024.size (cslot_inb b)) (fun _ => rfl)
    squeezes_S1x256x1024_S256x1024 hc f) y
  refine e.trans ((shapeCast_apply _ hc y (ix3 (0 : Fin 1) (y 0 : Fin 256) (y 1 : Fin 1024)) ?_).trans ?_)
  · rw [Shape.rowMajor_val_two, Shape.rowMajor_val_three]
    show (0 * 256 + (y 0).val) * 1024 + (y 1).val = (y 0).val * 1024 + (y 1).val
    omega
  · refine congrArg (f : S7x256x1024.Idx → Elt F .fp8e4m3) (funext fun a => Fin.ext ?_)
    refine (ValueKit.view_emb_slice_whole_unit_val cc0_scratch3 (codOff b) S1x256x1024.size (cslot_inb b) (ix3 (0 : Fin 1) (y 0 : Fin 256) (y 1 : Fin 1024)) a).trans ?_
    fin_cases a
    · show b.val + 0 = b.val; omega
    · show 0 + (y 0).val = (y 0).val; omega
    · show 0 + (y 1).val = (y 1).val; omega
/-- Column block `b` of the codes' array. -/
def acB (b : Fin 7) : S256x1024.Idx → Elt F .fp8e4m3 := fun y => codS U R M (ix3 b (y 0 : Fin 256) (y 1 : Fin 1024))
theorem ac_read (b : Fin 7) (C : Buf (Elt F) (acodM.view.loc (c : Thread nD τ))) (hC : codOK U R M 6 (acodM.view.read (Elt F) C)) (o : Buf (Elt F) (acM.view.loc (c : Thread nD τ))) :
    (oblk b).view.read (Elt F) ((oblk b).view.writes (Elt F) o [⟨Rect.whole S256x1024, ReadAs.same.apply ((cslot b).view.read (Elt F) C)⟩]) = acB U R M b := by
  refine (View.read_writes_whole (oblk b).view o _).trans ?_
  funext y
  show (cslot b).view.read (Elt F) C y = _
  rw [cslot_read c b C y]
  exact hC _ (by show b.val ≤ 6; have := b.isLt; omega)
end End
end Cert.Proof.GateUp
end
-- ==== Proof.GuSlots.lean ====
/-
  The codes' buffer is its seven slots. (Same text for both printed programs.)
-/
module

public import proofs.«01_k».proof.Proof.GuEpi

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev CS (b : Fin 7) : Finset S7x256x1024.Idx := (Rect.unit (s := S7x256x1024) (codOff b) S1x256x1024.size (cslot_inb b)).set
theorem cslot_set (b : Fin 7) : (cslot b).view.set = CS b := (View.set_reshape _ _).trans (View.set_slice_whole _ _)
theorem mem_CS (b : Fin 7) (y : S7x256x1024.Idx) : y ∈ CS b ↔ (y 0).val = b.val := by
  rw [Rect.mem_set_unit]
  have h1 : (y 1).val < 256 := (y 1).isLt
  have h2 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 1024; omega
theorem CS_disjoint : ∀ b b' : Fin 7, b ≠ b' → Disjoint (CS b) (CS b') := by
  intro b b' hne; rw [Finset.disjoint_left]; intro y hy hy'; rw [mem_CS] at hy hy'; exact hne (Fin.ext (hy.symm.trans hy'))
theorem CS_cover : (Finset.univ : Finset (Fin 7)).biUnion CS = Finset.univ := by
  ext y; simp only [Finset.mem_biUnion, Finset.mem_univ, true_and, iff_true]; exact ⟨(y 0).cast (by decide), by rw [mem_CS]; rfl⟩
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ
theorem acodP_eq (c : Dev nD) (C : Buf (Elt F) (acodM.view.loc (c : Thread nD τ))) :
    (acodP c C : sProp 𝕄) = iprop(cslotP c 0 C ∗ cslotP c 1 C ∗ cslotP c 2 C ∗ cslotP c 3 C ∗ cslotP c 4 C ∗ cslotP c 5 C ∗ cslotP c 6 C) := by
  have e : acodM.view.set = (Finset.univ : Finset S7x256x1024.Idx) := View.set_whole _
  have e1 : (acodP c C : sProp 𝕄) = (((c : Thread nD τ).loc cc0_scratch3) ↦{fullShare} C : sProp 𝕄) :=
    congrArg (fun S => (((c : Thread nD τ).loc cc0_scratch3) ↦[S]{fullShare} C : sProp 𝕄)) e
  have e2 : ∀ b, (((c : Thread nD τ).loc cc0_scratch3) ↦[CS b]{fullShare} C : sProp 𝕄) = cslotP c b C := fun b =>
    congrArg (fun S => (((c : Thread nD τ).loc cc0_scratch3) ↦[S]{fullShare} C : sProp 𝕄)) (cslot_set b).symm
  rw [e1, Ring.pointsTo_blocks (ℓ := (c : Thread nD τ).loc cc0_scratch3) CS CS_disjoint CS_cover, bigSep_fin7]
  simp only [e2]
theorem toSlots (c : Dev nD) (C : Buf (Elt F) (acodM.view.loc (c : Thread nD τ))) :
    (acodP c C : sProp 𝕄) ⊢ iprop(cslotP c 0 C ∗ cslotP c 1 C ∗ cslotP c 2 C ∗ cslotP c 3 C ∗ cslotP c 4 C ∗ cslotP c 5 C ∗ cslotP c 6 C) :=
  entails_of_eq (acodP_eq c C)
theorem ofSlots (c : Dev nD) (C : Buf (Elt F) (acodM.view.loc (c : Thread nD τ))) :
    iprop(cslotP c 0 C ∗ cslotP c 1 C ∗ cslotP c 2 C ∗ cslotP c 3 C ∗ cslotP c 4 C ∗ cslotP c 5 C ∗ cslotP c 6 C) ⊢ (acodP c C : sProp 𝕄) :=
  entails_of_eq (acodP_eq c C).symm

end Cert.Proof.GateUp
end
-- ==== Proof.GuBody.lean ====
/-
  The gate and up projections' body: the part before the loop, the loop, and the part after it. (Same text for both printed programs.)
-/
module

public import proofs.«01_k».proof.Proof.GuLoop
public import proofs.«01_k».proof.Proof.GuEnd
public import proofs.«01_k».proof.Proof.GuSlots

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (XG : Buf (Elt F) (wgM.view.loc (c : Thread nD τ))) (XP : Buf (Elt F) (wuM.view.loc (c : Thread nD τ)))
  (arg0 : Memref sig .tc .vmem S56x256x128 .f32) (harg0 : arg0.IsWhole) (arg1 : Memref sig .tc .vmem S256x128 .f32) (harg1 : arg1.IsWhole)
  (arg2 : Memref sig .tc .vmem S56x128 .f32) (harg2 : arg2.IsWhole) (arg4 : Memref sig .tc .smem S18x56 .f32) (harg4 : arg4.IsWhole)
  (arg6 : Memref sig .tc .smem S18x56 .f32) (harg6 : arg6.IsWhole) (arg8 : Memref sig .tc .vmem S2x56x128 .f32) (harg8 : arg8.IsWhole)
  (arg10 : Memref sig .tc .vmem S18x2x128 .f32) (harg10 : arg10.IsWhole) (arg11 : Memref sig .tc .vmem S256x2304 .bf16) (harg11 : arg11.IsWhole)
  (XU : Buf (Elt F) (arg0.view.loc (c : Thread nD τ))) (XR : Buf (Elt F) (arg1.view.loc (c : Thread nD τ))) (XM : Buf (Elt F) (arg2.view.loc (c : Thread nD τ)))
  (XS : Buf (Elt F) (arg4.view.loc (c : Thread nD τ))) (XT : Buf (Elt F) (arg6.view.loc (c : Thread nD τ)))
  (U : Vec F S56x256x128 .f32) (R : Vec F S256x128 .f32) (M : Vec F S56x128 .f32)
  (WG WU : Vec F S7168x2304 .fp8e4m3) (SG SU : Vec F S18x56 .f32)
  (hU : arg0.view.read (Elt F) XU = U) (hR : arg1.view.read (Elt F) XR = R) (hM : arg2.view.read (Elt F) XM = M)
  (hS : arg4.view.read (Elt F) XS = SG) (hT : arg6.view.read (Elt F) XT = SU)
  (hG : wgM.view.read (Elt F) XG = WG) (hP : wuM.view.read (Elt F) XP = WU)

abbrev bodyG : Prog (TpuEff nD τ sig (Elt F) Λ₀ .tc) PUnit :=
  cc0_mhc_mlp_gate_up arg0 harg0 arg1 harg1 arg2 harg2 wgM (Memref.isWhole_whole _) arg4 harg4 wuM (Memref.isWhole_whole _) arg6 harg6 acM (Memref.isWhole_whole _) arg8 harg8 hcM (Memref.isWhole_whole _) arg10 harg10 arg11 harg11 accM (Memref.isWhole_whole _) wguM (Memref.isWhole_whole _) abfM (Memref.isWhole_whole _) acodM (Memref.isWhole_whole _) ascM (Memref.isWhole_whole _) hcodM (Memref.isWhole_whole _) cc0_scratch6 cc0_scratch7
abbrev asP (f : Buf (Elt F) (arg8.view.loc (c : Thread nD τ))) : sProp 𝕄 := arg8.view.loc (c : Thread nD τ) ↦[arg8.view.set]{fullShare} f
abbrev hsP (f : Buf (Elt F) (arg10.view.loc (c : Thread nD τ))) : sProp 𝕄 := arg10.view.loc (c : Thread nD τ) ↦[arg10.view.set]{fullShare} f
abbrev hdP (f : Buf (Elt F) (arg11.view.loc (c : Thread nD τ))) : sProp 𝕄 := arg11.view.loc (c : Thread nD τ) ↦[arg11.view.set]{fullShare} f

theorem res_exit' : invAt c XG XP arg0 arg1 arg2 arg4 arg6 XU XR XM XS XT U R M WG WU SG SU k0_t1_loop.trips ⊢ exitP c XG XP arg0 arg1 arg2 arg4 arg6 XU XR XM XS XT U R M WG WU SG SU := by
  rw [trips_eq]
  exact (inv_res c XG XP arg0 arg1 arg2 arg4 arg6 XU XR XM XS XT U R M WG WU SG SU 6).trans (res_exit c XG XP arg0 arg1 arg2 arg4 arg6 XU XR XM XS XT U R M WG WU SG SU)

/-- The slots, the semaphores and the scratch buffers, with some contents. -/
abbrev restP : sProp 𝕄 :=
  iprop((∃ f, gslotP c 0 0 f) ∗ (∃ f, gslotP c 0 1 f) ∗ (∃ f, gslotP c 1 0 f) ∗ (∃ f, gslotP c 1 1 f)
    ∗ (∃ f, aslotP c 0 f) ∗ (∃ f, aslotP c 1 f) ∗ (∃ f, acodP c f) ∗ (∃ f, accP c f) ∗ (∃ f, ascP c f) ∗ (∃ f, hcodP c f)
    ∗ gcellP c 0 ∗ gcellP c 1 ∗ ccellP c 0 ∗ ccellP c 1)
abbrev freshB (b : Fin 7) : sProp 𝕄 := iprop(∃ f, oblkP c b f)
abbrev doneB (b : Fin 7) : sProp 𝕄 := iprop(∃ f, oblkP c b f ∗ ⌜(oblk b).view.read (Elt F) f = acB U R M b⌝)
/-- What the body is handed; -/
abbrev PRE (W : Waits sig Unit) : sProp 𝕄 :=
  iprop(insP c arg0 arg1 arg2 arg4 arg6 XU XR XM XS XT ∗ (∃ f, asP c arg8 f) ∗ (∃ f, hsP c arg10 f) ∗ (∃ f, hdP c arg11 f) ∗ (∃ f, hcP c f)
    ∗ freshB c 0 ∗ freshB c 1 ∗ freshB c 2 ∗ freshB c 3 ∗ freshB c 4 ∗ freshB c 5 ∗ freshB c 6
    ∗ (homeG c XG 0 ∗ homeU c XP 0) ∗ (homeG c XG 1 ∗ homeU c XP 1) ∗ bigSep (Ring.homeSet 2 0) (homeP c XG XP) ∗ restP c ∗ owes (c : Thread nD τ) 0 W)
/-- and what it hands back. -/
abbrev POST : sProp 𝕄 :=
  iprop(insP c arg0 arg1 arg2 arg4 arg6 XU XR XM XS XT ∗ (∃ f, asP c arg8 f ∗ ⌜arg8.view.read (Elt F) f = asS U R M⌝)
    ∗ (∃ f, hsP c arg10 f ∗ ⌜arg10.view.read (Elt F) f = hsS U R M WG WU SG SU⌝)
    ∗ (∃ f, hdP c arg11 f ∗ ⌜arg11.view.read (Elt F) f = hdS U R M WG WU SG SU⌝)
    ∗ (∃ f, hcP c f ∗ ⌜hcM.view.read (Elt F) f = hcS U R M WG WU SG SU⌝)
    ∗ doneB c U R M 0 ∗ doneB c U R M 1 ∗ doneB c U R M 2 ∗ doneB c U R M 3 ∗ doneB c U R M 4 ∗ doneB c U R M 5 ∗ doneB c U R M 6
    ∗ bigSep Finset.univ (homeP c XG XP) ∗ restP c ∗ ∃ W, owes (c : Thread nD τ) 0 W)

theorem slots_open (s s' : Fin 2) (b : Fin 7) (k : ℕ) : slotsP c U R M WG WU SG SU s s' b k ⊢ iprop((∃ fa, aslotP c s fa ∗ ⌜absOK U R M s.val b (abfM.view.read (Elt F) fa)⌝) ∗ (∃ fb, aslotP c s' fb)
    ∗ (∃ C, acodP c C ∗ ⌜codOK U R M k (acodM.view.read (Elt F) C)⌝)
    ∗ (∃ A, accP c A ∗ ⌜accOK U R M WG WU SG SU k (accM.view.read (Elt F) A)⌝)
    ∗ (∃ B, ascP c B ∗ ⌜ascOK U R M k (ascM.view.read (Elt F) B)⌝)) := by
  unfold slotsP; exact .rfl
theorem slots_mk (s s' : Fin 2) (b : Fin 7) (k : ℕ) (fa fb : Buf (Elt F) (abfM.view.loc (c : Thread nD τ))) (C : Buf (Elt F) (acodM.view.loc (c : Thread nD τ)))
    (A : Buf (Elt F) (accM.view.loc (c : Thread nD τ))) (B : Buf (Elt F) (ascM.view.loc (c : Thread nD τ)))
    (h1 : absOK U R M s.val b (abfM.view.read (Elt F) fa)) (h2 : codOK U R M k (acodM.view.read (Elt F) C))
    (h3 : accOK U R M WG WU SG SU k (accM.view.read (Elt F) A)) (h4 : ascOK U R M k (ascM.view.read (Elt F) B)) :
    iprop(aslotP c s fa ∗ aslotP c s' fb ∗ acodP c C ∗ accP c A ∗ ascP c B) ⊢ slotsP c U R M WG WU SG SU s s' b k := by
  unfold slotsP
  iintro ⟨Ha, Hb, HC, HA, HB⟩
  isplitl [Ha]
  · iexists fa; isplitl [Ha]; · iexact Ha
    ipureintro; exact h1
  isplitl [Hb]; · iexists fb; iexact Hb
  isplitl [HC]
  · iexists C; isplitl [HC]; · iexact HC
    ipureintro; exact h2
  isplitl [HA]
  · iexists A; isplitl [HA]; · iexact HA
    ipureintro; exact h3
  iexists B; isplitl [HB]; · iexact HB
  ipureintro; exact h4

theorem homes_all : iprop(homeG c XG 6 ∗ homeU c XP 6 ∗ bigSep (Ring.homeSet 2 6) (homeP c XG XP)) ⊢ bigSep Finset.univ (homeP c XG XP) := by
  rw [← Ring.homeSet_last 2 7 (by decide), homes_tail c XG XP 6 (by decide) (by decide)]
  have b6 : (Ring.bk 7 6 : Fin 7) = 6 := by decide
  rw [b6]
  iintro ⟨Hg, Hp, Hr⟩
  isplitl [Hg Hp]
  · isplitl [Hg]; · iexact Hg
    iexact Hp
  iexact Hr

include hU hR hM hS hT hG hP in
set_option maxHeartbeats 4000000 in
set_option maxRecDepth 100000 in
theorem bodyRun (W) (Q : PUnit → sProp 𝕄) :
    iprop(PRE c XG XP arg0 arg1 arg2 arg4 arg6 arg8 arg10 arg11 XU XR XM XS XT W
        ∗ (POST c XG XP arg0 arg1 arg2 arg4 arg6 arg8 arg10 arg11 XU XR XM XS XT U R M WG WU SG SU -∗ Q ⟨⟩))
      ⊢ wp frame (wpE (defs₀ (F := F)) 𝒱₀ (c : Thread nD τ) none) Set.univ (bodyG arg0 harg0 arg1 harg1 arg2 harg2 arg4 harg4 arg6 harg6 arg8 harg8 arg10 harg10 arg11 harg11) Q := by
  have plan0 : Transfers.BatchOf (c : Thread nD τ) (SemLoc.dma (gsm 0).sem) 2 := trivial
  have plan1 : Transfers.BatchOf (c : Thread nD τ) (SemLoc.dma (gsm 1).sem) 2 := trivial
  have plan2 : Transfers.BatchOf (c : Thread nD τ) (SemLoc.dma (csm 0).sem) 7 := trivial
  iintro ⟨⟨⟨Hu, Hr, Hm, Hsg, Hsu⟩, ⟨%s8, H8⟩, ⟨%s10, H10⟩, ⟨%s11, H11⟩, ⟨%hc0, Hhc⟩, ⟨%o0, Ho0⟩, ⟨%o1, Ho1⟩, ⟨%o2, Ho2⟩, ⟨%o3, Ho3⟩, ⟨%o4, Ho4⟩, ⟨%o5, Ho5⟩, ⟨%o6, Ho6⟩, ⟨Hg0, Hp0⟩, ⟨Hg1, Hp1⟩, Hhome, ⟨⟨%f00, Hw00⟩, ⟨%f01, Hw01⟩, ⟨%f10, Hw10⟩, ⟨%f11, Hw11⟩, ⟨%a0, Ha0⟩, ⟨%a1, Ha1⟩, ⟨%C0, HC⟩, ⟨%A0, HA⟩, ⟨%B0, HB⟩, ⟨%H0, HH⟩, Hc0, Hc1, Hd0, Hd1⟩, HW⟩, Hk⟩
  sl_exec_parts
  sl_for (fun (k : ℕ) _ => invAt c XG XP arg0 arg1 arg2 arg4 arg6 XU XR XM XS XT U R M WG WU SG SU k) $$ [Hu Hr Hm Hsg Hsu HW Hhome Hc0 Hc1 Ha0 Ha1 HC HA HB]
  · intro k acc
    refine (inv_res c XG XP arg0 arg1 arg2 arg4 arg6 XU XR XM XS XT U R M WG WU SG SU k.val).trans ?_
    exact trip c XG XP arg0 harg0 arg1 harg1 arg2 harg2 arg4 harg4 arg6 harg6 arg8 harg8 arg10 harg10 arg11 harg11 XU XR XM XS XT U R M WG WU SG SU hU hR hM hS hT hG hP _ _ _ _ _ _ k
  · show _ ⊢ entryP c XG XP arg0 arg1 arg2 arg4 arg6 XU XR XM XS XT U R M WG WU SG SU
    iintro ⟨⟨⟨⟨⟨⟨⟨⟨⟨⟨⟨⟨⟨Hu, Hr⟩, Hm⟩, Hsg⟩, Hsu⟩, Hhome⟩, Ha0⟩, Ha1⟩, HC⟩, HA⟩, HB⟩, HW⟩, Hc0⟩, Hc1⟩
    isplitl [Hu Hr Hm Hsg Hsu]
    · isplitl [Hu]; · iexact Hu
      isplitl [Hr]; · iexact Hr
      isplitl [Hm]; · iexact Hm
      isplitl [Hsg]; · iexact Hsg
      iexact Hsu
    isplitl [HW]; · iexists _; iexact HW
    isplitl [Hhome]; · iexact Hhome
    isplitl [Hc0]; · iexists f00; iexists f01; iexact Hc0
    isplitl [Hc1]; · iexists f10; iexists f11; iexact Hc1
    iapply (slots_mk c U R M WG WU SG SU 0 1 0 0 (proDeq c arg0 arg1 arg2 XU XR XM a0) a1 (acodM.view.writes (Elt F) C0 (proCod c arg0 arg1 arg2 XU XR XM))
      (accM.view.writes (Elt F) accM.view.junk (proAcc (F := F))) (ascM.view.writes (Elt F) ascM.view.junk (proSca c arg0 arg1 arg2 XU XR XM))
      (deq_pro c arg0 arg1 arg2 XU XR XM U R M hU hR hM a0) (cod_pro c arg0 arg1 arg2 XU XR XM U R M hU hR hM C0)
      (acc_pro c U R M WG WU SG SU _) (asc_pro c arg0 arg1 arg2 XU XR XM U R M hU hR hM _))
    isplitl [Ha0]; · iexact Ha0
    isplitl [Ha1]; · iexact Ha1
    isplitl [HC]; · iexact HC
    isplitl [HA]; · iexact HA
    iexact HB
  iintro %acc HI
  ihave HE := (res_exit' c XG XP arg0 arg1 arg2 arg4 arg6 XU XR XM XS XT U R M WG WU SG SU) $$ HI
  icases HE with ⟨⟨Hu, Hr, Hm, Hsg, Hsu⟩, ⟨%W1, HW⟩, Hhome, ⟨%f, %f', HF⟩, ⟨Hc1, ⟨%f10, Hw10⟩, ⟨%f11, Hw11⟩⟩, HS⟩
  ihave HS' := (slots_open c U R M WG WU SG SU 0 1 6 6) $$ HS
  icases HS' with ⟨⟨%fa, Ha, %hfa⟩, ⟨%fb, Hb⟩, ⟨%C, HC, %hC⟩, ⟨%A, HA, %hA⟩, ⟨%B, HB, %hB⟩⟩
  ihave HCs := (toSlots c C) $$ HC
  icases HCs with ⟨HC0, HC1, HC2, HC3, HC4, HC5, HC6⟩
  sl_exec_parts
  sl_step
  iapply Hk
  isplitl [Hu Hr Hm Hsg Hsu]
  · isplitl [Hu]; · iexact Hu
    isplitl [Hr]; · iexact Hr
    isplitl [Hm]; · iexact Hm
    isplitl [Hsg]; · iexact Hsg
    iexact Hsu
  isplitl [H8]
  · iexists _; isplitl [H8]; · iexact H8
    ipureintro; exact as_read c U R M B hB arg8 s8
  isplitl [H10]
  · iexists _; isplitl [H10]; · iexact H10
    ipureintro; exact hs_read c XG XP arg4 arg6 XS XT U R M WG WU SG SU fa A hfa hA hS hT hG hP arg10 s10
  isplitl [H11]
  · iexists _; isplitl [H11]; · iexact H11
    ipureintro; exact hd_read c XG XP arg4 arg6 XS XT U R M WG WU SG SU hS hT hG hP fa A hfa hA arg11 s11
  isplitl [Hhc]
  · iexists _; isplitl [Hhc]; · iexact Hhc
    ipureintro
    refine (View.read_writes_whole hcM.view _ _).trans ?_
    exact hcod_read c XG XP arg4 arg6 XS XT U R M WG WU SG SU hS hT hG hP fa A hfa hA H0
  isplitl [Ho0]
  · iexists _; isplitl [Ho0]; · iexact Ho0
    ipureintro; exact ac_read c U R M 0 C hC o0
  isplitl [Ho1]
  · iexists _; isplitl [Ho1]; · iexact Ho1
    ipureintro; exact ac_read c U R M 1 C hC o1
  isplitl [Ho2]
  · iexists _; isplitl [Ho2]; · iexact Ho2
    ipureintro; exact ac_read c U R M 2 C hC o2
  isplitl [Ho3]
  · iexists _; isplitl [Ho3]; · iexact Ho3
    ipureintro; exact ac_read c U R M 3 C hC o3
  isplitl [Ho4]
  · iexists _; isplitl [Ho4]; · iexact Ho4
    ipureintro; exact ac_read c U R M 4 C hC o4
  isplitl [Ho5]
  · iexists _; isplitl [Ho5]; · iexact Ho5
    ipureintro; exact ac_read c U R M 5 C hC o5
  isplitl [Ho6]
  · iexists _; isplitl [Ho6]; · iexact Ho6
    ipureintro; exact ac_read c U R M 6 C hC o6
  isplitl [HF_src0 HF_src1 Hhome]
  · iapply (homes_all c XG XP)
    isplitl [HF_src0]; · iexact HF_src0
    isplitl [HF_src1]; · iexact HF_src1
    iexact Hhome
  isplitr [HW]
  · isplitl [HF_dst0]; · iexists _; iexact HF_dst0
    isplitl [HF_dst1]; · iexists _; iexact HF_dst1
    isplitl [Hw10]; · iexists _; iexact Hw10
    isplitl [Hw11]; · iexists _; iexact Hw11
    isplitl [Ha]; · iexists _; iexact Ha
    isplitl [Hb]; · iexists _; iexact Hb
    isplitl [HC0 HC1 HC2 HC3 HC4 HC5 HC6]
    · iexists C
      iapply (ofSlots c C)
      isplitl [HC0]; · iexact HC0
      isplitl [HC1]; · iexact HC1
      isplitl [HC2]; · iexact HC2
      isplitl [HC3]; · iexact HC3
      isplitl [HC4]; · iexact HC4
      isplitl [HC5]; · iexact HC5
      iexact HC6
    isplitl [HA]; · iexists _; iexact HA
    isplitl [HB]; · iexists _; iexact HB
    isplitl [HH]; · iexists _; iexact HH
    isplitl [HF]; · iexact HF
    isplitl [Hc1]; · iexact Hc1
    isplitl [Hd0]; · iexact Hd0
    iexact Hd1
  iexists _; iexact HW
end Body
end Cert.Proof.GateUp
end
-- ==== Proof.GuLaunch.lean ====
/-
  The launch of the gate and up projections: the run of the whole program, from the run of the body. The weights enter as
  their seven row blocks, the codes leave as their seven column blocks. (Same text for both printed programs.)
-/
module

public import proofs.«01_k».proof.Proof.GuBody

@[expose] public section

noncomputable section

namespace Cert.Proof.GateUp

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The state at launch. -/
abbrev s₀ : MemSt nD τ sig (Elt F) := ⟨m, fun _ => 0, ρ⟩
/-- A buffer's contents after the host operations. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
set_option maxHeartbeats 800000 in
theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The weights', as their row blocks read them. -/
abbrev XG (c : Dev nD) : Buf (Elt F) (wgM.view.loc (c : Thread nD τ)) := V m c main_arg3
abbrev XP (c : Dev nD) : Buf (Elt F) (wuM.view.loc (c : Thread nD τ)) := V m c main_arg5

/-! ## The kernel's own semaphores -/

abbrev osem : Fin 4 → SemLoc sig := fun | 0 => .dma (gsm 0).sem | 1 => .dma (gsm 1).sem | 2 => .dma (csm 0).sem | 3 => .dma (csm 1).sem
theorem ownSemFacts : Pipeline.OwnSemFacts spec0 osem := by decide

/-! ## Element sets of the blocks and of the slots -/

abbrev sOf (q : Fin 4) : Fin 2 := ![0, 0, 1, 1] q
abbrev pOf (q : Fin 4) : Fin 2 := ![0, 1, 0, 1] q
abbrev WB (b : Fin 7) : Finset S7168x2304.Idx := (Rect.unit (s := S7168x2304) (rowOff b) S1024x2304.size (wrow_inb b)).set
abbrev OB (b : Fin 7) : Finset S256x7168.Idx := (Rect.unit (s := S256x7168) (colOff b) S256x1024.size (ocol_inb b)).set
abbrev GS (q : Fin 4) : Finset S2x2x1024x2304.Idx := (Rect.unit (s := S2x2x1024x2304) (gOff (sOf q) (pOf q)) S1x1x1024x2304.size (gslot_inb (sOf q) (pOf q))).set
abbrev AS (s : Fin 2) : Finset S2x256x1024.Idx := (Rect.unit (s := S2x256x1024) (slotOff s) S1x256x1024.size (aslot_inb s)).set

theorem wgblk_set (b : Fin 7) : (wgblk b).view.set = WB b := View.set_slice_whole _ _
theorem wublk_set (b : Fin 7) : (wublk b).view.set = WB b := View.set_slice_whole _ _
theorem oblk_set (b : Fin 7) : (oblk b).view.set = OB b := View.set_slice_whole _ _
theorem gslot_set (q : Fin 4) : (gslot (sOf q) (pOf q)).view.set = GS q := (View.set_reshape _ _).trans (View.set_slice_whole _ _)
theorem aslot_set (s : Fin 2) : (aslot s).view.set = AS s := (View.set_reshape _ _).trans (View.set_slice_whole _ _)

theorem mem_WB (b : Fin 7) (y : S7168x2304.Idx) : y ∈ WB b ↔ (y 0).val / 1024 = b.val := by
  rw [Rect.mem_set_unit]
  have h1 : (y 1).val < 2304 := (y 1).isLt
  constructor
  · intro H; have a1 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 2304; omega
theorem mem_OB (b : Fin 7) (y : S256x7168.Idx) : y ∈ OB b ↔ (y 1).val / 1024 = b.val := by
  rw [Rect.mem_set_unit]
  have h0 : (y 0).val < 256 := (y 0).isLt
  constructor
  · intro H; have a1 : 1024 * b.val ≤ (y 1).val ∧ (y 1).val < 1024 * b.val + 1024 := H 1; omega
  · intro H i; fin_cases i
    · show 0 ≤ (y 0).val ∧ (y 0).val < 0 + 256; omega
    · show 1024 * b.val ≤ (y 1).val ∧ (y 1).val < 1024 * b.val + 1024; omega
theorem sOf_val : ∀ q : Fin 4, (sOf q).val = q.val / 2 := by decide
theorem pOf_val : ∀ q : Fin 4, (pOf q).val = q.val % 2 := by decide
theorem mem_GS (q : Fin 4) (y : S2x2x1024x2304.Idx) : y ∈ GS q ↔ 2 * (y 0).val + (y 1).val = q.val := by
  rw [Rect.mem_set_unit]
  have h0 : (y 0).val < 2 := (y 0).isLt
  have h1 : (y 1).val < 2 := (y 1).isLt
  have h2 : (y 2).val < 1024 := (y 2).isLt
  have h3 : (y 3).val < 2304 := (y 3).isLt
  have es := sOf_val q
  have ep := pOf_val q
  constructor
  · intro H
    have a0 : (sOf q).val ≤ (y 0).val ∧ (y 0).val < (sOf q).val + 1 := H 0
    have a1 : (pOf q).val ≤ (y 1).val ∧ (y 1).val < (pOf q).val + 1 := H 1
    omega
  · intro H i; fin_cases i
    · show (sOf q).val ≤ (y 0).val ∧ (y 0).val < (sOf q).val + 1; omega
    · show (pOf q).val ≤ (y 1).val ∧ (y 1).val < (pOf q).val + 1; omega
    · show 0 ≤ (y 2).val ∧ (y 2).val < 0 + 1024; omega
    · show 0 ≤ (y 3).val ∧ (y 3).val < 0 + 2304; omega
theorem mem_AS (s : Fin 2) (y : S2x256x1024.Idx) : y ∈ AS s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega

theorem WB_disjoint : ∀ b b' : Fin 7, b ≠ b' → Disjoint (WB b) (WB b') := by
  intro b b' hne; rw [Finset.disjoint_left]; intro y hy hy'; rw [mem_WB] at hy hy'; exact hne (Fin.ext (hy.symm.trans hy'))
theorem WB_cover : (Finset.univ : Finset (Fin 7)).biUnion WB = Finset.univ := by
  ext y; simp only [Finset.mem_biUnion, Finset.mem_univ, true_and, iff_true]
  have h : (y 0).val < 7168 := (y 0).isLt
  exact ⟨⟨(y 0).val / 1024, by omega⟩, by rw [mem_WB]⟩
theorem OB_disjoint : ∀ b b' : Fin 7, b ≠ b' → Disjoint (OB b) (OB b') := by
  intro b b' hne; rw [Finset.disjoint_left]; intro y hy hy'; rw [mem_OB] at hy hy'; exact hne (Fin.ext (hy.symm.trans hy'))
theorem OB_cover : (Finset.univ : Finset (Fin 7)).biUnion OB = Finset.univ := by
  ext y; simp only [Finset.mem_biUnion, Finset.mem_univ, true_and, iff_true]
  have h : (y 1).val < 7168 := (y 1).isLt
  exact ⟨⟨(y 1).val / 1024, by omega⟩, by rw [mem_OB]⟩
theorem GS_disjoint : ∀ b b' : Fin 4, b ≠ b' → Disjoint (GS b) (GS b') := by
  intro b b' hne; rw [Finset.disjoint_left]; intro y hy hy'; rw [mem_GS] at hy hy'; exact hne (Fin.ext (hy.symm.trans hy'))
theorem GS_cover : (Finset.univ : Finset (Fin 4)).biUnion GS = Finset.univ := by
  ext y; simp only [Finset.mem_biUnion, Finset.mem_univ, true_and, iff_true]
  have h : (y 0).val < 2 := (y 0).isLt
  have h' : (y 1).val < 2 := (y 1).isLt
  exact ⟨⟨2 * (y 0).val + (y 1).val, by omega⟩, by rw [mem_GS]⟩
theorem AS_disjoint : ∀ b b' : Fin 2, b ≠ b' → Disjoint (AS b) (AS b') := by
  intro b b' hne; rw [Finset.disjoint_left]; intro y hy hy'; rw [mem_AS] at hy hy'; exact hne (Fin.ext (hy.symm.trans hy'))
theorem AS_cover : (Finset.univ : Finset (Fin 2)).biUnion AS = Finset.univ := by
  ext y; simp only [Finset.mem_biUnion, Finset.mem_univ, true_and, iff_true]
  have h : (y 0).val < 2 := (y 0).isLt
  exact ⟨⟨(y 0).val, h⟩, by rw [mem_AS]⟩
omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The weights whole are their seven row blocks; -/
theorem w_eq (c : Dev nD) :
    (iprop((((c : Thread nD τ).loc main_arg3) ↦{fullShare} V m c main_arg3) ∗ (((c : Thread nD τ).loc main_arg5) ↦{fullShare} V m c main_arg5)) : sProp 𝕄)
      = bigSep Finset.univ (homeP c (XG m c) (XP m c)) := by
  rw [Ring.pointsTo_blocks (ℓ := (c : Thread nD τ).loc main_arg3) WB WB_disjoint WB_cover,
    Ring.pointsTo_blocks (ℓ := (c : Thread nD τ).loc main_arg5) WB WB_disjoint WB_cover]
  refine (BI.bigSep_sep _ _ _).symm.trans ?_
  exact bigSep_congr fun b _ => by unfold homeP; rw [← wgblk_set]; rfl
/-- at the body's entry, blocks 0 and 1 apart from the rest. -/
theorem homes_zero (c : Dev nD) (XG : Buf (Elt F) (wgM.view.loc (c : Thread nD τ))) (XP : Buf (Elt F) (wuM.view.loc (c : Thread nD τ))) :
    bigSep Finset.univ (homeP c XG XP) = iprop((homeG c XG 0 ∗ homeU c XP 0) ∗ (homeG c XG 1 ∗ homeU c XP 1) ∗ bigSep (Ring.homeSet 2 0) (homeP c XG XP)) := by
  have e : (Finset.univ : Finset (Fin 7)) = insert 0 (insert 1 (Ring.homeSet (NB := 7) 2 0)) := by decide +kernel
  rw [e, bigSep_insert (by decide +kernel), bigSep_insert (by decide +kernel)]; rfl

/-- The codes' array whole is its seven column blocks not yet written. -/
theorem o_split (c : Dev nD) :
    (((c : Thread nD τ).loc main_v6_0) ↦{fullShare} V m c main_v6_0 : sProp 𝕄) ⊢ bigSep Finset.univ (freshB (F := F) c) := by
  rw [Ring.pointsTo_blocks (ℓ := (c : Thread nD τ).loc main_v6_0) OB OB_disjoint OB_cover]
  refine bigSep_mono fun b _ => ?_
  rw [← oblk_set]
  show oblkP c b _ ⊢ iprop(∃ g, oblkP c b g)
  iintro H; iexists _; iexact H

theorem gslotP_eq (c : Dev nD) (q : Fin 4) (f) : gslotP (F := F) c (sOf q) (pOf q) f = (((c : Thread nD τ).loc cc0_scratch1) ↦[GS q]{fullShare} f : sProp 𝕄) :=
  congrArg (fun S => (_ ↦[S]{fullShare} f : sProp 𝕄)) (gslot_set q)
theorem aslotP_eq (c : Dev nD) (s : Fin 2) (f) : aslotP (F := F) c s f = (((c : Thread nD τ).loc cc0_scratch2) ↦[AS s]{fullShare} f : sProp 𝕄) :=
  congrArg (fun S => (_ ↦[S]{fullShare} f : sProp 𝕄)) (aslot_set s)

/-- The two buffers whole are their slots, and back. -/
theorem gbuf_split (c : Dev nD) :
    iprop(∃ f : Buf (Elt F) ((c : Thread nD τ).loc cc0_scratch1), ((c : Thread nD τ).loc cc0_scratch1) ↦{fullShare} f)
      ⊢ (iprop((∃ f, gslotP c 0 0 f) ∗ (∃ f, gslotP c 0 1 f) ∗ (∃ f, gslotP c 1 0 f) ∗ ∃ f, gslotP c 1 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) GS GS_disjoint GS_cover f).trans (bigSep_fin4 _))) $$ H
  icases H2 with ⟨H0, H1, H2, H3⟩
  isplitl [H0]
  · iexists f; iapply (entails_of_eq (gslotP_eq c 0 f).symm); iexact H0
  isplitl [H1]
  · iexists f; iapply (entails_of_eq (gslotP_eq c 1 f).symm); iexact H1
  isplitl [H2]
  · iexists f; iapply (entails_of_eq (gslotP_eq c 2 f).symm); iexact H2
  · iexists f; iapply (entails_of_eq (gslotP_eq c 3 f).symm); iexact H3
theorem gbuf_join (c : Dev nD) :
    iprop((∃ f, gslotP c 0 0 f) ∗ (∃ f, gslotP c 0 1 f) ∗ (∃ f, gslotP c 1 0 f) ∗ ∃ f, gslotP c 1 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) GS GS_disjoint GS_cover f0)
  irw [bigSep_fin4]
  isplitl [H0]
  · iexists f0; iapply (entails_of_eq (gslotP_eq c 0 f0)); iexact H0
  isplitl [H1]
  · iexists f1; iapply (entails_of_eq (gslotP_eq c 1 f1)); iexact H1
  isplitl [H2]
  · iexists f2; iapply (entails_of_eq (gslotP_eq c 2 f2)); iexact H2
  · iexists f3; iapply (entails_of_eq (gslotP_eq c 3 f3)); iexact H3
theorem abuf_split (c : Dev nD) :
    iprop(∃ f : Buf (Elt F) ((c : Thread nD τ).loc cc0_scratch2), ((c : Thread nD τ).loc cc0_scratch2) ↦{fullShare} f)
      ⊢ (iprop((∃ f, aslotP c 0 f) ∗ ∃ f, aslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) AS AS_disjoint AS_cover f).trans (bigSep_fin2 _))) $$ H
  icases H2 with ⟨H0, H1⟩
  isplitl [H0]
  · iexists f; iapply (entails_of_eq (aslotP_eq c 0 f).symm); iexact H0
  · iexists f; iapply (entails_of_eq (aslotP_eq c 1 f).symm); iexact H1
theorem abuf_join (c : Dev nD) :
    iprop((∃ f, aslotP c 0 f) ∗ ∃ f, aslotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) AS AS_disjoint AS_cover f0)
  irw [bigSep_fin2]
  isplitl [H0]
  · iexists f0; iapply (entails_of_eq (aslotP_eq c 0 f0)); iexact H0
  · iexists f1; iapply (entails_of_eq (aslotP_eq c 1 f1)); iexact H1

omit [FloatOps F] in
/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = iprop(gcellP c 0 ∗ gcellP c 1 ∗ ccellP c 0 ∗ ccellP c 1) := by
  unfold Pipeline.ownSems0; rw [bigSep_fin4]

/-! ## The pipeline's proof data -/

abbrev st0 (t : Fin cfg0.N) : Memref sig .tc .vmem S56x256x128 .f32 := win0_0.stage (cfg0.slots t 0)
abbrev hst0 (t : Fin cfg0.N) : (st0 t).IsWhole := hstage0_0 0
abbrev st1 (t : Fin cfg0.N) : Memref sig .tc .vmem S256x128 .f32 := win0_1.stage (cfg0.slots t 1)
abbrev hst1 (t : Fin cfg0.N) : (st1 t).IsWhole := hstage0_1 0
abbrev st2 (t : Fin cfg0.N) : Memref sig .tc .vmem S56x128 .f32 := win0_2.stage (cfg0.slots t 2)
abbrev hst2 (t : Fin cfg0.N) : (st2 t).IsWhole := hstage0_2 0
abbrev st3 (t : Fin cfg0.N) : Memref sig .tc .smem S18x56 .f32 := win0_3.stage (cfg0.slots t 3)
abbrev hst3 (t : Fin cfg0.N) : (st3 t).IsWhole := hstage0_3 0
abbrev st4 (t : Fin cfg0.N) : Memref sig .tc .smem S18x56 .f32 := win0_4.stage (cfg0.slots t 4)
abbrev hst4 (t : Fin cfg0.N) : (st4 t).IsWhole := hstage0_4 0
abbrev st5 (t : Fin cfg0.N) : Memref sig .tc .vmem S2x56x128 .f32 := win0_5.stage (cfg0.slots t 5)
abbrev hst5 (t : Fin cfg0.N) : (st5 t).IsWhole := hstage0_5 0
abbrev st6 (t : Fin cfg0.N) : Memref sig .tc .vmem S18x2x128 .f32 := win0_6.stage (cfg0.slots t 6)
abbrev hst6 (t : Fin cfg0.N) : (st6 t).IsWhole := hstage0_6 0
abbrev st7 (t : Fin cfg0.N) : Memref sig .tc .vmem S256x2304 .bf16 := win0_7.stage (cfg0.slots t 7)
abbrev hst7 (t : Fin cfg0.N) : (st7 t).IsWhole := hstage0_7 0

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body reads: the rows, the inverse norms, the norm's weights, the weights and their scales. -/
def uB (c : Dev nD) : Vec F S56x256x128 .f32 := iblk m c 0 t0_0
def rB (c : Dev nD) : Vec F S256x128 .f32 := iblk m c 1 t0_0
def mB (c : Dev nD) : Vec F S56x128 .f32 := iblk m c 2 t0_0
def sgB (c : Dev nD) : Vec F S18x56 .f32 := iblk m c 3 t0_0
def suB (c : Dev nD) : Vec F S18x56 .f32 := iblk m c 4 t0_0
def wgB (c : Dev nD) : Vec F S7168x2304 .fp8e4m3 := wgM.view.read (Elt F) (XG m c)
def wuB (c : Dev nD) : Vec F S7168x2304 .fp8e4m3 := wuM.view.read (Elt F) (XP m c)
abbrev Xu (c : Dev nD) : Buf (Elt F) ((st0 t0_0).view.loc (c : Thread nD τ)) := (st0 t0_0).view.rep (uB m c)
abbrev Xr (c : Dev nD) : Buf (Elt F) ((st1 t0_0).view.loc (c : Thread nD τ)) := (st1 t0_0).view.rep (rB m c)
abbrev Xm (c : Dev nD) : Buf (Elt F) ((st2 t0_0).view.loc (c : Thread nD τ)) := (st2 t0_0).view.rep (mB m c)
abbrev Xsg (c : Dev nD) : Buf (Elt F) ((st3 t0_0).view.loc (c : Thread nD τ)) := (st3 t0_0).view.rep (sgB m c)
abbrev Xsu (c : Dev nD) : Buf (Elt F) ((st4 t0_0).view.loc (c : Thread nD τ)) := (st4 t0_0).view.rep (suB m c)
/-- A buffer held whole is the whole memref's elements. -/
theorem whole_in (c : Dev nD) (b : Ref sig .tc) (f : Buf (Elt F) ((c : Thread nD τ).loc b)) :
    (((c : Thread nD τ).loc b) ↦{fullShare} f : sProp 𝕄) ⊢ (((c : Thread nD τ).loc b) ↦[(View.whole b).set]{fullShare} f : sProp 𝕄) :=
  entails_of_eq (congrArg (fun S => (((c : Thread nD τ).loc b) ↦[S]{fullShare} f : sProp 𝕄)) (View.set_whole b).symm)
theorem whole_out (c : Dev nD) (b : Ref sig .tc) (f : Buf (Elt F) ((c : Thread nD τ).loc b)) :
    (((c : Thread nD τ).loc b) ↦[(View.whole b).set]{fullShare} f : sProp 𝕄) ⊢ (((c : Thread nD τ).loc b) ↦{fullShare} f : sProp 𝕄) :=
  entails_of_eq (congrArg (fun S => (((c : Thread nD τ).loc b) ↦[S]{fullShare} f : sProp 𝕄)) (View.set_whole b))

/-- The five results. -/
def rAs (c : Dev nD) : S2x56x128.Idx → Elt F .f32 := asS (uB m c) (rB m c) (mB m c)
def rHs (c : Dev nD) : S18x2x128.Idx → Elt F .f32 := hsS (uB m c) (rB m c) (mB m c) (wgB m c) (wuB m c) (sgB m c) (suB m c)
def rHd (c : Dev nD) : S256x2304.Idx → Elt F .bf16 := hdS (uB m c) (rB m c) (mB m c) (wgB m c) (wuB m c) (sgB m c) (suB m c)
def rHc (c : Dev nD) : S256x2304.Idx → Elt F .fp8e4m3 := hcS (uB m c) (rB m c) (mB m c) (wgB m c) (wuB m c) (sgB m c) (suB m c)
def rAc (c : Dev nD) : S256x7168.Idx → Elt F .fp8e4m3 := acS (uB m c) (rB m c) (mB m c)
abbrev gAc (c : Dev nD) : Buf (Elt F) ((c : Thread nD τ).loc main_v6_0) := rAc m c
abbrev gHc (c : Dev nD) : Buf (Elt F) ((c : Thread nD τ).loc main_v6_2) := rHc m c

/-- The column blocks of the codes, written. -/
abbrev doneP (c : Dev nD) (b : Fin 7) : sProp 𝕄 := doneB c (uB m c) (rB m c) (mB m c) b
abbrev donesP (c : Dev nD) : sProp 𝕄 := bigSep Finset.univ (doneP m c)

/-- Where element `y` of column block `b` lies. -/
abbrev oemb (b : Fin 7) (y : S256x1024.Idx) : S256x7168.Idx := (oblk b).view.emb y
/-- A written block holds the codes' elements. -/
theorem ac_block (c : Dev nD) (b : Fin 7) (g : Buf (Elt F) ((oblk b).view.loc (c : Thread nD τ)))
    (e : (oblk b).view.read (Elt F) g = acB (uB m c) (rB m c) (mB m c) b) (i : S256x7168.Idx) (hi : i ∈ OB b) : (g : S256x7168.Idx → Elt F .fp8e4m3) i = gAc m c i := by
  rw [← oblk_set] at hi
  obtain ⟨y, -, rfl⟩ := Finset.mem_map.mp hi
  have h0 : (oemb b y 0).val = 0 + (y 0).val := ValueKit.view_emb_slice_whole_unit_val main_v6_0 (colOff b) S256x1024.size (ocol_inb b) y 0
  have h1 : (oemb b y 1).val = 1024 * b.val + (y 1).val := ValueKit.view_emb_slice_whole_unit_val main_v6_0 (colOff b) S256x1024.size (ocol_inb b) y 1
  have hy : (y 1).val < 1024 := (y 1).isLt
  have hb := b.isLt
  refine (congrFun e y).trans ?_
  have e1 : laneOf b (hi8 (y 1 : Fin 1024)) = (⟨(oemb b y 1).val / 128, by have : (oemb b y 1).val < 7168 := (oemb b y 1).isLt; omega⟩ : Fin 56) :=
    Fin.ext (by show 8 * b.val + (y 1).val / 128 = (oemb b y 1).val / 128; rw [h1]; omega)
  have e2 : ix2 (y 0 : Fin 256) (lo8 (y 1 : Fin 1024)) = ix2 (oemb b y 0 : Fin 256) (⟨(oemb b y 1).val % 128, Nat.mod_lt _ (by decide)⟩ : Fin 128) := by
    have a0 : (y 0 : Fin 256) = (oemb b y 0 : Fin 256) := Fin.ext (by show (y 0).val = (oemb b y 0).val; rw [h0, Nat.zero_add])
    have a1 : lo8 (y 1 : Fin 1024) = (⟨(oemb b y 1).val % 128, Nat.mod_lt _ (by decide)⟩ : Fin 128) := Fin.ext (by show (y 1).val % 128 = (oemb b y 1).val % 128; rw [h1]; omega)
    exact congrArg₂ ix2 a0 a1
  show codv (laneY (uB m c) (rB m c) (mB m c) (laneOf b (hi8 (y 1 : Fin 1024)))) (ix2 (y 0 : Fin 256) (lo8 (y 1 : Fin 1024))) = _
  exact (congrArg (codv (laneY (uB m c) (rB m c) (mB m c) (laneOf b (hi8 (y 1 : Fin 1024))))) e2).trans (congrArg (fun q => codv (laneY (uB m c) (rB m c) (mB m c) q) _) e1)

/-- The seven blocks written are the codes' array whole. -/
theorem o_join (c : Dev nD) : donesP m c ⊢ (((c : Thread nD τ).loc main_v6_0) ↦{fullShare} gAc m c : sProp 𝕄) := by
  rw [Ring.pointsTo_blocks (ℓ := (c : Thread nD τ).loc main_v6_0) OB OB_disjoint OB_cover]
  refine bigSep_mono fun b _ => ?_
  show iprop(∃ g, oblkP c b g ∗ ⌜(oblk b).view.read (Elt F) g = acB (uB m c) (rB m c) (mB m c) b⌝) ⊢ (((c : Thread nD τ).loc main_v6_0) ↦[OB b]{fullShare} gAc m c : sProp 𝕄)
  iintro ⟨%g, H, %e⟩
  iapply (show oblkP c b g ⊢ (((c : Thread nD τ).loc main_v6_0) ↦[OB b]{fullShare} gAc m c : sProp 𝕄) from
    entails_of_eq ((congrArg (fun S => (((c : Thread nD τ).loc main_v6_0) ↦[S]{fullShare} g : sProp 𝕄)) (oblk_set b)).trans
    (pointsTo_congr (ac_block m c b g e))))
  iexact H
theorem hc_join (c : Dev nD) : iprop(∃ f, hcP c f ∗ ⌜hcM.view.read (Elt F) f = rHc m c⌝) ⊢ (((c : Thread nD τ).loc main_v6_2) ↦{fullShare} gHc m c : sProp 𝕄) := by
  iintro ⟨%f, H, %e⟩
  obtain rfl : f = gHc m c := e
  iapply (whole_out c main_v6_2 (gHc m c)); iexact H

/-- The region's resources before the one point (the results not written) and after it (written). -/
def Φ (c : Dev nD) (n : Fin (cfg0.N + 1)) : sProp 𝕄 :=
  iprop(bigSep Finset.univ (homeP c (XG m c) (XP m c))
    ∗ (if n.val = 0 then iprop(bigSep Finset.univ (freshB (F := F) c) ∗ ∃ f, hcP c f) else iprop(donesP m c ∗ ∃ f, hcP c f ∗ ⌜hcM.view.read (Elt F) f = rHc m c⌝)) ∗ restP c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rAs m c
    | ⟨6, _⟩ => rHs m c
    | ⟨7, _⟩ => rHd m c
  Φ n := Φ m c n
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem after_w5 (c : Dev nD) (t : Fin cfg0.N) : (dats m 0 c).after 5 t = rAs m c := by dsimp only [dats]
theorem after_w6 (c : Dev nD) (t : Fin cfg0.N) : (dats m 0 c).after 6 t = rHs m c := by dsimp only [dats]
theorem after_w7 (c : Dev nD) (t : Fin cfg0.N) : (dats m 0 c).after 7 t = rHd m c := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) (st4 t) (hst4 t) (st5 t) (hst5 t) (st6 t) (hst6 t) (st7 t) (hst7 t) :=
  (congrFun defs_tc _).trans rfl

theorem Φ_before (c : Dev nD) : Φ m c (t0_0 : Fin cfg0.N).castSucc = iprop(bigSep Finset.univ (homeP c (XG m c) (XP m c)) ∗ (bigSep Finset.univ (freshB (F := F) c) ∗ ∃ f, hcP c f) ∗ restP c) := by
  unfold Φ; rw [if_pos (by rfl)]
theorem Φ_after (c : Dev nD) : Φ m c (t0_0 : Fin cfg0.N).succ = iprop(bigSep Finset.univ (homeP c (XG m c) (XP m c)) ∗ (donesP m c ∗ ∃ f, hcP c f ∗ ⌜hcM.view.read (Elt F) f = rHc m c⌝) ∗ restP c) := by
  unfold Φ; rw [if_neg (by decide)]

set_option backward.isDefEq.respectTransparency.types false in
set_option maxHeartbeats 1000000 in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, before_w4, after_w0, after_w1, after_w2, after_w3, after_w4, after_w5, after_w6, after_w7]
  rw [show (dats m 0 c).Φ (t0_0 : Fin cfg0.N).castSucc = Φ m c (t0_0 : Fin cfg0.N).castSucc from rfl, show (dats m 0 c).Φ (t0_0 : Fin cfg0.N).succ = Φ m c (t0_0 : Fin cfg0.N).succ from rfl, Φ_before, Φ_after]
  unfold Dat.owesAt Pipeline.owesWithin
  rw [show (dats m 0 c).owed (t0_0 : Fin cfg0.N).castSucc = 0 from rfl, show (dats m 0 c).owed (t0_0 : Fin cfg0.N).succ = 0 from rfl]
  unfold owns
  iintro ⟨⟨Hh, ⟨Hf, Hhc⟩, HR⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩
  ihave Hg := (entails_of_eq (homes_zero c (XG m c) (XP m c))) $$ Hh
  icases Hg with ⟨Hg0, Hg1, Hg⟩
  ihave Hfs := (entails_of_eq (bigSep_fin7 _)) $$ Hf
  icases Hfs with ⟨Hf0, Hf1, Hf2, Hf3, Hf4, Hf5, Hf6⟩
  ihave K0 := (pointsTo_rep_entails (c : Thread nD τ) (st0 t0_0) g0 fullShare) $$ H0
  rw [hg0]
  ihave K1 := (pointsTo_rep_entails (c : Thread nD τ) (st1 t0_0) g1 fullShare) $$ H1
  rw [hg1]
  ihave K2 := (pointsTo_rep_entails (c : Thread nD τ) (st2 t0_0) g2 fullShare) $$ H2
  rw [hg2]
  ihave K3 := (pointsTo_rep_entails (c : Thread nD τ) (st3 t0_0) g3 fullShare) $$ H3
  rw [hg3]
  ihave K4 := (pointsTo_rep_entails (c : Thread nD τ) (st4 t0_0) g4 fullShare) $$ H4
  rw [hg4]
  sl_rw [prog_eq t0_0]
  iapply (bodyRun c (XG m c) (XP m c) (st0 t0_0) (hst0 t0_0) (st1 t0_0) (hst1 t0_0) (st2 t0_0) (hst2 t0_0) (st3 t0_0) (hst3 t0_0) (st4 t0_0) (hst4 t0_0) (st5 t0_0) (hst5 t0_0) (st6 t0_0) (hst6 t0_0) (st7 t0_0) (hst7 t0_0) (Xu m c) (Xr m c) (Xm m c) (Xsg m c) (Xsu m c) (uB m c) (rB m c) (mB m c) (wgB m c) (wuB m c) (sgB m c) (suB m c)
    (View.read_rep _ _) (View.read_rep _ _) (View.read_rep _ _) (View.read_rep _ _) (View.read_rep _ _) rfl rfl W)
  isplitl [K0 K1 K2 K3 K4 H5 H6 H7 Hhc Hf0 Hf1 Hf2 Hf3 Hf4 Hf5 Hf6 Hg0 Hg1 Hg HR HW]
  · isplitl [K0 K1 K2 K3 K4]
    · isplitl [K0]; · iexact K0
      isplitl [K1]; · iexact K1
      isplitl [K2]; · iexact K2
      isplitl [K3]; · iexact K3
      iexact K4
    isplitl [H5]; · iexists g5; iexact H5
    isplitl [H6]; · iexists g6; iexact H6
    isplitl [H7]; · iexists g7; iexact H7
    isplitl [Hhc]; · iexact Hhc
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hg0]; · iexact Hg0
    isplitl [Hg1]; · iexact Hg1
    isplitl [Hg]; · iexact Hg
    isplitl [HR]; · iexact HR
    iexact HW
  · iintro ⟨⟨K0, K1, K2, K3, K4⟩, ⟨%f5, H5, %e5⟩, ⟨%f6, H6, %e6⟩, ⟨%f7, H7, %e7⟩, Hhc, Hf0, Hf1, Hf2, Hf3, Hf4, Hf5, Hf6, Hg, HR, ⟨%W', HW⟩⟩
    isplitl [Hg Hhc Hf0 Hf1 Hf2 Hf3 Hf4 Hf5 Hf6 HR]
    · isplitl [Hg]; · iexact Hg
      isplitr [HR]
      · isplitr [Hhc]
        · iapply (entails_of_eq (bigSep_fin7 (doneP m c)).symm)
          isplitl [Hf0]; · iexact Hf0
          isplitl [Hf1]; · iexact Hf1
          isplitl [Hf2]; · iexact Hf2
          isplitl [Hf3]; · iexact Hf3
          isplitl [Hf4]; · iexact Hf4
          isplitl [Hf5]; · iexact Hf5
          iexact Hf6
        iexact Hhc
      iexact HR
    isplitl [HW]
    · iexists W'; isplitr; · ipureintro; exact fun _ _ => Or.inl trivial
      iexact HW
    isplitl [K0]
    · iexists _; isplitr; · ipureintro; exact View.read_rep _ _
      iexact K0
    isplitl [K1]
    · iexists _; isplitr; · ipureintro; exact View.read_rep _ _
      iexact K1
    isplitl [K2]
    · iexists _; isplitr; · ipureintro; exact View.read_rep _ _
      iexact K2
    isplitl [K3]
    · iexists _; isplitr; · ipureintro; exact View.read_rep _ _
      iexact K3
    isplitl [K4]
    · iexists _; isplitr; · ipureintro; exact View.read_rep _ _
      iexact K4
    isplitl [H5]
    · iexists f5; isplitr; · ipureintro; exact e5
      iexact H5
    isplitl [H6]
    · iexists f6; isplitr; · ipureintro; exact e6
      iexact H6
    iexists f7; isplitr; · ipureintro; exact e7
    iexact H7

/-! ## The run -/

def intoΦ (c : Dev nD) : sProp 𝕄 := iprop((bigSep Finset.univ (homeP c (XG m c) (XP m c)) ∗ bigSep Finset.univ (freshB (F := F) c) ∗ ∃ f, hcP c f) ∗ Pipeline.ownSems0 osem c)
def outOfΦ (c : Dev nD) : sProp 𝕄 :=
  iprop(((((c : Thread nD τ).loc main_arg3) ↦{fullShare} V m c main_arg3) ∗ (((c : Thread nD τ).loc main_arg5) ↦{fullShare} V m c main_arg5))
    ∗ (((c : Thread nD τ).loc main_v6_0) ↦{fullShare} gAc m c) ∗ ((c : Thread nD τ).loc main_v6_2) ↦{fullShare} gHc m c)
def heldP (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg4) ↦{fullShare} V m c main_arg4) ∗ (((c : Thread nD τ).loc main_arg6) ↦{fullShare} V m c main_arg6))
def u₀ : UU nD τ := (initOf (Pipeline.cells cfgs Cert.GateUp.Gen.cellOf_inj) (Pipeline.launchToks cfgs Cert.GateUp.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_v6_0) = gAc m c ∧ s.mem ((c : Thread nD τ).loc main_v6_2) = gHc m c
  ∧ s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6
def QC : PUnit × MemSt nD τ sig (Elt F) → Prop := fun r =>
  ∀ c : Dev nD, (∀ w : Fin cfg0.W, r.2.mem ((cfg0.win w).arr.view.loc (c : Thread nD τ)) = finalA m c w) ∧ QY m c r.2

theorem rest_mk (c : Dev nD) :
    iprop((gcellP c 0 ∗ gcellP c 1 ∗ ccellP c 0 ∗ ccellP c 1)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)) ⊢ (restP c : sProp 𝕄) := by
  iintro ⟨⟨Hc0, Hc1, Hc2, Hc3⟩, ⟨%f0, H0⟩, Hw, Ha, ⟨%f3, H3⟩, ⟨%f4, H4⟩, ⟨%f5, H5⟩⟩
  ihave Hw' := (gbuf_split c) $$ Hw
  ihave Ha' := (abuf_split c) $$ Ha
  icases Hw' with ⟨G0, G1, G2, G3⟩
  icases Ha' with ⟨A0, A1⟩
  isplitl [G0]; · iexact G0
  isplitl [G1]; · iexact G1
  isplitl [G2]; · iexact G2
  isplitl [G3]; · iexact G3
  isplitl [A0]; · iexact A0
  isplitl [A1]; · iexact A1
  isplitl [H3]
  · iexists f3; iapply (whole_in c cc0_scratch3 f3); iexact H3
  isplitl [H0]
  · iexists f0; iapply (whole_in c cc0_scratch0 f0); iexact H0
  isplitl [H4]
  · iexists f4; iapply (whole_in c cc0_scratch4 f4); iexact H4
  isplitl [H5]
  · iexists f5; iapply (whole_in c cc0_scratch5 f5); iexact H5
  isplitl [Hc0]; · iexact Hc0
  isplitl [Hc1]; · iexact Hc1
  isplitl [Hc2]; · iexact Hc2
  iexact Hc3
theorem rest_un (c : Dev nD) :
    (restP c : sProp 𝕄) ⊢ iprop((gcellP c 0 ∗ gcellP c 1 ∗ ccellP c 0 ∗ ccellP c 1)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)) := by
  iintro ⟨G0, G1, G2, G3, A0, A1, ⟨%f3, H3⟩, ⟨%f0, H0⟩, ⟨%f4, H4⟩, ⟨%f5, H5⟩, Hc0, Hc1, Hc2, Hc3⟩
  isplitl [Hc0 Hc1 Hc2 Hc3]
  · isplitl [Hc0]; · iexact Hc0
    isplitl [Hc1]; · iexact Hc1
    isplitl [Hc2]; · iexact Hc2
    iexact Hc3
  isplitl [H0]
  · iexists f0; iapply (whole_out c cc0_scratch0 f0); iexact H0
  isplitl [G0 G1 G2 G3]
  · iapply (gbuf_join c)
    isplitl [G0]; · iexact G0
    isplitl [G1]; · iexact G1
    isplitl [G2]; · iexact G2
    iexact G3
  isplitl [A0 A1]
  · iapply (abuf_join c)
    isplitl [A0]; · iexact A0
    iexact A1
  isplitl [H3]
  · iexists f3; iapply (whole_out c cc0_scratch3 f3); iexact H3
  isplitl [H4]
  · iexists f4; iapply (whole_out c cc0_scratch4 f4); iexact H4
  iexists f5; iapply (whole_out c cc0_scratch5 f5); iexact H5

set_option backward.isDefEq.respectTransparency.types false in
set_option maxHeartbeats 1000000 in
/-- From any memory with zero counters every weakly fair execution of the program terminates, with the results at the
    values the body computed, the arguments unchanged and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m)
    (hA := fun _ _ => by dsimp only [dats])
    (X := intoΦ m) (Y := outOfΦ m) (Z := heldP m)
    (hX := fun c => by
      rw [unscopedRest0_eq]
      unfold intoΦ heldP
      rw [← w_eq m c]
      iintro ⟨⟨H0, H1, H2, H3, H4, H5, H6, -, HO, HC⟩, HS, -, -, -⟩; imodintro
      isplitl [H3 H5 HO HC HS]
      · isplitl [H3 H5 HO HC]
        · isplitl [H3 H5]
          · isplitl [H3]; · iexact H3
            iexact H5
          isplitl [HO]
          · iapply (o_split m c); iexact HO
          iexists _; iapply (whole_in c main_v6_2 _); iexact HC
        iexact HS
      isplitl [H0]; · iexact H0
      isplitl [H1]; · iexact H1
      isplitl [H2]; · iexact H2
      isplitl [H4]; · iexact H4
      iexact H6)
    (hin := fun c => by
      rw [scopedRest0_eq, show (dats m 0 c).Φ 0 = _ from Φ_before m c]
      unfold intoΦ; rw [ownSems0_eq]
      iintro ⟨⟨⟨H0, H1, H2⟩, HC⟩, Hb⟩
      isplitl [H0]; · iexact H0
      isplitl [H1 H2]
      · isplitl [H1]; · iexact H1
        iexact H2
      iapply (rest_mk c)
      isplitl [HC]; · iexact HC
      iexact Hb)
    (hout := fun c => by
      rw [scopedRest0_eq, show (dats m 0 c).Φ (Fin.last cfg0.N) = _ from Φ_after m c, ownSems0_eq]
      unfold outOfΦ; rw [← w_eq m c]
      iintro ⟨H0, ⟨H1, H2⟩, HR⟩
      isplitl [H0 H1 H2]
      · isplitl [H0]; · iexact H0
        isplitl [H1]
        · iapply (o_join m c); iexact H1
        iapply (hc_join m c); iexact H2
      iapply (rest_un c); iexact HR)
    (QY := QY m)
    (hY := fun c s' => by
      unfold outOfΦ heldP
      iintro ⟨⟨⟨H3, H5⟩, HO, HC⟩, ⟨H0, H1, H2, H4, H6⟩, HSI⟩
      icombine HSI HO gives %ho
      icombine HSI HC gives %hc
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨Buf.eq_of_forall_mem_univ ho, Buf.eq_of_forall_mem_univ hc, Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6⟩
      iexact HSI)
    (hQ := fun _ hh hz => ⟨hh, hz⟩)

theorem final5 (c : Dev nD) : finalA m c 5 = (rAs m c : Buf (Elt F) ((c : Thread nD τ).loc main_v6_1)) := by
  unfold finalA
  refine (dats m 0 c).arrAt_eq_of_after_last 5 t0_0 (by decide +kernel) _ (fun j => ?_)
  rw [after_w5]
  rfl
theorem final6 (c : Dev nD) : finalA m c 6 = (rHs m c : Buf (Elt F) ((c : Thread nD τ).loc main_v6_3)) := by
  unfold finalA
  refine (dats m 0 c).arrAt_eq_of_after_last 6 t0_0 (by decide +kernel) _ (fun j => ?_)
  rw [after_w6]
  rfl
theorem final7 (c : Dev nD) : finalA m c 7 = (rHd m c : Buf (Elt F) ((c : Thread nD τ).loc main_v6_4)) := by
  unfold finalA
  refine (dats m 0 c).arrAt_eq_of_after_last 7 t0_0 (by decide +kernel) _ (fun j => ?_)
  rw [after_w7]
  rfl

/-- The run in the words of the claims: the results, the arguments, the counters. -/
theorem run_full : θ_run defs (onTc (τ := τ) (main (F := F))) ⟨m, fun _ => 0, ρ⟩ (fun r => (∀ c : Dev nD,
      (r.2.mem ((c : Thread nD τ).loc main_v6_0) = (rAc m c : Buf (Elt F) ((c : Thread nD τ).loc main_v6_0))
      ∧ r.2.mem ((c : Thread nD τ).loc main_v6_1) = (rAs m c : Buf (Elt F) ((c : Thread nD τ).loc main_v6_1))
      ∧ r.2.mem ((c : Thread nD τ).loc main_v6_2) = (rHc m c : Buf (Elt F) ((c : Thread nD τ).loc main_v6_2))
      ∧ r.2.mem ((c : Thread nD τ).loc main_v6_3) = (rHs m c : Buf (Elt F) ((c : Thread nD τ).loc main_v6_3))
      ∧ r.2.mem ((c : Thread nD τ).loc main_v6_4) = (rHd m c : Buf (Elt F) ((c : Thread nD τ).loc main_v6_4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun _ hh => ⟨fun c => by
    obtain ⟨hw, ho, hc, h0, h1, h2, h3, h4, h5, h6⟩ := hh.1 c
    exact ⟨⟨ho, (hw 5).trans (final5 m c), hc, (hw 6).trans (final6 m c), (hw 7).trans (final7 m c)⟩, h0.trans (V_main_arg0 m c), h1.trans (V_main_arg1 m c), h2.trans (V_main_arg2 m c), h3.trans (V_main_arg3 m c), h4.trans (V_main_arg4 m c), h5.trans (V_main_arg5 m c), h6.trans (V_main_arg6 m c)⟩, hh.2⟩) (run_main m ρ)
end Cert.Proof.GateUp
end
-- ==== Proof.GuFrames.lean ====
/-
  The idealized program is the same text as the printed one: their definitions agree by unfolding, so the run proved of
  the one, for any floats, is a run of the other.
-/
module

public import proofs.«01_k».proof.Proof.GuLaunch
public import proofs.«01_k».proof.Proof.Gen.GateUpIdeal.Launch

@[expose] public section

noncomputable section

namespace Cert.Proof.GateUp

open Idealize.ShloMosaic Idealize.ShloMosaic.TcCoe Idealize.SL.Sem

set_option maxRecDepth 100000

variable {F : FTy → Type} [FloatOps F]

theorem cc0_same : @Cert.GateUpIdeal.cc0_mhc_mlp_gate_up F _ _ = @Cert.GateUp.cc0_mhc_mlp_gate_up F _ _ := rfl
theorem defs0_same : Cert.GateUpIdeal.defs₀ (F := F) = Cert.GateUp.defs₀ (F := F) := by
  delta Cert.GateUpIdeal.defs₀ Cert.GateUp.defs₀
  refine congrArg Defs.onTc ?_
  funext x y
  match x, y with
  | 0, (t, s) => rfl
theorem defs_same : Cert.GateUpIdeal.defs (F := F) = Cert.GateUp.defs (F := F) := by
  delta Cert.GateUpIdeal.defs Cert.GateUp.defs
  rw [defs0_same]
  rfl
theorem main_same : Cert.GateUpIdeal.main (F := F) = Cert.GateUp.main (F := F) := rfl

/-- The run of the idealized program: the results, the arguments, the counters. -/
theorem run_ideal (m : (ℓ : Loc Cert.GateUpIdeal.nD Cert.GateUpIdeal.τ Cert.GateUpIdeal.sig) → Buf (Elt F) ℓ) (ρ : Dev Cert.GateUpIdeal.nD → PrngReg) :
    θ_run (Cert.GateUpIdeal.defs (F := F)) (onTc (τ := Cert.GateUpIdeal.τ) (Cert.GateUpIdeal.main (F := F))) ⟨m, fun _ => 0, ρ⟩ (fun r => (∀ c : Dev Cert.GateUpIdeal.nD,
      (r.2.mem ((c : Thread Cert.GateUpIdeal.nD Cert.GateUpIdeal.τ).loc Cert.GateUpIdeal.main_v6_0) = (rAc (F := F) m c : Buf (Elt F) ((c : Thread Cert.GateUpIdeal.nD Cert.GateUpIdeal.τ).loc Cert.GateUpIdeal.main_v6_0))
      ∧ r.2.mem ((c : Thread Cert.GateUpIdeal.nD Cert.GateUpIdeal.τ).loc Cert.GateUpIdeal.main_v6_1) = (rAs (F := F) m c : Buf (Elt F) ((c : Thread Cert.GateUpIdeal.nD Cert.GateUpIdeal.τ).loc Cert.GateUpIdeal.main_v6_1))
      ∧ r.2.mem ((c : Thread Cert.GateUpIdeal.nD Cert.GateUpIdeal.τ).loc Cert.GateUpIdeal.main_v6_2) = (rHc (F := F) m c : Buf (Elt F) ((c : Thread Cert.GateUpIdeal.nD Cert.GateUpIdeal.τ).loc Cert.GateUpIdeal.main_v6_2))
      ∧ r.2.mem ((c : Thread Cert.GateUpIdeal.nD Cert.GateUpIdeal.τ).loc Cert.GateUpIdeal.main_v6_3) = (rHs (F := F) m c : Buf (Elt F) ((c : Thread Cert.GateUpIdeal.nD Cert.GateUpIdeal.τ).loc Cert.GateUpIdeal.main_v6_3))
      ∧ r.2.mem ((c : Thread Cert.GateUpIdeal.nD Cert.GateUpIdeal.τ).loc Cert.GateUpIdeal.main_v6_4) = (rHd (F := F) m c : Buf (Elt F) ((c : Thread Cert.GateUpIdeal.nD Cert.GateUpIdeal.τ).loc Cert.GateUpIdeal.main_v6_4)))
      ∧ r.2.mem ((c : Thread Cert.GateUpIdeal.nD Cert.GateUpIdeal.τ).loc Cert.GateUpIdeal.main_arg0) = m ((c : Thread Cert.GateUpIdeal.nD Cert.GateUpIdeal.τ).loc Cert.GateUpIdeal.main_arg0)
      ∧ r.2.mem ((c : Thread Cert.GateUpIdeal.nD Cert.GateUpIdeal.τ).loc Cert.GateUpIdeal.main_arg1) = m ((c : Thread Cert.GateUpIdeal.nD Cert.GateUpIdeal.τ).loc Cert.GateUpIdeal.main_arg1)
      ∧ r.2.mem ((c : Thread Cert.GateUpIdeal.nD Cert.GateUpIdeal.τ).loc Cert.GateUpIdeal.main_arg2) = m ((c : Thread Cert.GateUpIdeal.nD Cert.GateUpIdeal.τ).loc Cert.GateUpIdeal.main_arg2)
      ∧ r.2.mem ((c : Thread Cert.GateUpIdeal.nD Cert.GateUpIdeal.τ).loc Cert.GateUpIdeal.main_arg3) = m ((c : Thread Cert.GateUpIdeal.nD Cert.GateUpIdeal.τ).loc Cert.GateUpIdeal.main_arg3)
      ∧ r.2.mem ((c : Thread Cert.GateUpIdeal.nD Cert.GateUpIdeal.τ).loc Cert.GateUpIdeal.main_arg4) = m ((c : Thread Cert.GateUpIdeal.nD Cert.GateUpIdeal.τ).loc Cert.GateUpIdeal.main_arg4)
      ∧ r.2.mem ((c : Thread Cert.GateUpIdeal.nD Cert.GateUpIdeal.τ).loc Cert.GateUpIdeal.main_arg5) = m ((c : Thread Cert.GateUpIdeal.nD Cert.GateUpIdeal.τ).loc Cert.GateUpIdeal.main_arg5)
      ∧ r.2.mem ((c : Thread Cert.GateUpIdeal.nD Cert.GateUpIdeal.τ).loc Cert.GateUpIdeal.main_arg6) = m ((c : Thread Cert.GateUpIdeal.nD Cert.GateUpIdeal.τ).loc Cert.GateUpIdeal.main_arg6))
    ∧ r.2.sem = fun _ => 0) := by
  rw [defs_same, main_same]
  exact run_full (F := F) m ρ

/-- Each program's frame: it terminates, its arguments end unchanged, its counters at zero. -/
theorem frame_kernel : Cert.quiescent_GateUp := fun m ρ _ =>
  (θ_run Cert.GateUp.defs _ _).mono (fun _ hh => ⟨fun c => (hh.1 c).2, hh.2⟩) (run_full (F := Bits) m ρ)
theorem frame_ideal : Cert.quiescent_GateUpIdeal := fun m ρ _ =>
  (θ_run Cert.GateUpIdeal.defs _ _).mono (fun _ hh => ⟨fun c => (hh.1 c).2, hh.2⟩) (run_ideal (F := Ideal) m ρ)

end Cert.Proof.GateUp

end
-- ==== Proof.GuArgs.lean ====
/-
  The blocks the kernel is given, read at an index of the arguments.
-/
module

public import proofs.«01_k».proof.Proof.GuLaunch
public import Idealize.ShloMosaic.Lib.Pointwise

@[expose] public section

noncomputable section

namespace Cert.Proof.GateUp

open Cert.GateUp Cert.GateUp.Gen
open Idealize.ShloMosaic Idealize.ShloMosaic.TcCoe Idealize.SL.Sem
open scoped BigOperators

section
variable {F : FTy → Type} [FloatOps F] (m : (ℓ : Loc nD τ sig) → Buf (Elt F) ℓ) (c : Dev nD)

/-- The seven arguments. -/
abbrev kA0 : Vec F S256x7168 .f32 := m ((c : Thread nD τ).loc main_arg0)
abbrev kA1 : Vec F S256x1 .f32 := m ((c : Thread nD τ).loc main_arg1)
abbrev kA2 : Vec F S7168 .f32 := m ((c : Thread nD τ).loc main_arg2)
abbrev kA3 : Vec F S7168x2304 .fp8e4m3 := m ((c : Thread nD τ).loc main_arg3)
abbrev kA4 : Vec F S56x18 .f32 := m ((c : Thread nD τ).loc main_arg4)
abbrev kA5 : Vec F S7168x2304 .fp8e4m3 := m ((c : Thread nD τ).loc main_arg5)
abbrev kA6 : Vec F S56x18 .f32 := m ((c : Thread nD τ).loc main_arg6)

theorem V_v1 : (V m c main_v1 : Vec F S56x256x128 .f32) = transpose S56x256x128 [1, 0, 2] (shapeCast S256x56x128 (kA0 m c) shapeCasts_S256x7168_S256x56x128) transposes_S256x56x128_S56x256x128_1_0_2 := by
  unfold V Gen.hostOps0
  rfl
theorem kidx0 : ∀ t : Fin cfg0.N, win0_0.index t (0 : Fin 3) = 0 ∧ win0_0.index t (1 : Fin 3) = 0 ∧ win0_0.index t (2 : Fin 3) = 0 := (by decide +kernel : ∀ t : Fin grid0.N, _)
theorem kblk0 : uB m c = transpose S56x256x128 [1, 0, 2] (shapeCast S256x56x128 (kA0 m c) shapeCasts_S256x7168_S256x56x128) transposes_S256x56x128_S56x256x128_1_0_2 := by
  refine Eq.trans ?_ (V_v1 m c)
  funext (j : S56x256x128.Idx)
  obtain ⟨e0, e1, e2⟩ := kidx0 t0_0
  unfold uB iblk
  refine congrArg (V m c (Pipeline.arrRef spec0 0) : S56x256x128.Idx → Elt F .f32) (funext fun a => Fin.ext ?_)
  match a with
  | ⟨0, _⟩ => show win0_0.index t0_0 (0 : Fin 3) * 56 + 1 * (j 0).val = (j 0).val; omega
  | ⟨1, _⟩ => show win0_0.index t0_0 (1 : Fin 3) * 256 + 1 * (j 1).val = (j 1).val; omega
  | ⟨2, _⟩ => show win0_0.index t0_0 (2 : Fin 3) * 128 + 1 * (j 2).val = (j 2).val; omega
theorem V_v2 : (V m c main_v2 : Vec F S256x128 .f32) = broadcastInDim S256x128 ![0, 1] bcast_S256x1_S256x128_0_1 (kA1 m c) := by
  unfold V Gen.hostOps0
  rfl
theorem kidx1 : ∀ t : Fin cfg0.N, win0_1.index t (0 : Fin 2) = 0 ∧ win0_1.index t (1 : Fin 2) = 0 := (by decide +kernel : ∀ t : Fin grid0.N, _)
theorem kblk1 : rB m c = broadcastInDim S256x128 ![0, 1] bcast_S256x1_S256x128_0_1 (kA1 m c) := by
  refine Eq.trans ?_ (V_v2 m c)
  funext (j : S256x128.Idx)
  obtain ⟨e0, e1⟩ := kidx1 t0_0
  unfold rB iblk
  refine congrArg (V m c (Pipeline.arrRef spec0 1) : S256x128.Idx → Elt F .f32) (funext fun a => Fin.ext ?_)
  match a with
  | ⟨0, _⟩ => show win0_1.index t0_0 (0 : Fin 2) * 256 + 1 * (j 0).val = (j 0).val; omega
  | ⟨1, _⟩ => show win0_1.index t0_0 (1 : Fin 2) * 128 + 1 * (j 1).val = (j 1).val; omega
theorem V_v3 : (V m c main_v3 : Vec F S56x128 .f32) = shapeCast S56x128 (kA2 m c) shapeCasts_S7168_S56x128 := by
  unfold V Gen.hostOps0
  rfl
theorem kidx2 : ∀ t : Fin cfg0.N, win0_2.index t (0 : Fin 2) = 0 ∧ win0_2.index t (1 : Fin 2) = 0 := (by decide +kernel : ∀ t : Fin grid0.N, _)
theorem kblk2 : mB m c = shapeCast S56x128 (kA2 m c) shapeCasts_S7168_S56x128 := by
  refine Eq.trans ?_ (V_v3 m c)
  funext (j : S56x128.Idx)
  obtain ⟨e0, e1⟩ := kidx2 t0_0
  unfold mB iblk
  refine congrArg (V m c (Pipeline.arrRef spec0 2) : S56x128.Idx → Elt F .f32) (funext fun a => Fin.ext ?_)
  match a with
  | ⟨0, _⟩ => show win0_2.index t0_0 (0 : Fin 2) * 56 + 1 * (j 0).val = (j 0).val; omega
  | ⟨1, _⟩ => show win0_2.index t0_0 (1 : Fin 2) * 128 + 1 * (j 1).val = (j 1).val; omega
theorem V_v4 : (V m c main_v4 : Vec F S18x56 .f32) = transpose S18x56 [1, 0] (kA4 m c) transposes_S56x18_S18x56_1_0 := by
  unfold V Gen.hostOps0
  rfl
theorem kidx3 : ∀ t : Fin cfg0.N, win0_3.index t (0 : Fin 2) = 0 ∧ win0_3.index t (1 : Fin 2) = 0 := (by decide +kernel : ∀ t : Fin grid0.N, _)
theorem kblk3 : sgB m c = transpose S18x56 [1, 0] (kA4 m c) transposes_S56x18_S18x56_1_0 := by
  refine Eq.trans ?_ (V_v4 m c)
  funext (j : S18x56.Idx)
  obtain ⟨e0, e1⟩ := kidx3 t0_0
  unfold sgB iblk
  refine congrArg (V m c (Pipeline.arrRef spec0 3) : S18x56.Idx → Elt F .f32) (funext fun a => Fin.ext ?_)
  match a with
  | ⟨0, _⟩ => show win0_3.index t0_0 (0 : Fin 2) * 18 + 1 * (j 0).val = (j 0).val; omega
  | ⟨1, _⟩ => show win0_3.index t0_0 (1 : Fin 2) * 56 + 1 * (j 1).val = (j 1).val; omega
theorem V_v5 : (V m c main_v5 : Vec F S18x56 .f32) = transpose S18x56 [1, 0] (kA6 m c) transposes_S56x18_S18x56_1_0 := by
  unfold V Gen.hostOps0
  rfl
theorem kidx4 : ∀ t : Fin cfg0.N, win0_4.index t (0 : Fin 2) = 0 ∧ win0_4.index t (1 : Fin 2) = 0 := (by decide +kernel : ∀ t : Fin grid0.N, _)
theorem kblk4 : suB m c = transpose S18x56 [1, 0] (kA6 m c) transposes_S56x18_S18x56_1_0 := by
  refine Eq.trans ?_ (V_v5 m c)
  funext (j : S18x56.Idx)
  obtain ⟨e0, e1⟩ := kidx4 t0_0
  unfold suB iblk
  refine congrArg (V m c (Pipeline.arrRef spec0 4) : S18x56.Idx → Elt F .f32) (funext fun a => Fin.ext ?_)
  match a with
  | ⟨0, _⟩ => show win0_4.index t0_0 (0 : Fin 2) * 18 + 1 * (j 0).val = (j 0).val; omega
  | ⟨1, _⟩ => show win0_4.index t0_0 (1 : Fin 2) * 56 + 1 * (j 1).val = (j 1).val; omega
theorem wgB_eq : wgB m c = kA3 m c := by
  unfold wgB
  exact (Eq.trans (b := (V m c main_arg3 : Vec F S7168x2304 .fp8e4m3)) rfl (V_main_arg3 m c))
theorem wuB_eq : wuB m c = kA5 m c := by
  unfold wuB
  exact (Eq.trans (b := (V m c main_arg5 : Vec F S7168x2304 .fp8e4m3)) rfl (V_main_arg5 m c))

theorem uB_apply (l : Fin 56) (i : Fin 256) (k : Fin 128) (z : Fin 7168) (hz : z.val = l.val * 128 + k.val) :
    uB m c (ix3 l i k) = kA0 m c (ix2 i z) := by
  rw [kblk0]
  generalize kA0 m c = x
  refine (transpose_apply _ _ _ (ix3 l i k) (ix3 i l k) (fun a => by fin_cases a <;> rfl)).trans (shapeCast_apply _ _ _ _ (by
    rw [Shape.rowMajor_val_two, Shape.rowMajor_val_three]
    show i.val * 7168 + z.val = (i.val * 56 + l.val) * 128 + k.val
    omega))
theorem rB_apply (i : Fin 256) (k : Fin 128) : rB m c (ix2 i k) = kA1 m c (ix2 i (0 : Fin 1)) := by
  rw [kblk1]
  generalize kA1 m c = x
  exact congrArg x (funext fun a => Fin.ext (by fin_cases a <;> rfl))
theorem mB_apply (l : Fin 56) (k : Fin 128) (z : Fin 7168) (hz : z.val = l.val * 128 + k.val) : mB m c (ix2 l k) = kA2 m c (ix1 z) := by
  rw [kblk2]
  generalize kA2 m c = x
  exact shapeCast_apply _ _ _ _ (by
    rw [Shape.rowMajor_val_two, Shape.rowMajor_val_one]
    show z.val = l.val * 128 + k.val
    omega)
theorem sgB_apply (a : Fin 18) (b : Fin 56) : sgB m c (ix2 a b) = kA4 m c (ix2 b a) := by
  rw [kblk3]
  exact transpose_apply _ _ _ (ix2 a b) (ix2 b a) (fun a => by fin_cases a <;> rfl)
theorem suB_apply (a : Fin 18) (b : Fin 56) : suB m c (ix2 a b) = kA6 m c (ix2 b a) := by
  rw [kblk4]
  exact transpose_apply _ _ _ (ix2 a b) (ix2 b a) (fun a => by fin_cases a <;> rfl)
end

end Cert.Proof.GateUp
end
-- ==== Proof.GuQ.lean ====
/-
  The quantiser of one row of 128 over the extended reals.
-/
module

public import proofs.«01_k».proof.Defs
public import Idealize.ShloMosaic.Lib.Pointwise
public import Idealize.ShloMosaic.Lib.MatmulPlain

@[expose] public section

set_option maxRecDepth 16384

noncomputable section

namespace Cert.Proof.GateUp

open Idealize.ShloMosaic Idealize.ShloMosaic.TcCoe Idealize.SL.Sem
open scoped BigOperators

/-- The largest magnitude of a row over 448, -/
def qm (v : Fin 128 → EReal) : EReal :=
  Finset.fold max (Ideal.ofBits FTy.f32 4286578688#32) (fun x => FloatOps.absf (F := Ideal) (φ := .f32) (v x)) Finset.univ * Ideal.ofBits FTy.f32 991054117#32
/-- the floor of its base-two logarithm, -/
def qf (v : Fin 128 → EReal) : EReal :=
  Ideal.liftRound Int.floor (Ideal.div (Ideal.log (qm v)) (Ideal.log (Ideal.ofBits FTy.f32 1073741824#32)))
/-- the exponent of the scale, -/
def qx (v : Fin 128 → EReal) : EReal := if qm v = 0 then 0 else qf v + 1
/-- the same, less one, as the kernel keeps it, -/
def qk (v : Fin 128 → EReal) : EReal := if qm v = 0 then Ideal.ofBits FTy.f32 3212836864#32 else qf v
/-- the scale, -/
def qs (v : Fin 128 → EReal) : EReal := FloatOps.exp2 (F := Ideal) (φ := .f32) (qx v)
/-- the codes -/
def qc (v : Fin 128 → EReal) (j : Fin 128) : EReal :=
  min (Ideal.ofBits FTy.f32 1138753536#32) (max (Ideal.ofBits FTy.f32 3286237184#32) (v j * FloatOps.exp2 (F := Ideal) (φ := .f32) (0 - qx v)))
/-- and the dequantised values. -/
def qd (v : Fin 128 → EReal) (j : Fin 128) : EReal := qc v j * qs v

theorem minus_one : Ideal.ofBits FTy.f32 3212836864#32 = -(1 : EReal) := by
  have h : Ideal.ofBits FTy.f32 3212836864#32 = ((-(1 : ℝ)) : EReal) := by
    simp [Ideal.ofBits, Ideal.ieee, -EReal.coe_mul, -EReal.coe_neg]; norm_num
  rw [h]; rfl
theorem qk_add (v : Fin 128 → EReal) : qk v + 1 = qx v := by
  unfold qk qx
  split
  · rw [minus_one, ← EReal.coe_one, ← EReal.coe_neg, ← EReal.coe_add]; norm_num
  · rfl
theorem qk_sub (v : Fin 128 → EReal) : Ideal.ofBits FTy.f32 3212836864#32 - qk v = 0 - qx v := by
  have h1 : (1 : EReal) ≠ ⊥ := EReal.coe_ne_bot 1
  have h2 : (1 : EReal) ≠ ⊤ := EReal.coe_ne_top 1
  rw [← qk_add, minus_one, zero_sub, EReal.neg_add (Or.inr h2) (Or.inr h1)]
  rw [sub_eq_add_neg, sub_eq_add_neg, add_comm]

end Cert.Proof.GateUp
end
-- ==== Proof.GuQuant.lean ====
/-
  The kernel's quantiser at an element.
-/
module

public import proofs.«01_k».proof.Proof.GuFrames
public import proofs.«01_k».proof.Proof.GuQ
public import Idealize.ShloMosaic.Lib.Pointwise
public import Idealize.ShloMosaic.Lib.MatmulPlain

@[expose] public section

set_option maxRecDepth 16384

noncomputable section

namespace Cert.Proof.GateUp

open Idealize.ShloMosaic Idealize.ShloMosaic.TcCoe Idealize.SL.Sem
open scoped BigOperators
open Cert.GateUp Cert.GateUp.Gen

theorem ev_apply (y : FVec Ideal S256x128 .f32) (i : Fin 256) :
    ev (F := Ideal) y (ix2 i (0 : Fin 1)) = qk (fun k => y (ix2 i k)) := by
  unfold ev mv qk qf qm
  pointwise
theorem cod_apply (y : FVec Ideal S256x128 .f32) (i : Fin 256) (j : Fin 128) :
    codv (F := Ideal) y (ix2 i j) = qc (fun k => y (ix2 i k)) j := by
  unfold qc
  rw [← qk_sub, ← ev_apply]
  unfold codv
  pointwise
theorem sc_apply (y : FVec Ideal S256x128 .f32) (i : Fin 256) (j : Fin 128) :
    scv (F := Ideal) y (ix2 i j) = qs (fun k => y (ix2 i k)) := by
  unfold qs
  rw [← qk_add, ← ev_apply]
  unfold scv
  pointwise
theorem deq_apply (y : FVec Ideal S256x128 .f32) (i : Fin 256) (j : Fin 128) :
    deqv (F := Ideal) y (ix2 i j) = qd (fun k => y (ix2 i k)) j := by
  unfold qd
  rw [← cod_apply, ← sc_apply y i j]
  unfold deqv
  pointwise
theorem lane_apply (U : Vec Ideal S56x256x128 .f32) (R : Vec Ideal S256x128 .f32) (M : Vec Ideal S56x128 .f32) (l : Fin 56) (i : Fin 256) (k : Fin 128) :
    laneY (F := Ideal) U R M l (ix2 i k) = U (ix3 l i k) * R (ix2 i k) * M (ix2 l k) := by
  unfold laneY yv
  pointwise

end Cert.Proof.GateUp
end
-- ==== Proof.GuRefA.lean ====
/-
  The reference's normalised rows and their quantiser at an element.
-/
module

public import proofs.«01_k».proof.Proof.Gen.GateUpReferenceIdeal.Skeleton
public import proofs.«01_k».proof.Proof.GuQ
public import Idealize.ShloMosaic.Lib.Pointwise
public import Idealize.ShloMosaic.Lib.MatmulPlain

@[expose] public section

set_option maxRecDepth 16384

noncomputable section

namespace Cert.Proof.GateUp

open Idealize.ShloMosaic Idealize.ShloMosaic.TcCoe Idealize.SL.Sem
open scoped BigOperators
open Cert.GateUpReferenceIdeal Cert.GateUpReferenceIdeal.Gen

/-- The normalised rows. -/
def yr (u : Vec Ideal S256x7168 .f32) (r : Vec Ideal S256x1 .f32) (g : Vec Ideal S1x7168 .f32) (i : Fin 256) (j : Fin 7168) : EReal :=
  u (ix2 i j) * r (ix2 i (0 : Fin 1)) * g (ix2 (0 : Fin 1) j)
/-- Block `l` of row `i`. -/
def row56 (y : Fin 256 → Fin 7168 → EReal) (i : Fin 256) (l : Fin 56) (k : Fin 128) : EReal :=
  y i ⟨l.val * 128 + k.val, by have := l.isLt; have := k.isLt; omega⟩
def at256 (b : Fin 2) (i : Fin 128) : Fin 256 := ⟨b.val * 128 + i.val, by have := b.isLt; have := i.isLt; omega⟩

section
variable (u : Vec Ideal S256x7168 .f32) (r : Vec Ideal S256x1 .f32) (g : Vec Ideal S1x7168 .f32)

theorem cast_in {e : Type} (v : S256x7168.Idx → e) (h : S256x7168.ShapeCasts S2x128x56x128) (b : Fin 2) (i : Fin 128) (l : Fin 56) (k : Fin 128) (x : Fin 256) (z : Fin 7168)
    (hx : x.val = b.val * 128 + i.val) (hz : z.val = l.val * 128 + k.val) :
    shapeCast S2x128x56x128 v h (ix4 b i l k) = v (ix2 x z) :=
  shapeCast_apply _ _ _ _ (by
    rw [Shape.rowMajor_val_two, Shape.rowMajor_val_four]
    show x.val * 7168 + z.val = ((b.val * 128 + i.val) * 56 + l.val) * 128 + k.val
    omega)
theorem cast_out {e : Type} (v : S2x128x56x128.Idx → e) (h : S2x128x56x128.ShapeCasts S256x7168) (b : Fin 2) (i : Fin 128) (l : Fin 56) (k : Fin 128) (x : Fin 256) (z : Fin 7168)
    (hx : x.val = b.val * 128 + i.val) (hz : z.val = l.val * 128 + k.val) :
    shapeCast S256x7168 v h (ix2 x z) = v (ix4 b i l k) :=
  shapeCast_apply _ _ _ _ (by
    rw [Shape.rowMajor_val_two, Shape.rowMajor_val_four]
    show ((b.val * 128 + i.val) * 56 + l.val) * 128 + k.val = x.val * 7168 + z.val
    omega)
theorem col1 {e : Type} (v : S2x128x56.Idx → e) (h : S2x128x56.ShapeCasts S2x128x56x1) (b : Fin 2) (i : Fin 128) (l : Fin 56) :
    shapeCast S2x128x56x1 v h (ix4 b i l (0 : Fin 1)) = v (ix3 b i l) :=
  shapeCast_apply _ _ _ _ (by
    rw [Shape.rowMajor_val_three, Shape.rowMajor_val_four]
    show (b.val * 128 + i.val) * 56 + l.val = ((b.val * 128 + i.val) * 56 + l.val) * 1 + 0
    omega)
theorem spread {e : Type} (v : S2x128x56x1.Idx → e) (h) (b : Fin 2) (i : Fin 128) (l : Fin 56) (k : Fin 128) :
    broadcastTo S2x128x56x128 v h (ix4 b i l k) = v (ix4 b i l (0 : Fin 1)) :=
  congrArg v (funext fun a => Fin.ext (by fin_cases a <;> rfl))

theorem red56 (v : FVec Ideal S2x128x56x128 .f32) (b : Fin 2) (i : Fin 128) (l : Fin 56) :
    multiReduction .maximumf [3] S2x128x56 v 0xFF800000#32 reduces_S2x128x56x128_S2x128x56 (.inl rfl) rfl (ix3 b i l)
      = Finset.fold max (Ideal.ofBits FTy.f32 4286578688#32) (fun x : Fin 128 => v (ix4 b i l x)) Finset.univ :=
  (Ideal.multiReduction_maximumf_single v _ _ _ _ _).trans
    (congrArg (fun f : Fin 128 → EReal => Finset.fold max (Ideal.ofBits FTy.f32 4286578688#32) f Finset.univ)
      (funext fun k => congrArg v (funext fun a => Fin.ext (by fin_cases a <;> rfl))))
/-- The exponent, from the largest magnitudes. -/
theorem sel56 (N : FVec Ideal S2x128x56 .f32) (x : S2x128x56.Idx) :
    select (cmpf .oeq (mulf N (broadcast S2x128x56 (Scalar.ofBits .f32 0x3B124925#32))) (broadcast S2x128x56 (Scalar.ofBits .f32 0x00000000#32)))
      (broadcast S2x128x56 (Scalar.ofBits .f32 0x00000000#32))
      (addf (floor (divf (log (mulf N (broadcast S2x128x56 (Scalar.ofBits .f32 0x3B124925#32)))) (log (broadcast S2x128x56 (Scalar.ofBits .f32 0x40000000#32))))) (broadcast S2x128x56 (Scalar.ofBits .f32 0x3F800000#32))) x
    = (if N x * Ideal.ofBits FTy.f32 991054117#32 = 0 then 0 else Ideal.liftRound Int.floor (Ideal.div (Ideal.log (N x * Ideal.ofBits FTy.f32 991054117#32)) (Ideal.log (Ideal.ofBits FTy.f32 1073741824#32))) + 1 : EReal) := by
  pointwise
theorem exp56 (v : FVec Ideal S2x128x56 .f32) (x : S2x128x56.Idx) : exp2 v x = FloatOps.exp2 (F := Ideal) (φ := .f32) (v x) := rfl
/-- The inverse of the scale. -/
theorem inv56 (v : FVec Ideal S2x128x56 .f32) (x : S2x128x56.Idx) :
    exp2 (subf (broadcast S2x128x56 (Scalar.ofBits .f32 0x00000000#32)) v) x = FloatOps.exp2 (F := Ideal) (φ := .f32) (0 - v x) := by
  pointwise
/-- The exponent of a row, from its largest magnitude. -/
theorem qx56 (N : FVec Ideal S2x128x56 .f32) (x : S2x128x56.Idx) (v : Fin 128 → EReal)
    (e : N x = Finset.fold max (Ideal.ofBits FTy.f32 4286578688#32) (fun k : Fin 128 => FloatOps.absf (F := Ideal) (φ := .f32) (v k)) Finset.univ) :
    (if N x * Ideal.ofBits FTy.f32 991054117#32 = 0 then 0 else Ideal.liftRound Int.floor (Ideal.div (Ideal.log (N x * Ideal.ofBits FTy.f32 991054117#32)) (Ideal.log (Ideal.ofBits FTy.f32 1073741824#32))) + 1 : EReal) = qx v := by
  rw [e]; rfl
theorem p5_apply (b : Fin 2) (i : Fin 128) (l : Fin 56) (k : Fin 128) :
    k0_pay5 (F := Ideal) u r g (ix4 b i l k) = row56 (yr u r g) (at256 b i) l k := by
  unfold k0_pay5
  refine (cast_in _ _ b i l k (at256 b i) ⟨l.val * 128 + k.val, by have := l.isLt; have := k.isLt; omega⟩ rfl rfl).trans ?_
  unfold row56
  generalize (⟨l.val * 128 + k.val, by have := l.isLt; have := k.isLt; omega⟩ : Fin 7168) = z
  unfold yr
  pointwise
theorem p6_fold (b : Fin 2) (i : Fin 128) (l : Fin 56) :
    k0_pay6 (F := Ideal) u r g (ix3 b i l) = qx (fun k => k0_pay5 (F := Ideal) u r g (ix4 b i l k)) := by
  unfold k0_pay6
  generalize k0_pay5 (F := Ideal) u r g = y
  exact (sel56 _ _).trans (qx56 _ _ _ (red56 (absf y) b i l))
theorem p6_apply (b : Fin 2) (i : Fin 128) (l : Fin 56) :
    k0_pay6 (F := Ideal) u r g (ix3 b i l) = qx (row56 (yr u r g) (at256 b i) l) :=
  (p6_fold u r g b i l).trans (congrArg qx (funext fun k => p5_apply u r g b i l k))
theorem p7_apply (b : Fin 2) (i : Fin 128) (l : Fin 56) :
    k0_pay7 (F := Ideal) u r g (ix3 b i l) = qs (row56 (yr u r g) (at256 b i) l) := by
  have h := p6_apply u r g b i l
  unfold k0_pay7 qs
  rw [← h]
  generalize k0_pay6 (F := Ideal) u r g = v
  exact exp56 v _
theorem p2_apply (v : FVec Ideal S2x128x56 .f32) (b : Fin 2) (l : Fin 56) (i : Fin 128) :
    k0_pay2 (F := Ideal) v (ix3 b l i) = v (ix3 b i l) := by
  unfold k0_pay2
  exact transpose_apply _ _ _ _ _ (fun a => by fin_cases a <;> rfl)

theorem split256 (i : Fin 256) : at256 ⟨i.val / 128, by have := i.isLt; omega⟩ ⟨i.val % 128, Nat.mod_lt _ (by decide)⟩ = i :=
  Fin.ext (by show i.val / 128 * 128 + i.val % 128 = i.val; omega)
theorem p8_pt (i : Fin 256) (j : Fin 7168) :
    k0_pay8 (F := Ideal) u r g (ix2 i j) = min (Ideal.ofBits FTy.f32 1138753536#32) (max (Ideal.ofBits FTy.f32 3286237184#32)
      (k0_pay5 (F := Ideal) u r g (ix4 (⟨i.val / 128, by have := i.isLt; omega⟩ : Fin 2) (⟨i.val % 128, Nat.mod_lt _ (by decide)⟩ : Fin 128) (⟨j.val / 128, by have := j.isLt; omega⟩ : Fin 56) (⟨j.val % 128, Nat.mod_lt _ (by decide)⟩ : Fin 128))
        * FloatOps.exp2 (F := Ideal) (φ := .f32) (0 - k0_pay6 (F := Ideal) u r g (ix3 (⟨i.val / 128, by have := i.isLt; omega⟩ : Fin 2) (⟨i.val % 128, Nat.mod_lt _ (by decide)⟩ : Fin 128) (⟨j.val / 128, by have := j.isLt; omega⟩ : Fin 56))))) := by
  unfold k0_pay8
  generalize k0_pay5 (F := Ideal) u r g = y5
  generalize k0_pay6 (F := Ideal) u r g = x6
  refine (cast_out _ _ ⟨i.val / 128, by have := i.isLt; omega⟩ ⟨i.val % 128, Nat.mod_lt _ (by decide)⟩ ⟨j.val / 128, by have := j.isLt; omega⟩ ⟨j.val % 128, Nat.mod_lt _ (by decide)⟩ i j
    (by show i.val = i.val / 128 * 128 + i.val % 128; omega) (by show j.val = j.val / 128 * 128 + j.val % 128; omega)).trans ?_
  generalize (⟨i.val / 128, by have := i.isLt; omega⟩ : Fin 2) = b
  generalize (⟨i.val % 128, Nat.mod_lt _ (by decide)⟩ : Fin 128) = r'
  generalize (⟨j.val / 128, by have := j.isLt; omega⟩ : Fin 56) = l
  generalize (⟨j.val % 128, Nat.mod_lt _ (by decide)⟩ : Fin 128) = k
  refine congrArg (fun t => min (Ideal.ofBits FTy.f32 1138753536#32) (max (Ideal.ofBits FTy.f32 3286237184#32) (y5 (ix4 b r' l k) * t))) ?_
  exact (spread _ _ b r' l k).trans ((col1 _ _ b r' l).trans (inv56 x6 _))
theorem p8_apply (i : Fin 256) (j : Fin 7168) :
    k0_pay8 (F := Ideal) u r g (ix2 i j) = qc (row56 (yr u r g) i ⟨j.val / 128, by have := j.isLt; omega⟩) ⟨j.val % 128, Nat.mod_lt _ (by decide)⟩ := by
  rw [p8_pt, p6_apply, p5_apply, split256]; rfl
theorem p9_pt (i : Fin 256) (j : Fin 7168) :
    k0_pay9 (F := Ideal) u r g (ix2 i j) = k0_pay8 (F := Ideal) u r g (ix2 i j)
      * k0_pay7 (F := Ideal) u r g (ix3 (⟨i.val / 128, by have := i.isLt; omega⟩ : Fin 2) (⟨i.val % 128, Nat.mod_lt _ (by decide)⟩ : Fin 128) (⟨j.val / 128, by have := j.isLt; omega⟩ : Fin 56)) := by
  unfold k0_pay9
  generalize k0_pay8 (F := Ideal) u r g = c8
  generalize k0_pay7 (F := Ideal) u r g = s7
  have e1 : i.val = i.val / 128 * 128 + i.val % 128 := by omega
  have e2 : j.val = j.val / 128 * 128 + j.val % 128 := by omega
  refine (cast_out _ _ ⟨i.val / 128, by have := i.isLt; omega⟩ ⟨i.val % 128, Nat.mod_lt _ (by decide)⟩ ⟨j.val / 128, by have := j.isLt; omega⟩ ⟨j.val % 128, Nat.mod_lt _ (by decide)⟩ i j e1 e2).trans ?_
  exact congrArg₂ (fun s t : EReal => s * t) (cast_in _ _ _ _ _ _ i j e1 e2) ((spread _ _ _ _ _ _).trans (col1 _ _ _ _ _))
theorem p9_apply (i : Fin 256) (j : Fin 7168) :
    k0_pay9 (F := Ideal) u r g (ix2 i j) = qd (row56 (yr u r g) i ⟨j.val / 128, by have := j.isLt; omega⟩) ⟨j.val % 128, Nat.mod_lt _ (by decide)⟩ := by
  rw [p9_pt, p7_apply, p8_apply, split256]; rfl
end

end Cert.Proof.GateUp
end
-- ==== Proof.GuRefB.lean ====
/-
  The reference's products at an element.
-/
module

public import proofs.«01_k».proof.Proof.Gen.GateUpReferenceIdeal.Skeleton
public import proofs.«01_k».proof.Proof.GuQ
public import Idealize.ShloMosaic.Lib.Pointwise
public import Idealize.ShloMosaic.Lib.MatmulPlain

@[expose] public section

set_option maxRecDepth 16384

noncomputable section

namespace Cert.Proof.GateUp

open Idealize.ShloMosaic Idealize.ShloMosaic.TcCoe Idealize.SL.Sem
open scoped BigOperators
open Cert.GateUpReferenceIdeal Cert.GateUpReferenceIdeal.Gen

/-- Rows times a weight whose codes carry the scale of their 128 x 128 block. -/
def prod (a : Fin 256 → Fin 7168 → EReal) (w : S7168x2304.Idx → EReal) (s : S56x18.Idx → EReal) (i : Fin 256) (j : Fin 2304) : EReal :=
  ∑ r : Fin 7168, a i r * (w (ix2 r j) * s (ix2 (⟨r.val / 128, by have := r.isLt; omega⟩ : Fin 56) (⟨j.val / 128, by have := j.isLt; omega⟩ : Fin 18)))
/-- Gate times its logistic times up. -/
def hid (g p : EReal) : EReal := g * Ideal.logistic g * p
/-- The dequantised weight, as the reference forms it, -/
def rW (w : Vec Ideal S7168x2304 .fp8e4m3) (s : Vec Ideal S56x18 .f32) : FVec Ideal S7168x2304 .bf16 :=
  shapeCast S7168x2304 (mulf (shapeCast S56x128x18x128 (extf .bf16 w bitsLt_fp8e4m3_bf16) shapeCasts_S7168x2304_S56x128x18x128)
    (broadcastTo S56x128x18x128 (shapeCast S56x1x18x1 (truncf .bf16 s bitsLt_bf16_f32) shapeCasts_S56x18_S56x1x18x1) broadcasts_S56x1x18x1_S56x128x18x128)) shapeCasts_S56x128x18x128_S7168x2304
/-- and the product with it. -/
def refP (a : FVec Ideal S256x7168 .bf16) (w : Vec Ideal S7168x2304 .fp8e4m3) (s : Vec Ideal S56x18 .f32) : FVec Ideal S256x2304 .f32 :=
  matmul dot_S256x7168_S7168x2304_S256x2304_1_0_0_1_n_n none a (rW w s) (constant S256x2304 .f32 0x00000000#32)
theorem p10_split (a : FVec Ideal S256x7168 .bf16) (w w' : Vec Ideal S7168x2304 .fp8e4m3) (s s' : Vec Ideal S56x18 .f32) :
    k0_pay10 (F := Ideal) a w s w' s' = shapeCast S2x128x18x128 (mulf (mulf (refP a w s) (logistic (refP a w s))) (refP a w' s')) shapeCasts_S256x2304_S2x128x18x128 := rfl
theorem rW_apply (w : Vec Ideal S7168x2304 .fp8e4m3) (s : Vec Ideal S56x18 .f32) (r : Fin 7168) (j : Fin 2304) :
    rW w s (ix2 r j) = w (ix2 r j) * s (ix2 (⟨r.val / 128, by have := r.isLt; omega⟩ : Fin 56) (⟨j.val / 128, by have := j.isLt; omega⟩ : Fin 18)) := by
  unfold rW
  pointwise
theorem refP_apply (a : FVec Ideal S256x7168 .bf16) (w : Vec Ideal S7168x2304 .fp8e4m3) (s : Vec Ideal S56x18 .f32) (i : Fin 256) (j : Fin 2304) :
    refP a w s (ix2 i j) = prod (fun i r => a (ix2 i r)) w s i j := by
  unfold refP prod
  refine (Ideal.matmul_plain_apply (φ₁ := .bf16) none a (rW w s) (constant S256x2304 .f32 0) i j).trans ?_
  exact (congrArg₂ (· + ·) Ideal.ofBits_zero_f32 (Finset.sum_congr rfl fun r _ => congrArg (a (ix2 i r) * ·) (rW_apply w s r j))).trans (zero_add _)
theorem cast_h (v : FVec Ideal S256x2304 .f32) (b : Fin 2) (i : Fin 128) (l : Fin 18) (k : Fin 128) (x : Fin 256) (z : Fin 2304)
    (hx : x.val = b.val * 128 + i.val) (hz : z.val = l.val * 128 + k.val) :
    shapeCast S2x128x18x128 v shapeCasts_S256x2304_S2x128x18x128 (ix4 b i l k) = v (ix2 x z) :=
  shapeCast_apply _ _ _ _ (by
    rw [Shape.rowMajor_val_two, Shape.rowMajor_val_four]
    show x.val * 2304 + z.val = ((b.val * 128 + i.val) * 18 + l.val) * 128 + k.val
    omega)
theorem p10_apply (a : FVec Ideal S256x7168 .bf16) (w w' : Vec Ideal S7168x2304 .fp8e4m3) (s s' : Vec Ideal S56x18 .f32)
    (b : Fin 2) (i : Fin 128) (l : Fin 18) (k : Fin 128) (x : Fin 256) (z : Fin 2304)
    (hx : x.val = b.val * 128 + i.val) (hz : z.val = l.val * 128 + k.val) :
    k0_pay10 (F := Ideal) a w s w' s' (ix4 b i l k) = hid (prod (fun i r => a (ix2 i r)) w s x z) (prod (fun i r => a (ix2 i r)) w' s' x z) := by
  rw [p10_split, cast_h _ b i l k x z hx hz]
  unfold hid
  rw [← refP_apply, ← refP_apply]
  rfl

end Cert.Proof.GateUp
end
-- ==== Proof.GuProd.lean ====
/-
  The kernel's accumulators over the extended reals: seven chunks of 1024 make one product over 7168.
-/
module

public import proofs.«01_k».proof.Proof.GuQuant
public import proofs.«01_k».proof.Proof.GuRefA
public import proofs.«01_k».proof.Proof.GuRefB
public import Idealize.ShloMosaic.Lib.Pointwise
public import Idealize.ShloMosaic.Lib.MatmulPlain

@[expose] public section

set_option maxRecDepth 16384

noncomputable section

namespace Cert.Proof.GateUp

open Cert.GateUp Cert.GateUp.Gen
open Idealize.ShloMosaic Idealize.ShloMosaic.TcCoe Idealize.SL.Sem
open scoped BigOperators

/-! ## A dequantised tile and a product -/

theorem wRow_apply (w : FVec Ideal S1024x256 .fp8e4m3) (o : ℕ) (h0 : S1024x256.Slices ![o, 0] S128x128) (h1 : S1024x256.Slices ![o, 128] S128x128)
    (s : Fin 2 → EReal) (i : Fin 128) (j : Fin 256) (r : Fin 1024) (hr : r.val = o + i.val) :
    wRow (F := Ideal) w o h0 h1 (s 0) (s 1) (ix2 i j) = w (ix2 r j) * s ⟨j.val / 128, by have := j.isLt; omega⟩ := by
  unfold wRow
  by_cases hj : j.val < 128
  · refine (concatenate_pair_apply_left (s₁ := S128x128) (s₂ := S128x128) 1 _ _ _ (ix2 i j) rfl (ix2 i (⟨j.val, hj⟩ : Fin 128)) (fun b => by fin_cases b <;> rfl)).trans ?_
    have e : (⟨j.val / 128, by have := j.isLt; omega⟩ : Fin 2) = 0 := Fin.ext (by show j.val / 128 = 0; omega)
    rw [e]
    refine congrArg (· * s 0) (congrArg w (funext fun a => Fin.ext ?_))
    fin_cases a
    · show o + i.val = r.val; omega
    · show 0 + j.val = j.val; omega
  · have hj2 := j.isLt
    refine (concatenate_pair_apply_right (s₁ := S128x128) (s₂ := S128x128) 1 _ _ _ (ix2 i j) rfl rfl (ix2 i (⟨j.val - 128, by omega⟩ : Fin 128)) (fun b hb => by
      fin_cases b
      · rfl
      · exact absurd rfl hb) (by show (j.val - 128) + 128 = j.val; omega)).trans ?_
    have e : (⟨j.val / 128, by have := j.isLt; omega⟩ : Fin 2) = 1 := Fin.ext (by show j.val / 128 = 1; omega)
    rw [e]
    refine congrArg (· * s 1) (congrArg w (funext fun a => Fin.ext ?_))
    fin_cases a
    · show o + i.val = r.val; omega
    · show 128 + (j.val - 128) = j.val; omega

theorem wr0_slices (k : Fin 8) : S1024x256.Slices ![128 * k.val, 0] S128x128 := by revert k; decide +kernel
theorem wr1_slices (k : Fin 8) : S1024x256.Slices ![128 * k.val, 128] S128x128 := by revert k; decide +kernel

theorem wTile_rows (w : FVec Ideal S1024x256 .fp8e4m3) (s : Fin 8 → Fin 2 → EReal) : wTile (F := Ideal) w s
    = concatenate S1024x256 0 (List.ofFn fun k : Fin 8 => (⟨S128x256, wRow w (128 * k.val) (wr0_slices k) (wr1_slices k) (s k 0) (s k 1)⟩ : (s : Shape) × (s.Idx → EReal)))
    concatenates_S128x256_S128x256_S128x256_S128x256_S128x256_S128x256_S128x256_S128x256_S1024x256_d0 := rfl

theorem wTile_apply (w : FVec Ideal S1024x256 .fp8e4m3) (s : Fin 8 → Fin 2 → EReal) (r : Fin 1024) (j : Fin 256) :
    wTile (F := Ideal) w s (ix2 r j) = w (ix2 r j) * s (hi8 r) ⟨j.val / 128, by have := j.isLt; omega⟩ := by
  have hr := r.isLt
  obtain ⟨k, hk⟩ : ∃ k : Fin 8, k.val = r.val / 128 := ⟨⟨r.val / 128, by omega⟩, rfl⟩
  have ek : hi8 r = k := Fin.ext hk.symm
  rw [ek]
  refine (congrFun (wTile_rows w s) _).trans ((concatenate_ofFn_apply (s₁ := S128x256) 0 (fun k : Fin 8 => wRow w (128 * k.val) (wr0_slices k) (wr1_slices k) (s k 0) (s k 1))
    concatenates_S128x256_S128x256_S128x256_S128x256_S128x256_S128x256_S128x256_S128x256_S1024x256_d0 rfl 128 rfl (ix2 r j) k
    (by show r.val / 128 = k.val; omega) (ix2 (⟨r.val % 128, Nat.mod_lt _ (by decide)⟩ : Fin 128) j) (by show r.val % 128 = r.val % 128; rfl) (fun b hb => by
      fin_cases b
      · exact absurd rfl hb
      · rfl)).trans ?_)
  exact wRow_apply w (128 * k.val) _ _ (s k) _ j r (by show r.val = 128 * k.val + r.val % 128; omega)

theorem gTile_apply (a : Vec Ideal S1x256x1024 .bf16) (w : Vec Ideal S1x1x1024x256 .fp8e4m3) (s : Fin 8 → Fin 2 → EReal) (i j : Fin 256) :
    gTile (F := Ideal) a w s (ix2 i j)
      = ∑ r : Fin 1024, a (ix3 (0 : Fin 1) i r) * (w (ix4 (0 : Fin 1) (0 : Fin 1) r j) * s (hi8 r) ⟨j.val / 128, by have := j.isLt; omega⟩) := by
  unfold gTile
  refine (Ideal.matmul_plain_apply (φ₁ := .bf16) none _ _ (constant S256x256 .f32 0) i j).trans ?_
  refine (congrArg₂ (· + ·) Ideal.ofBits_zero_f32 (Finset.sum_congr rfl fun r _ => congrArg₂ (· * ·) ?_ ?_)).trans (zero_add _)
  · exact shapeCast_apply _ _ (ix2 i r) (ix3 (0 : Fin 1) i r) (by rw [Shape.rowMajor_val_two, Shape.rowMajor_val_three]; show (0 * 256 + i.val) * 1024 + r.val = i.val * 1024 + r.val; omega)
  · refine (wTile_apply _ s r j).trans (congrArg (· * _) ?_)
    exact shapeCast_apply _ _ (ix2 r j) (ix4 (0 : Fin 1) (0 : Fin 1) r j) (by rw [Shape.rowMajor_val_two, Shape.rowMajor_val_four]; show ((0 * 1 + 0) * 1024 + r.val) * 256 + j.val = r.val * 256 + j.val; omega)

/-! ## The sum over the chunks -/

section
variable (U : Vec Ideal S56x256x128 .f32) (R : Vec Ideal S256x128 .f32) (M : Vec Ideal S56x128 .f32)
  (W : Vec Ideal S7168x2304 .fp8e4m3) (S : Vec Ideal S18x56 .f32)

/-- The dequantised rows. -/
def aK (i : Fin 256) (r : Fin 7168) : EReal :=
  qd (fun k => laneY (F := Ideal) U R M ⟨r.val / 128, by have := r.isLt; omega⟩ (ix2 i k)) ⟨r.val % 128, Nat.mod_lt _ (by decide)⟩
/-- One term of a product. -/
def term (i : Fin 256) (z : Fin 2304) (r : Fin 7168) : EReal :=
  aK U R M i r * (W (ix2 r z) * S (ix2 (⟨z.val / 128, by have := z.isLt; omega⟩ : Fin 18) (⟨r.val / 128, by have := r.isLt; omega⟩ : Fin 56)))
def at7168 (b : Fin 7) (r : Fin 1024) : Fin 7168 := ⟨b.val * 1024 + r.val, by have := b.isLt; have := r.isLt; omega⟩
def at2304 (n : Fin 9) (j : Fin 256) : Fin 2304 := ⟨256 * n.val + j.val, by have := n.isLt; have := j.isLt; omega⟩

theorem chunk_apply (b : Fin 7) (n : Fin 9) (i j : Fin 256) :
    gTile (F := Ideal) (deqC U R M b) (wBlk W b n) (sBlk S b n) (ix2 i j) = ∑ r : Fin 1024, term U R M W S i (at2304 n j) (at7168 b r) := by
  have hb := b.isLt
  have hn := n.isLt
  have hj := j.isLt
  refine (gTile_apply _ _ _ i j).trans (Finset.sum_congr rfl fun r _ => ?_)
  have hr := r.isLt
  unfold term
  refine congrArg₂ (· * ·) ?_ (congrArg₂ (· * ·) ?_ ?_)
  · unfold aK deqC
    refine (deq_apply _ i (lo8 r)).trans ?_
    have e1 : laneOf b (hi8 r) = (⟨(at7168 b r).val / 128, by have := (at7168 b r).isLt; omega⟩ : Fin 56) :=
      Fin.ext (by show 8 * b.val + r.val / 128 = (b.val * 1024 + r.val) / 128; omega)
    have e2 : lo8 r = (⟨(at7168 b r).val % 128, Nat.mod_lt _ (by decide)⟩ : Fin 128) :=
      Fin.ext (by show r.val % 128 = (b.val * 1024 + r.val) % 128; omega)
    exact congrArg₂ (fun l k => qd (fun k => laneY (F := Ideal) U R M l (ix2 i k)) k) e1 e2
  · refine congrArg W (funext fun a => Fin.ext ?_)
    fin_cases a
    · show 1024 * b.val + r.val = b.val * 1024 + r.val; omega
    · show 256 * n.val + j.val = 256 * n.val + j.val; rfl
  · refine congrArg S (funext fun a => Fin.ext ?_)
    fin_cases a
    · show 2 * n.val + j.val / 128 = (256 * n.val + j.val) / 128; omega
    · show 8 * b.val + r.val / 128 = (b.val * 1024 + r.val) / 128; omega

theorem acc_apply (n : Fin 9) (i j : Fin 256) : ∀ k : ℕ, k ≤ 7 →
    accV (F := Ideal) U R M W S n k (ix2 i j) = ∑ b ∈ Finset.range k, ∑ r : Fin 1024, term U R M W S i (at2304 n j) (at7168 (Ring.bk 7 b) r)
  | 0, _ => (Ideal.ofBits_zero_f32 : _)
  | k + 1, h => by
    rw [Finset.sum_range_succ, ← acc_apply n i j k (by omega), ← chunk_apply]
    rfl

theorem acc_sum (n : Fin 9) (i j : Fin 256) :
    accV (F := Ideal) U R M W S n 7 (ix2 i j) = ∑ r : Fin 7168, term U R M W S i (at2304 n j) r := by
  rw [acc_apply U R M W S n i j 7 le_rfl, Fin.sum_univ_tiles 7 1024 rfl, Finset.sum_range]
  refine Finset.sum_congr rfl fun b _ => Finset.sum_congr rfl fun r _ => ?_
  refine congrArg (term U R M W S i (at2304 n j)) (Fin.ext ?_)
  show (Ring.bk 7 b.val).val * 1024 + r.val = b.val * 1024 + r.val
  rw [Ring.bk_val (NB := 7) b.isLt]
end

end Cert.Proof.GateUp
end
-- ==== Proof.GuRefC.lean ====
/-
  The reference's quantiser of the hidden rows at an element.
-/
module

public import proofs.«01_k».proof.Proof.Gen.GateUpReferenceIdeal.Skeleton
public import proofs.«01_k».proof.Proof.GuQ
public import Idealize.ShloMosaic.Lib.Pointwise
public import Idealize.ShloMosaic.Lib.MatmulPlain

@[expose] public section

set_option maxRecDepth 16384

noncomputable section

namespace Cert.Proof.GateUp

open Idealize.ShloMosaic Idealize.ShloMosaic.TcCoe Idealize.SL.Sem
open scoped BigOperators
open Cert.GateUpReferenceIdeal Cert.GateUpReferenceIdeal.Gen

theorem hcast_in {e : Type} (v : S256x2304.Idx → e) (h : S256x2304.ShapeCasts S2x128x18x128) (b : Fin 2) (i : Fin 128) (l : Fin 18) (k : Fin 128) (x : Fin 256) (z : Fin 2304)
    (hx : x.val = b.val * 128 + i.val) (hz : z.val = l.val * 128 + k.val) :
    shapeCast S2x128x18x128 v h (ix4 b i l k) = v (ix2 x z) :=
  shapeCast_apply _ _ _ _ (by
    rw [Shape.rowMajor_val_two, Shape.rowMajor_val_four]
    show x.val * 2304 + z.val = ((b.val * 128 + i.val) * 18 + l.val) * 128 + k.val
    omega)
theorem hcast_out {e : Type} (v : S2x128x18x128.Idx → e) (h : S2x128x18x128.ShapeCasts S256x2304) (b : Fin 2) (i : Fin 128) (l : Fin 18) (k : Fin 128) (x : Fin 256) (z : Fin 2304)
    (hx : x.val = b.val * 128 + i.val) (hz : z.val = l.val * 128 + k.val) :
    shapeCast S256x2304 v h (ix2 x z) = v (ix4 b i l k) :=
  shapeCast_apply _ _ _ _ (by
    rw [Shape.rowMajor_val_two, Shape.rowMajor_val_four]
    show ((b.val * 128 + i.val) * 18 + l.val) * 128 + k.val = x.val * 2304 + z.val
    omega)
theorem hcol1 {e : Type} (v : S2x128x18.Idx → e) (h : S2x128x18.ShapeCasts S2x128x18x1) (b : Fin 2) (i : Fin 128) (l : Fin 18) :
    shapeCast S2x128x18x1 v h (ix4 b i l (0 : Fin 1)) = v (ix3 b i l) :=
  shapeCast_apply _ _ _ _ (by
    rw [Shape.rowMajor_val_three, Shape.rowMajor_val_four]
    show (b.val * 128 + i.val) * 18 + l.val = ((b.val * 128 + i.val) * 18 + l.val) * 1 + 0
    omega)
theorem hspread {e : Type} (v : S2x128x18x1.Idx → e) (h) (b : Fin 2) (i : Fin 128) (l : Fin 18) (k : Fin 128) :
    broadcastTo S2x128x18x128 v h (ix4 b i l k) = v (ix4 b i l (0 : Fin 1)) :=
  congrArg v (funext fun a => Fin.ext (by fin_cases a <;> rfl))

section
variable (a : FVec Ideal S256x7168 .bf16) (w w' : Vec Ideal S7168x2304 .fp8e4m3) (s s' : Vec Ideal S56x18 .f32)

theorem red18 (v : FVec Ideal S2x128x18x128 .f32) (b : Fin 2) (i : Fin 128) (l : Fin 18) :
    multiReduction .maximumf [3] S2x128x18 v 0xFF800000#32 reduces_S2x128x18x128_S2x128x18 (.inl rfl) rfl (ix3 b i l)
      = Finset.fold max (Ideal.ofBits FTy.f32 4286578688#32) (fun x : Fin 128 => v (ix4 b i l x)) Finset.univ :=
  (Ideal.multiReduction_maximumf_single v _ _ _ _ _).trans
    (congrArg (fun f : Fin 128 → EReal => Finset.fold max (Ideal.ofBits FTy.f32 4286578688#32) f Finset.univ)
      (funext fun k => congrArg v (funext fun a => Fin.ext (by fin_cases a <;> rfl))))
/-- The exponent, from the largest magnitudes. -/
theorem sel18 (N : FVec Ideal S2x128x18 .f32) (x : S2x128x18.Idx) :
    select (cmpf .oeq (mulf N (broadcast S2x128x18 (Scalar.ofBits .f32 0x3B124925#32))) (broadcast S2x128x18 (Scalar.ofBits .f32 0x00000000#32)))
      (broadcast S2x128x18 (Scalar.ofBits .f32 0x00000000#32))
      (addf (floor (divf (log (mulf N (broadcast S2x128x18 (Scalar.ofBits .f32 0x3B124925#32)))) (log (broadcast S2x128x18 (Scalar.ofBits .f32 0x40000000#32))))) (broadcast S2x128x18 (Scalar.ofBits .f32 0x3F800000#32))) x
    = (if N x * Ideal.ofBits FTy.f32 991054117#32 = 0 then 0 else Ideal.liftRound Int.floor (Ideal.div (Ideal.log (N x * Ideal.ofBits FTy.f32 991054117#32)) (Ideal.log (Ideal.ofBits FTy.f32 1073741824#32))) + 1 : EReal) := by
  pointwise
theorem exp18 (v : FVec Ideal S2x128x18 .f32) (x : S2x128x18.Idx) : exp2 v x = FloatOps.exp2 (F := Ideal) (φ := .f32) (v x) := rfl
/-- The inverse of the scale. -/
theorem inv18 (v : FVec Ideal S2x128x18 .f32) (x : S2x128x18.Idx) :
    exp2 (subf (broadcast S2x128x18 (Scalar.ofBits .f32 0x00000000#32)) v) x = FloatOps.exp2 (F := Ideal) (φ := .f32) (0 - v x) := by
  pointwise
/-- The exponent of a row, from its largest magnitude. -/
theorem qx18 (N : FVec Ideal S2x128x18 .f32) (x : S2x128x18.Idx) (v : Fin 128 → EReal)
    (e : N x = Finset.fold max (Ideal.ofBits FTy.f32 4286578688#32) (fun k : Fin 128 => FloatOps.absf (F := Ideal) (φ := .f32) (v k)) Finset.univ) :
    (if N x * Ideal.ofBits FTy.f32 991054117#32 = 0 then 0 else Ideal.liftRound Int.floor (Ideal.div (Ideal.log (N x * Ideal.ofBits FTy.f32 991054117#32)) (Ideal.log (Ideal.ofBits FTy.f32 1073741824#32))) + 1 : EReal) = qx v := by
  rw [e]; rfl
theorem p11_apply (b : Fin 2) (i : Fin 128) (l : Fin 18) :
    k0_pay11 (F := Ideal) a w s w' s' (ix3 b i l) = qx (fun k => k0_pay10 (F := Ideal) a w s w' s' (ix4 b i l k)) := by
  unfold k0_pay11
  generalize k0_pay10 (F := Ideal) a w s w' s' = y
  exact (sel18 _ _).trans (qx18 _ _ _ (red18 (absf y) b i l))
theorem p12_apply (b : Fin 2) (i : Fin 128) (l : Fin 18) :
    k0_pay12 (F := Ideal) a w s w' s' (ix3 b i l) = qs (fun k => k0_pay10 (F := Ideal) a w s w' s' (ix4 b i l k)) := by
  have h := p11_apply a w w' s s' b i l
  unfold k0_pay12 qs
  rw [← h]
  generalize k0_pay11 (F := Ideal) a w s w' s' = v
  exact exp18 v _
theorem p13_apply (b : Fin 2) (i : Fin 128) (l : Fin 18) :
    k0_pay13 (F := Ideal) a w s w' s' (ix4 b i l (0 : Fin 1)) = FloatOps.exp2 (F := Ideal) (φ := .f32) (0 - qx (fun k => k0_pay10 (F := Ideal) a w s w' s' (ix4 b i l k))) := by
  rw [← p11_apply]
  unfold k0_pay13
  generalize k0_pay11 (F := Ideal) a w s w' s' = x11
  exact (hcol1 _ _ b i l).trans (inv18 x11 _)
end
theorem p3_apply (v : FVec Ideal S2x128x18 .f32) (l : Fin 18) (b : Fin 2) (i : Fin 128) :
    k0_pay3 (F := Ideal) v (ix3 l b i) = v (ix3 b i l) := by
  unfold k0_pay3
  exact transpose_apply _ _ _ _ _ (fun a => by fin_cases a <;> rfl)
theorem p1_apply (v : FVec Ideal S2x128x18x128 .f32) (t : FVec Ideal S2x128x18x1 .f32) (i : Fin 256) (j : Fin 2304) :
    k0_pay1 (F := Ideal) v t (ix2 i j) = min (Ideal.ofBits FTy.f32 1138753536#32) (max (Ideal.ofBits FTy.f32 3286237184#32)
      (v (ix4 (⟨i.val / 128, by have := i.isLt; omega⟩ : Fin 2) (⟨i.val % 128, Nat.mod_lt _ (by decide)⟩ : Fin 128) (⟨j.val / 128, by have := j.isLt; omega⟩ : Fin 18) (⟨j.val % 128, Nat.mod_lt _ (by decide)⟩ : Fin 128))
        * t (ix4 (⟨i.val / 128, by have := i.isLt; omega⟩ : Fin 2) (⟨i.val % 128, Nat.mod_lt _ (by decide)⟩ : Fin 128) (⟨j.val / 128, by have := j.isLt; omega⟩ : Fin 18) (0 : Fin 1)))) := by
  unfold k0_pay1
  have e1 : i.val = i.val / 128 * 128 + i.val % 128 := by omega
  have e2 : j.val = j.val / 128 * 128 + j.val % 128 := by omega
  refine (hcast_out _ _ ⟨i.val / 128, by have := i.isLt; omega⟩ ⟨i.val % 128, Nat.mod_lt _ (by decide)⟩ ⟨j.val / 128, by have := j.isLt; omega⟩ ⟨j.val % 128, Nat.mod_lt _ (by decide)⟩ i j e1 e2).trans ?_
  exact congrArg (fun t => min (Ideal.ofBits FTy.f32 1138753536#32) (max (Ideal.ofBits FTy.f32 3286237184#32) (v _ * t))) (hspread _ _ _ _ _ _)
theorem p4_apply (v : FVec Ideal S2x128x18x128 .f32) (s : FVec Ideal S2x128x18 .f32) (t : FVec Ideal S2x128x18x1 .f32) (i : Fin 256) (j : Fin 2304) :
    k0_pay4 (F := Ideal) v s t (ix2 i j) = k0_pay1 (F := Ideal) v t (ix2 i j)
      * s (ix3 (⟨i.val / 128, by have := i.isLt; omega⟩ : Fin 2) (⟨i.val % 128, Nat.mod_lt _ (by decide)⟩ : Fin 128) (⟨j.val / 128, by have := j.isLt; omega⟩ : Fin 18)) := by
  unfold k0_pay4
  generalize k0_pay1 (F := Ideal) v t = c1
  have e1 : i.val = i.val / 128 * 128 + i.val % 128 := by omega
  have e2 : j.val = j.val / 128 * 128 + j.val % 128 := by omega
  refine (hcast_out _ _ ⟨i.val / 128, by have := i.isLt; omega⟩ ⟨i.val % 128, Nat.mod_lt _ (by decide)⟩ ⟨j.val / 128, by have := j.isLt; omega⟩ ⟨j.val % 128, Nat.mod_lt _ (by decide)⟩ i j e1 e2).trans ?_
  exact congrArg₂ (fun s t : EReal => s * t) (hcast_in _ _ _ _ _ _ i j e1 e2) ((hspread _ _ _ _ _ _).trans (hcol1 _ _ _ _ _))

end Cert.Proof.GateUp
end
-- ==== Proof.GuRefRun.lean ====
/-
  What the reference leaves: one block per result, written whole.
-/
module

public import proofs.«01_k».proof.Proof.Gen.GateUpReferenceIdeal.Frame
public import Idealize.ShloMosaic.Lib.Pipeline.ValueKit
public import Idealize.ShloMosaic.Lib.Pipeline.Value

@[expose] public section

noncomputable section

namespace Cert.Proof.GateUp.Ref

open Cert.GateUpReferenceIdeal Cert.GateUpReferenceIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The arguments, the third as a row. -/
abbrev X0 : Vec F S256x7168 .f32 := m ((c : Thread nD τ).loc main_arg0)
abbrev X1 : Vec F S256x1 .f32 := m ((c : Thread nD τ).loc main_arg1)
abbrev X2 : Vec F S1x7168 .f32 := shapeCast S1x7168 (m ((c : Thread nD τ).loc main_arg2) : Vec F S7168 .f32) shapeCasts_S7168_S1x7168
abbrev X3 : Vec F S7168x2304 .fp8e4m3 := m ((c : Thread nD τ).loc main_arg3)
abbrev X4 : Vec F S56x18 .f32 := m ((c : Thread nD τ).loc main_arg4)
abbrev X5 : Vec F S7168x2304 .fp8e4m3 := m ((c : Thread nD τ).loc main_arg5)
abbrev X6 : Vec F S56x18 .f32 := m ((c : Thread nD τ).loc main_arg6)

theorem V_main_v0 : (V m c main_v0 : Vec F S1x7168 .f32) = X2 m c := by
  unfold V Gen.hostOps0
  rfl

theorem idx0 : ∀ t : Fin cfg0.N, win0_0.index t (0 : Fin 2) = 0 ∧ win0_0.index t (1 : Fin 2) = 0 := (by decide +kernel : ∀ t : Fin grid0.N, _)
theorem blk0 : (iblk m c 0 t0_0 : Vec F S256x7168 .f32) = X0 m c := by
  refine Eq.trans ?_ (V_main_arg0 m c)
  funext (j : S256x7168.Idx)
  obtain ⟨e0, e1⟩ := idx0 t0_0
  unfold iblk
  refine congrArg (V m c (Pipeline.arrRef spec0 0) : S256x7168.Idx → Elt F .f32) (funext fun a => Fin.ext ?_)
  match a with
  | ⟨0, _⟩ => show win0_0.index t0_0 (0 : Fin 2) * 256 + 1 * (j 0).val = (j 0).val; omega
  | ⟨1, _⟩ => show win0_0.index t0_0 (1 : Fin 2) * 7168 + 1 * (j 1).val = (j 1).val; omega
theorem idx1 : ∀ t : Fin cfg0.N, win0_1.index t (0 : Fin 2) = 0 ∧ win0_1.index t (1 : Fin 2) = 0 := (by decide +kernel : ∀ t : Fin grid0.N, _)
theorem blk1 : (iblk m c 1 t0_0 : Vec F S256x1 .f32) = X1 m c := by
  refine Eq.trans ?_ (V_main_arg1 m c)
  funext (j : S256x1.Idx)
  obtain ⟨e0, e1⟩ := idx1 t0_0
  unfold iblk
  refine congrArg (V m c (Pipeline.arrRef spec0 1) : S256x1.Idx → Elt F .f32) (funext fun a => Fin.ext ?_)
  match a with
  | ⟨0, _⟩ => show win0_1.index t0_0 (0 : Fin 2) * 256 + 1 * (j 0).val = (j 0).val; omega
  | ⟨1, _⟩ => show win0_1.index t0_0 (1 : Fin 2) * 1 + 1 * (j 1).val = (j 1).val; omega
theorem idx2 : ∀ t : Fin cfg0.N, win0_2.index t (0 : Fin 2) = 0 ∧ win0_2.index t (1 : Fin 2) = 0 := (by decide +kernel : ∀ t : Fin grid0.N, _)
theorem blk2 : (iblk m c 2 t0_0 : Vec F S1x7168 .f32) = X2 m c := by
  refine Eq.trans ?_ (V_main_v0 m c)
  funext (j : S1x7168.Idx)
  obtain ⟨e0, e1⟩ := idx2 t0_0
  unfold iblk
  refine congrArg (V m c (Pipeline.arrRef spec0 2) : S1x7168.Idx → Elt F .f32) (funext fun a => Fin.ext ?_)
  match a with
  | ⟨0, _⟩ => show win0_2.index t0_0 (0 : Fin 2) * 1 + 1 * (j 0).val = (j 0).val; omega
  | ⟨1, _⟩ => show win0_2.index t0_0 (1 : Fin 2) * 7168 + 1 * (j 1).val = (j 1).val; omega
theorem idx3 : ∀ t : Fin cfg0.N, win0_3.index t (0 : Fin 2) = 0 ∧ win0_3.index t (1 : Fin 2) = 0 := (by decide +kernel : ∀ t : Fin grid0.N, _)
theorem blk3 : (iblk m c 3 t0_0 : Vec F S7168x2304 .fp8e4m3) = X3 m c := by
  refine Eq.trans ?_ (V_main_arg3 m c)
  funext (j : S7168x2304.Idx)
  obtain ⟨e0, e1⟩ := idx3 t0_0
  unfold iblk
  refine congrArg (V m c (Pipeline.arrRef spec0 3) : S7168x2304.Idx → Elt F .fp8e4m3) (funext fun a => Fin.ext ?_)
  match a with
  | ⟨0, _⟩ => show win0_3.index t0_0 (0 : Fin 2) * 7168 + 1 * (j 0).val = (j 0).val; omega
  | ⟨1, _⟩ => show win0_3.index t0_0 (1 : Fin 2) * 2304 + 1 * (j 1).val = (j 1).val; omega
theorem idx4 : ∀ t : Fin cfg0.N, win0_4.index t (0 : Fin 2) = 0 ∧ win0_4.index t (1 : Fin 2) = 0 := (by decide +kernel : ∀ t : Fin grid0.N, _)
theorem blk4 : (iblk m c 4 t0_0 : Vec F S56x18 .f32) = X4 m c := by
  refine Eq.trans ?_ (V_main_arg4 m c)
  funext (j : S56x18.Idx)
  obtain ⟨e0, e1⟩ := idx4 t0_0
  unfold iblk
  refine congrArg (V m c (Pipeline.arrRef spec0 4) : S56x18.Idx → Elt F .f32) (funext fun a => Fin.ext ?_)
  match a with
  | ⟨0, _⟩ => show win0_4.index t0_0 (0 : Fin 2) * 56 + 1 * (j 0).val = (j 0).val; omega
  | ⟨1, _⟩ => show win0_4.index t0_0 (1 : Fin 2) * 18 + 1 * (j 1).val = (j 1).val; omega
theorem idx5 : ∀ t : Fin cfg0.N, win0_5.index t (0 : Fin 2) = 0 ∧ win0_5.index t (1 : Fin 2) = 0 := (by decide +kernel : ∀ t : Fin grid0.N, _)
theorem blk5 : (iblk m c 5 t0_0 : Vec F S7168x2304 .fp8e4m3) = X5 m c := by
  refine Eq.trans ?_ (V_main_arg5 m c)
  funext (j : S7168x2304.Idx)
  obtain ⟨e0, e1⟩ := idx5 t0_0
  unfold iblk
  refine congrArg (V m c (Pipeline.arrRef spec0 5) : S7168x2304.Idx → Elt F .fp8e4m3) (funext fun a => Fin.ext ?_)
  match a with
  | ⟨0, _⟩ => show win0_5.index t0_0 (0 : Fin 2) * 7168 + 1 * (j 0).val = (j 0).val; omega
  | ⟨1, _⟩ => show win0_5.index t0_0 (1 : Fin 2) * 2304 + 1 * (j 1).val = (j 1).val; omega
theorem idx6 : ∀ t : Fin cfg0.N, win0_6.index t (0 : Fin 2) = 0 ∧ win0_6.index t (1 : Fin 2) = 0 := (by decide +kernel : ∀ t : Fin grid0.N, _)
theorem blk6 : (iblk m c 6 t0_0 : Vec F S56x18 .f32) = X6 m c := by
  refine Eq.trans ?_ (V_main_arg6 m c)
  funext (j : S56x18.Idx)
  obtain ⟨e0, e1⟩ := idx6 t0_0
  unfold iblk
  refine congrArg (V m c (Pipeline.arrRef spec0 6) : S56x18.Idx → Elt F .f32) (funext fun a => Fin.ext ?_)
  match a with
  | ⟨0, _⟩ => show win0_6.index t0_0 (0 : Fin 2) * 56 + 1 * (j 0).val = (j 0).val; omega
  | ⟨1, _⟩ => show win0_6.index t0_0 (1 : Fin 2) * 18 + 1 * (j 1).val = (j 1).val; omega

theorem hz2 : (![0, 0] : Fin 2 → ℕ) = fun _ => 0 := by funext a; fin_cases a <;> rfl
theorem hz3 : (![0, 0, 0] : Fin 3 → ℕ) = fun _ => 0 := by funext a; fin_cases a <;> rfl

/-- The dequantised rows, the hidden rows, their scales and the inverses. -/
abbrev DA : Vec F S256x7168 .bf16 := k0_pay9 (X0 m c) (X1 m c) (X2 m c)
abbrev HH : Vec F S2x128x18x128 .f32 := k0_pay10 (DA m c) (X3 m c) (X4 m c) (X5 m c) (X6 m c)
abbrev HS : Vec F S2x128x18 .f32 := k0_pay12 (DA m c) (X3 m c) (X4 m c) (X5 m c) (X6 m c)
abbrev HI : Vec F S2x128x18x1 .f32 := k0_pay13 (DA m c) (X3 m c) (X4 m c) (X5 m c) (X6 m c)

section Outs
variable (x0 : Vec F S256x7168 .f32) (x1 : Vec F S256x1 .f32) (x2 : Vec F S1x7168 .f32) (x3 : Vec F S7168x2304 .fp8e4m3) (x4 : Vec F S56x18 .f32) (x5 : Vec F S7168x2304 .fp8e4m3) (x6 : Vec F S56x18 .f32)
theorem pay14_eq : k0_pay14 x0 x1 x2 x3 x4 x5 x6 = k0_pay9 x0 x1 x2 := by
  unfold k0_pay14
  rw [View.ld_unit_zero (S := S256x7168) hz2 _ x0, View.ld_unit_zero (S := S256x1) hz2 _ x1, View.ld_unit_zero (S := S1x7168) hz2 _ x2]
theorem pay15_eq : k0_pay15 x0 x1 x2 x3 x4 x5 x6 = k0_pay10 (k0_pay9 x0 x1 x2) x3 x4 x5 x6 := by
  unfold k0_pay15
  rw [pay14_eq, View.ld_unit_zero (S := S7168x2304) hz2 _ x3, View.ld_unit_zero (S := S56x18) hz2 _ x4, View.ld_unit_zero (S := S7168x2304) hz2 _ x5, View.ld_unit_zero (S := S56x18) hz2 _ x6]
theorem pay16_eq : k0_pay16 x0 x1 x2 x3 x4 x5 x6 = k0_pay12 (k0_pay9 x0 x1 x2) x3 x4 x5 x6 := by
  unfold k0_pay16
  rw [pay14_eq, View.ld_unit_zero (S := S7168x2304) hz2 _ x3, View.ld_unit_zero (S := S56x18) hz2 _ x4, View.ld_unit_zero (S := S7168x2304) hz2 _ x5, View.ld_unit_zero (S := S56x18) hz2 _ x6]
theorem pay17_eq : k0_pay17 x0 x1 x2 x3 x4 x5 x6 = k0_pay13 (k0_pay9 x0 x1 x2) x3 x4 x5 x6 := by
  unfold k0_pay17
  rw [pay14_eq, View.ld_unit_zero (S := S7168x2304) hz2 _ x3, View.ld_unit_zero (S := S56x18) hz2 _ x4, View.ld_unit_zero (S := S7168x2304) hz2 _ x5, View.ld_unit_zero (S := S56x18) hz2 _ x6]
theorem out7_eq : out0_7 x0 x1 x2 x3 x4 x5 x6 = k0_pay8 x0 x1 x2 := by
  unfold out0_7
  rw [View.ld_unit_zero (S := S256x7168) hz2 _ x0, View.ld_unit_zero (S := S256x1) hz2 _ x1, View.ld_unit_zero (S := S1x7168) hz2 _ x2]
  exact View.canon_unit_zero (S := S256x7168) hz2 _ _
theorem out8_eq : out0_8 x0 x1 x2 x3 x4 x5 x6 = k0_pay2 (k0_pay7 x0 x1 x2) := by
  unfold out0_8
  rw [View.ld_unit_zero (S := S256x7168) hz2 _ x0, View.ld_unit_zero (S := S256x1) hz2 _ x1, View.ld_unit_zero (S := S1x7168) hz2 _ x2]
  exact View.canon_unit_zero (S := S2x56x128) hz3 _ _
theorem out9_eq : out0_9 x0 x1 x2 x3 x4 x5 x6 = k0_pay1 (k0_pay10 (k0_pay9 x0 x1 x2) x3 x4 x5 x6) (k0_pay13 (k0_pay9 x0 x1 x2) x3 x4 x5 x6) := by
  unfold out0_9
  rw [pay15_eq, pay17_eq]
  exact View.canon_unit_zero (S := S256x2304) hz2 _ _
theorem out10_eq : out0_10 x0 x1 x2 x3 x4 x5 x6 = k0_pay3 (k0_pay12 (k0_pay9 x0 x1 x2) x3 x4 x5 x6) := by
  unfold out0_10
  rw [pay16_eq]
  exact View.canon_unit_zero (S := S18x2x128) hz3 _ _
theorem out11_eq : out0_11 x0 x1 x2 x3 x4 x5 x6 = k0_pay4 (k0_pay10 (k0_pay9 x0 x1 x2) x3 x4 x5 x6) (k0_pay12 (k0_pay9 x0 x1 x2) x3 x4 x5 x6) (k0_pay13 (k0_pay9 x0 x1 x2) x3 x4 x5 x6) := by
  unfold out0_11
  rw [pay15_eq, pay16_eq, pay17_eq]
  exact View.canon_unit_zero (S := S256x2304) hz2 _ _
end Outs

theorem val7 : out0_7 (iblk m c 0 t0_0) (iblk m c 1 t0_0) (iblk m c 2 t0_0) (iblk m c 3 t0_0) (iblk m c 4 t0_0) (iblk m c 5 t0_0) (iblk m c 6 t0_0) = k0_pay8 (X0 m c) (X1 m c) (X2 m c) := by
  refine (out7_eq (iblk m c 0 t0_0) (iblk m c 1 t0_0) (iblk m c 2 t0_0) (iblk m c 3 t0_0) (iblk m c 4 t0_0) (iblk m c 5 t0_0) (iblk m c 6 t0_0)).trans ?_
  rw [blk0, blk1, blk2]
theorem last7 : (dats m 0 c).arrAt 7 cfg0.N = (k0_pay8 (X0 m c) (X1 m c) (X2 m c) : Vec F S256x7168 .fp8e4m3) := by
  refine ((dats m 0 c).arrAt_eq_of_after_last 7 t0_0 (by decide +kernel) (k0_pay8 (X0 m c) (X1 m c) (X2 m c) : Vec F S256x7168 .fp8e4m3) (fun j => ?_))
  rw [after0_7, val7]
  generalize (k0_pay8 (X0 m c) (X1 m c) (X2 m c) : Vec F S256x7168 .fp8e4m3) = v
  rfl
theorem val8 : out0_8 (iblk m c 0 t0_0) (iblk m c 1 t0_0) (iblk m c 2 t0_0) (iblk m c 3 t0_0) (iblk m c 4 t0_0) (iblk m c 5 t0_0) (iblk m c 6 t0_0) = k0_pay2 (k0_pay7 (X0 m c) (X1 m c) (X2 m c)) := by
  refine (out8_eq (iblk m c 0 t0_0) (iblk m c 1 t0_0) (iblk m c 2 t0_0) (iblk m c 3 t0_0) (iblk m c 4 t0_0) (iblk m c 5 t0_0) (iblk m c 6 t0_0)).trans ?_
  rw [blk0, blk1, blk2]
theorem last8 : (dats m 0 c).arrAt 8 cfg0.N = (k0_pay2 (k0_pay7 (X0 m c) (X1 m c) (X2 m c)) : Vec F S2x56x128 .f32) := by
  refine ((dats m 0 c).arrAt_eq_of_after_last 8 t0_0 (by decide +kernel) (k0_pay2 (k0_pay7 (X0 m c) (X1 m c) (X2 m c)) : Vec F S2x56x128 .f32) (fun j => ?_))
  rw [after0_8, val8]
  generalize (k0_pay2 (k0_pay7 (X0 m c) (X1 m c) (X2 m c)) : Vec F S2x56x128 .f32) = v
  rfl
theorem val9 : out0_9 (iblk m c 0 t0_0) (iblk m c 1 t0_0) (iblk m c 2 t0_0) (iblk m c 3 t0_0) (iblk m c 4 t0_0) (iblk m c 5 t0_0) (iblk m c 6 t0_0) = k0_pay1 (HH m c) (HI m c) := by
  refine (out9_eq (iblk m c 0 t0_0) (iblk m c 1 t0_0) (iblk m c 2 t0_0) (iblk m c 3 t0_0) (iblk m c 4 t0_0) (iblk m c 5 t0_0) (iblk m c 6 t0_0)).trans ?_
  rw [blk0, blk1, blk2, blk3, blk4, blk5, blk6]
theorem last9 : (dats m 0 c).arrAt 9 cfg0.N = (k0_pay1 (HH m c) (HI m c) : Vec F S256x2304 .fp8e4m3) := by
  refine ((dats m 0 c).arrAt_eq_of_after_last 9 t0_0 (by decide +kernel) (k0_pay1 (HH m c) (HI m c) : Vec F S256x2304 .fp8e4m3) (fun j => ?_))
  rw [after0_9, val9]
  generalize (k0_pay1 (HH m c) (HI m c) : Vec F S256x2304 .fp8e4m3) = v
  rfl
theorem val10 : out0_10 (iblk m c 0 t0_0) (iblk m c 1 t0_0) (iblk m c 2 t0_0) (iblk m c 3 t0_0) (iblk m c 4 t0_0) (iblk m c 5 t0_0) (iblk m c 6 t0_0) = k0_pay3 (HS m c) := by
  refine (out10_eq (iblk m c 0 t0_0) (iblk m c 1 t0_0) (iblk m c 2 t0_0) (iblk m c 3 t0_0) (iblk m c 4 t0_0) (iblk m c 5 t0_0) (iblk m c 6 t0_0)).trans ?_
  rw [blk0, blk1, blk2, blk3, blk4, blk5, blk6]
theorem last10 : (dats m 0 c).arrAt 10 cfg0.N = (k0_pay3 (HS m c) : Vec F S18x2x128 .f32) := by
  refine ((dats m 0 c).arrAt_eq_of_after_last 10 t0_0 (by decide +kernel) (k0_pay3 (HS m c) : Vec F S18x2x128 .f32) (fun j => ?_))
  rw [after0_10, val10]
  generalize (k0_pay3 (HS m c) : Vec F S18x2x128 .f32) = v
  rfl
theorem val11 : out0_11 (iblk m c 0 t0_0) (iblk m c 1 t0_0) (iblk m c 2 t0_0) (iblk m c 3 t0_0) (iblk m c 4 t0_0) (iblk m c 5 t0_0) (iblk m c 6 t0_0) = k0_pay4 (HH m c) (HS m c) (HI m c) := by
  refine (out11_eq (iblk m c 0 t0_0) (iblk m c 1 t0_0) (iblk m c 2 t0_0) (iblk m c 3 t0_0) (iblk m c 4 t0_0) (iblk m c 5 t0_0) (iblk m c 6 t0_0)).trans ?_
  rw [blk0, blk1, blk2, blk3, blk4, blk5, blk6]
theorem last11 : (dats m 0 c).arrAt 11 cfg0.N = (k0_pay4 (HH m c) (HS m c) (HI m c) : Vec F S256x2304 .bf16) := by
  refine ((dats m 0 c).arrAt_eq_of_after_last 11 t0_0 (by decide +kernel) (k0_pay4 (HH m c) (HS m c) (HI m c) : Vec F S256x2304 .bf16) (fun j => ?_))
  rw [after0_11, val11]
  generalize (k0_pay4 (HH m c) (HS m c) (HI m c) : Vec F S256x2304 .bf16) = v
  rfl

/-- The reference's run: each result is one value of the arguments, and the arguments stay. -/
theorem run : θ_run defs (onTc (τ := τ) (main (F := F))) ⟨m, fun _ => 0, ρ⟩ fun r => ∀ c : Dev nD,
      r.2.mem ((c : Thread nD τ).loc main_v1_0) = (k0_pay8 (X0 m c) (X1 m c) (X2 m c) : Vec F S256x7168 .fp8e4m3)
      ∧ r.2.mem ((c : Thread nD τ).loc main_v1_1) = (k0_pay2 (k0_pay7 (X0 m c) (X1 m c) (X2 m c)) : Vec F S2x56x128 .f32)
      ∧ r.2.mem ((c : Thread nD τ).loc main_v1_2) = (k0_pay1 (HH m c) (HI m c) : Vec F S256x2304 .fp8e4m3)
      ∧ r.2.mem ((c : Thread nD τ).loc main_v1_3) = (k0_pay3 (HS m c) : Vec F S18x2x128 .f32)
      ∧ r.2.mem ((c : Thread nD τ).loc main_v1_4) = (k0_pay4 (HH m c) (HS m c) (HI m c) : Vec F S256x2304 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (last7 m c),
      ((h c).1 8).trans (last8 m c),
      ((h c).1 9).trans (last9 m c),
      ((h c).1 10).trans (last10 m c),
      ((h c).1 11).trans (last11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Proof.GateUp.Ref
end
-- ==== Proof.GuValue.lean ====
/-
  Kernel and reference agree over the extended reals: codes, scales and dequantised values of the rows and of the hidden rows.
-/
module

public import proofs.«01_k».proof.Proof.GuFrames
public import proofs.«01_k».proof.Proof.GuArgs
public import proofs.«01_k».proof.Proof.GuProd
public import proofs.«01_k».proof.Proof.GuRefC
public import proofs.«01_k».proof.Proof.GuRefRun
public import Idealize.ShloMosaic.Lib.Pointwise

@[expose] public section

set_option maxRecDepth 16384

noncomputable section

namespace Cert.Proof.GateUp

open Cert.GateUp Cert.GateUp.Gen
open Idealize.ShloMosaic Idealize.ShloMosaic.TcCoe Idealize.SL.Sem
open scoped BigOperators

local notation "R1x7168" => Cert.GateUpReferenceIdeal.S1x7168
local notation "R2x128x56" => Cert.GateUpReferenceIdeal.S2x128x56
local notation "R2x128x18" => Cert.GateUpReferenceIdeal.S2x128x18
local notation "R2x128x18x1" => Cert.GateUpReferenceIdeal.S2x128x18x1
local notation "R2x128x18x128" => Cert.GateUpReferenceIdeal.S2x128x18x128

theorem halfOf_apply (h : Fin 2) (v : FVec Ideal S256x256 .f32) (i : Fin 256) (k : Fin 128) (q : Fin 256) (hq : q.val = 128 * h.val + k.val) :
    halfOf (F := Ideal) h v (ix2 i k) = v (ix2 i q) := by
  unfold halfOf
  fin_cases h
  · refine congrArg v (funext fun a => Fin.ext ?_)
    fin_cases a
    · show 0 + i.val = i.val; omega
    · have : q.val = 128 * 0 + k.val := hq
      show 0 + k.val = q.val; omega
  · refine congrArg v (funext fun a => Fin.ext ?_)
    fin_cases a
    · show 0 + i.val = i.val; omega
    · have : q.val = 128 * 1 + k.val := hq
      show 128 + k.val = q.val; omega

theorem hmOf_apply (g p : FVec Ideal S256x256 .f32) (i j : Fin 256) : hmOf (F := Ideal) g p (ix2 i j) = hid (g (ix2 i j)) (p (ix2 i j)) := rfl

/-! ## The hidden rows -/

section Hidden
variable (U : Vec Ideal S56x256x128 .f32) (R : Vec Ideal S256x128 .f32) (M : Vec Ideal S56x128 .f32)
  (WG WU : Vec Ideal S7168x2304 .fp8e4m3) (SG SU : Vec Ideal S18x56 .f32)
  (D : FVec Ideal S256x7168 .bf16) (s s' : Vec Ideal S56x18 .f32)

theorem acc_prod (W : Vec Ideal S7168x2304 .fp8e4m3) (S : Vec Ideal S18x56 .f32) (s : Vec Ideal S56x18 .f32)
    (hA : ∀ i r, aK U R M i r = D (ix2 i r)) (hS : ∀ (a : Fin 18) (b : Fin 56), S (ix2 a b) = s (ix2 b a)) (n : Fin 9) (i j : Fin 256) :
    accV (F := Ideal) U R M W S n 7 (ix2 i j) = prod (fun i r => D (ix2 i r)) W s i (at2304 n j) := by
  rw [acc_sum]
  unfold prod term
  refine Finset.sum_congr rfl fun r _ => ?_
  rw [hA, hS]

theorem hl_apply (hA : ∀ i r, aK U R M i r = D (ix2 i r)) (hS : ∀ (a : Fin 18) (b : Fin 56), SG (ix2 a b) = s (ix2 b a)) (hS' : ∀ (a : Fin 18) (b : Fin 56), SU (ix2 a b) = s' (ix2 b a))
    (b : Fin 2) (i : Fin 128) (l : Fin 18) (k : Fin 128) (x : Fin 256) (hx : x.val = b.val * 128 + i.val) :
    hlV (F := Ideal) U R M WG WU SG SU l (ix2 x k)
      = Cert.GateUpReferenceIdeal.Gen.k0_pay10 (F := Ideal) D WG s WU s' (ix4 b i l k) := by
  have hl := l.isLt
  have hk := k.isLt
  have hp : (partOf l).val = l.val % 2 := rfl
  have ht : (tileOf l).val = l.val / 2 := rfl
  refine Eq.trans ?_ (p10_apply D WG WU s s' b i l k x (at2304 (tileOf l) (⟨128 * (partOf l).val + k.val, by omega⟩ : Fin 256)) hx (by
    show 256 * (tileOf l).val + (128 * (partOf l).val + k.val) = l.val * 128 + k.val; omega)).symm
  unfold hlV hmV
  refine (halfOf_apply _ _ x k (⟨128 * (partOf l).val + k.val, by omega⟩ : Fin 256) rfl).trans ?_
  rw [hmOf_apply, acc_prod U R M D WG SG s hA hS, acc_prod U R M D WU SU s' hA hS']
end Hidden

/-! ## The results from the hidden rows -/

section Quantised
variable (H : Fin 18 → FVec Ideal S256x128 .f32) (V : FVec Ideal R2x128x18x128 .f32) (T : FVec Ideal R2x128x18 .f32) (I : FVec Ideal R2x128x18x1 .f32)
  (hH : ∀ (b : Fin 2) (i : Fin 128) (l : Fin 18) (k : Fin 128) (x : Fin 256), x.val = b.val * 128 + i.val → H l (ix2 x k) = V (ix4 b i l k))
  (hT : ∀ (b : Fin 2) (i : Fin 128) (l : Fin 18), T (ix3 b i l) = qs (fun k => V (ix4 b i l k)))
  (hI : ∀ (b : Fin 2) (i : Fin 128) (l : Fin 18), I (ix4 b i l (0 : Fin 1)) = FloatOps.exp2 (F := Ideal) (φ := .f32) (0 - qx (fun k => V (ix4 b i l k))))

include hH in
theorem row_eq (b : Fin 2) (i : Fin 128) (l : Fin 18) (x : Fin 256) (hx : x.val = b.val * 128 + i.val) :
    (fun k => H l (ix2 x k)) = fun k => V (ix4 b i l k) := funext fun k => hH b i l k x hx

include hH hI in
theorem codes_eq (i : Fin 256) (j : Fin 2304) :
    Cert.GateUpReferenceIdeal.Gen.k0_pay1 (F := Ideal) V I (ix2 i j) = codv (H (hi18 j)) (ix2 i (lo18 j)) := by
  rw [p1_apply, hI, cod_apply, row_eq H V hH ⟨i.val / 128, by have := i.isLt; omega⟩ ⟨i.val % 128, Nat.mod_lt _ (by decide)⟩ (hi18 j) i (by show i.val = i.val / 128 * 128 + i.val % 128; omega)]
  rfl
include hH hT in
theorem scale_eq (i : Fin 256) (l : Fin 18) (j : Fin 128) (b : Fin 2) (i' : Fin 128) (hi : i.val = b.val * 128 + i'.val) :
    T (ix3 b i' l) = scv (H l) (ix2 i j) := by
  rw [hT, sc_apply, row_eq H V hH b i' l i hi]
include hH hI hT in
theorem values_eq (i : Fin 256) (j : Fin 2304) :
    Cert.GateUpReferenceIdeal.Gen.k0_pay4 (F := Ideal) V T I (ix2 i j) = deqv (H (hi18 j)) (ix2 i (lo18 j)) := by
  rw [p4_apply, codes_eq H V I hH hI, deq_apply, cod_apply, hT, row_eq H V hH ⟨i.val / 128, by have := i.isLt; omega⟩ ⟨i.val % 128, Nat.mod_lt _ (by decide)⟩ (hi18 j) i (by show i.val = i.val / 128 * 128 + i.val % 128; omega)]
  rfl
end Quantised

/-! ## The five results -/

section Results
variable (m : (ℓ : Loc nD τ sig) → Buf (Elt Ideal) ℓ) (c : Dev nD)
  (x0 : Vec Ideal S256x7168 .f32) (x1 : Vec Ideal S256x1 .f32) (a2 : Vec Ideal S7168 .f32) (x3 x5 : Vec Ideal S7168x2304 .fp8e4m3) (x4 x6 : Vec Ideal S56x18 .f32)
  (h0 : x0 = kA0 m c) (h1 : x1 = kA1 m c) (h2 : a2 = kA2 m c) (h3 : x3 = kA3 m c) (h4 : x4 = kA4 m c) (h5 : x5 = kA5 m c) (h6 : x6 = kA6 m c)

/-- The third argument as a row. -/
abbrev asRow (a2 : Vec Ideal S7168 .f32) : Vec Ideal R1x7168 .f32 := shapeCast R1x7168 a2 Cert.GateUpReferenceIdeal.Gen.shapeCasts_S7168_S1x7168
theorem asRow_apply (z : Fin 7168) : asRow a2 (ix2 (0 : Fin 1) z) = a2 (ix1 z) :=
  shapeCast_apply _ _ _ _ (by
    rw [Shape.rowMajor_val_two, Shape.rowMajor_val_one]
    show z.val = 0 * 7168 + z.val
    omega)

include h0 h1 h2 in
theorem lane_row (i : Fin 256) (l : Fin 56) :
    (fun k => laneY (F := Ideal) (uB m c) (rB m c) (mB m c) l (ix2 i k)) = row56 (yr x0 x1 (asRow a2)) i l := by
  funext k
  have hl := l.isLt
  have hk := k.isLt
  have hz : l.val * 128 + k.val < 7168 := by omega
  rw [lane_apply, uB_apply m c l i k ⟨_, hz⟩ rfl, rB_apply, mB_apply m c l k ⟨_, hz⟩ rfl, ← h0, ← h1, ← h2]
  unfold row56 yr
  rw [asRow_apply]
include h0 h1 h2 in
theorem aK_eq (i : Fin 256) (r : Fin 7168) :
    aK (uB m c) (rB m c) (mB m c) i r = Cert.GateUpReferenceIdeal.Gen.k0_pay9 (F := Ideal) x0 x1 (asRow a2) (ix2 i r) := by
  rw [p9_apply]
  unfold aK
  rw [lane_row m c x0 x1 a2 h0 h1 h2]

include h0 h1 h2 in
theorem res0 : Cert.GateUpReferenceIdeal.Gen.k0_pay8 (F := Ideal) x0 x1 (asRow a2) = rAc m c := by
  funext (y : S256x7168.Idx)
  obtain ⟨i, j, rfl⟩ : ∃ (i : Fin 256) (j : Fin 7168), y = ix2 i j := ⟨y 0, y 1, by funext a; fin_cases a <;> rfl⟩
  refine (p8_apply x0 x1 (asRow a2) i j).trans ?_
  rw [← lane_row m c x0 x1 a2 h0 h1 h2]
  exact (cod_apply _ i _).symm
include h0 h1 h2 in
theorem res1 : Cert.GateUpReferenceIdeal.Gen.k0_pay2 (F := Ideal) (Cert.GateUpReferenceIdeal.Gen.k0_pay7 (F := Ideal) x0 x1 (asRow a2)) = rAs m c := by
  funext (y : S2x56x128.Idx)
  obtain ⟨b, l, i, rfl⟩ : ∃ (b : Fin 2) (l : Fin 56) (i : Fin 128), y = ix3 b l i := ⟨y 0, y 1, y 2, by funext a; fin_cases a <;> rfl⟩
  refine (p2_apply _ b l i).trans ((p7_apply x0 x1 (asRow a2) b i l).trans ?_)
  rw [← lane_row m c x0 x1 a2 h0 h1 h2]
  have e : at256 b i = (⟨128 * b.val + i.val, by have := b.isLt; have := i.isLt; omega⟩ : Fin 256) :=
    Fin.ext (by show b.val * 128 + i.val = 128 * b.val + i.val; omega)
  rw [e]
  exact (sc_apply _ _ _).symm

include h0 h1 h2 h3 h4 h5 h6 in
theorem hid_eq (b : Fin 2) (i : Fin 128) (l : Fin 18) (k : Fin 128) (x : Fin 256) (hx : x.val = b.val * 128 + i.val) :
    hlV (F := Ideal) (uB m c) (rB m c) (mB m c) (wgB m c) (wuB m c) (sgB m c) (suB m c) l (ix2 x k)
      = Cert.GateUpReferenceIdeal.Gen.k0_pay10 (F := Ideal) (Cert.GateUpReferenceIdeal.Gen.k0_pay9 (F := Ideal) x0 x1 (asRow a2)) x3 x4 x5 x6 (ix4 b i l k) := by
  have hA := aK_eq m c x0 x1 a2 h0 h1 h2
  generalize Cert.GateUpReferenceIdeal.Gen.k0_pay9 (F := Ideal) x0 x1 (asRow a2) = D at hA ⊢
  rw [wgB_eq, wuB_eq, ← h3, ← h5]
  exact hl_apply (uB m c) (rB m c) (mB m c) x3 x5 (sgB m c) (suB m c) D x4 x6 hA
    (fun a b => (sgB_apply m c a b).trans (congrFun h4.symm _)) (fun a b => (suB_apply m c a b).trans (congrFun h6.symm _)) b i l k x hx

include h0 h1 h2 h3 h4 h5 h6 in
theorem res2 : Cert.GateUpReferenceIdeal.Gen.k0_pay1 (F := Ideal) (Cert.GateUpReferenceIdeal.Gen.k0_pay10 (F := Ideal) (Cert.GateUpReferenceIdeal.Gen.k0_pay9 (F := Ideal) x0 x1 (asRow a2)) x3 x4 x5 x6) (Cert.GateUpReferenceIdeal.Gen.k0_pay13 (F := Ideal) (Cert.GateUpReferenceIdeal.Gen.k0_pay9 (F := Ideal) x0 x1 (asRow a2)) x3 x4 x5 x6) = rHc m c := by
  funext (y : S256x2304.Idx)
  obtain ⟨i, j, rfl⟩ : ∃ (i : Fin 256) (j : Fin 2304), y = ix2 i j := ⟨y 0, y 1, by funext a; fin_cases a <;> rfl⟩
  have hH := hid_eq m c x0 x1 a2 x3 x5 x4 x6 h0 h1 h2 h3 h4 h5 h6
  have hI := fun b i l => p13_apply (Cert.GateUpReferenceIdeal.Gen.k0_pay9 (F := Ideal) x0 x1 (asRow a2)) x3 x5 x4 x6 b i l
  generalize Cert.GateUpReferenceIdeal.Gen.k0_pay13 (F := Ideal) (Cert.GateUpReferenceIdeal.Gen.k0_pay9 (F := Ideal) x0 x1 (asRow a2)) x3 x4 x5 x6 = I at hI ⊢
  generalize Cert.GateUpReferenceIdeal.Gen.k0_pay10 (F := Ideal) (Cert.GateUpReferenceIdeal.Gen.k0_pay9 (F := Ideal) x0 x1 (asRow a2)) x3 x4 x5 x6 = V at hI hH ⊢
  exact codes_eq _ V I hH hI i j
include h0 h1 h2 h3 h4 h5 h6 in
theorem res3 : Cert.GateUpReferenceIdeal.Gen.k0_pay3 (F := Ideal) (Cert.GateUpReferenceIdeal.Gen.k0_pay12 (F := Ideal) (Cert.GateUpReferenceIdeal.Gen.k0_pay9 (F := Ideal) x0 x1 (asRow a2)) x3 x4 x5 x6) = rHs m c := by
  funext (y : S18x2x128.Idx)
  obtain ⟨l, b, i, rfl⟩ : ∃ (l : Fin 18) (b : Fin 2) (i : Fin 128), y = ix3 l b i := ⟨y 0, y 1, y 2, by funext a; fin_cases a <;> rfl⟩
  refine (p3_apply _ l b i).trans ?_
  have hH := hid_eq m c x0 x1 a2 x3 x5 x4 x6 h0 h1 h2 h3 h4 h5 h6
  have hT := fun b i l => p12_apply (Cert.GateUpReferenceIdeal.Gen.k0_pay9 (F := Ideal) x0 x1 (asRow a2)) x3 x5 x4 x6 b i l
  generalize Cert.GateUpReferenceIdeal.Gen.k0_pay12 (F := Ideal) (Cert.GateUpReferenceIdeal.Gen.k0_pay9 (F := Ideal) x0 x1 (asRow a2)) x3 x4 x5 x6 = T at hT ⊢
  generalize Cert.GateUpReferenceIdeal.Gen.k0_pay10 (F := Ideal) (Cert.GateUpReferenceIdeal.Gen.k0_pay9 (F := Ideal) x0 x1 (asRow a2)) x3 x4 x5 x6 = V at hT hH
  exact scale_eq _ V T hH hT _ l _ b i (by show 128 * b.val + i.val = b.val * 128 + i.val; omega)
include h0 h1 h2 h3 h4 h5 h6 in
theorem res4 : Cert.GateUpReferenceIdeal.Gen.k0_pay4 (F := Ideal) (Cert.GateUpReferenceIdeal.Gen.k0_pay10 (F := Ideal) (Cert.GateUpReferenceIdeal.Gen.k0_pay9 (F := Ideal) x0 x1 (asRow a2)) x3 x4 x5 x6) (Cert.GateUpReferenceIdeal.Gen.k0_pay12 (F := Ideal) (Cert.GateUpReferenceIdeal.Gen.k0_pay9 (F := Ideal) x0 x1 (asRow a2)) x3 x4 x5 x6) (Cert.GateUpReferenceIdeal.Gen.k0_pay13 (F := Ideal) (Cert.GateUpReferenceIdeal.Gen.k0_pay9 (F := Ideal) x0 x1 (asRow a2)) x3 x4 x5 x6) = rHd m c := by
  funext (y : S256x2304.Idx)
  obtain ⟨i, j, rfl⟩ : ∃ (i : Fin 256) (j : Fin 2304), y = ix2 i j := ⟨y 0, y 1, by funext a; fin_cases a <;> rfl⟩
  have hH := hid_eq m c x0 x1 a2 x3 x5 x4 x6 h0 h1 h2 h3 h4 h5 h6
  have hI := fun b i l => p13_apply (Cert.GateUpReferenceIdeal.Gen.k0_pay9 (F := Ideal) x0 x1 (asRow a2)) x3 x5 x4 x6 b i l
  have hT := fun b i l => p12_apply (Cert.GateUpReferenceIdeal.Gen.k0_pay9 (F := Ideal) x0 x1 (asRow a2)) x3 x5 x4 x6 b i l
  generalize Cert.GateUpReferenceIdeal.Gen.k0_pay13 (F := Ideal) (Cert.GateUpReferenceIdeal.Gen.k0_pay9 (F := Ideal) x0 x1 (asRow a2)) x3 x4 x5 x6 = I at hI ⊢
  generalize Cert.GateUpReferenceIdeal.Gen.k0_pay12 (F := Ideal) (Cert.GateUpReferenceIdeal.Gen.k0_pay9 (F := Ideal) x0 x1 (asRow a2)) x3 x4 x5 x6 = T at hT ⊢
  generalize Cert.GateUpReferenceIdeal.Gen.k0_pay10 (F := Ideal) (Cert.GateUpReferenceIdeal.Gen.k0_pay9 (F := Ideal) x0 x1 (asRow a2)) x3 x4 x5 x6 = V at hI hH hT ⊢
  exact values_eq _ V T I hH hT hI i j
end Results

/-- Kernel and reference compute the same functions over the extended reals. -/
theorem algebraic : Cert.algebraic_GateUpIdeal_GateUpReferenceIdeal := fun m ρ m' ρ' _ he =>
  ⟨fun c => rAc (F := Ideal) m c, fun c => rAs (F := Ideal) m c, fun c => rHc (F := Ideal) m c, fun c => rHs (F := Ideal) m c, fun c => rHd (F := Ideal) m c,
    (θ_run Cert.GateUpIdeal.defs _ _).mono (fun _ hh c => by
      obtain ⟨⟨r0, r1, r2, r3, r4⟩, ha⟩ := hh.1 c
      exact ⟨r0, r1, r2, r3, r4, ha⟩) (run_ideal (F := Ideal) m ρ),
    (θ_run Cert.GateUpReferenceIdeal.defs _ _).mono (fun _ hh c => by
      obtain ⟨r0, r1, r2, r3, r4, ha⟩ := hh c
      obtain ⟨e0, e1, e2, e3, e4, e5, e6⟩ := he c
      exact ⟨r0.trans (res0 m c _ _ _ e0 e1 e2), r1.trans (res1 m c _ _ _ e0 e1 e2),
        r2.trans (res2 m c _ _ _ _ _ _ _ e0 e1 e2 e3 e4 e5 e6), r3.trans (res3 m c _ _ _ _ _ _ _ e0 e1 e2 e3 e4 e5 e6),
        r4.trans (res4 m c _ _ _ _ _ _ _ e0 e1 e2 e3 e4 e5 e6), ha⟩) (Ref.run (F := Ideal) m' ρ')⟩

end Cert.Proof.GateUp

end
-- ==== Proof.lean ====
/-
  The certificate of the down projection and of the quantised gate and up projections: for each, the frames of the three
  programs, the idealization, the value.
-/
module

public import proofs.«01_k».proof.Defs
public import proofs.«01_k».proof.Proof.Frames
public import proofs.«01_k».proof.Proof.Gen.ReferenceIdeal.Frame
public import proofs.«01_k».proof.Proof.Value
public import proofs.«01_k».proof.Proof.GuFrames
public import proofs.«01_k».proof.Proof.Gen.GateUpReferenceIdeal.Frame
public import proofs.«01_k».proof.Proof.GuValue

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  Down.frame_kernel, Down.frame_ideal, fun m ρ _ => Cert.ReferenceIdeal.Gen.frame m ρ,
  GateUp.frame_kernel, GateUp.frame_ideal, fun m ρ _ => Cert.GateUpReferenceIdeal.Gen.frame m ρ,
  trivial, Down.algebraic, trivial, GateUp.algebraic⟩

end Cert.Proof

end
